-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S10000x128 : Shape := ⟨2, ![10000, 128]⟩
abbrev S10000x3 : Shape := ⟨2, ![10000, 3]⟩
abbrev S10000 : Shape := ⟨1, ![10000]⟩
abbrev S2500 : Shape := ⟨1, ![2500]⟩
abbrev S2500x3 : Shape := ⟨2, ![2500, 3]⟩
abbrev S625 : Shape := ⟨1, ![625]⟩
abbrev S625x3 : Shape := ⟨2, ![625, 3]⟩
abbrev S131x128 : Shape := ⟨2, ![131, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S10000x3 : S_.BroadcastsInDim S10000x3 (![] : Fin 0 → Fin S10000x3.rank)
  bcast_S_S2500x3 : S_.BroadcastsInDim S2500x3 (![] : Fin 0 → Fin S2500x3.rank)
  bcast_S_S625x3 : S_.BroadcastsInDim S625x3 (![] : Fin 0 → Fin S625x3.rank)
  bcast_S_S131x128 : S_.BroadcastsInDim S131x128 (![] : Fin 0 → Fin S131x128.rank)
  bcast_S_S128 : S_.BroadcastsInDim S128 (![] : Fin 0 → Fin S128.rank)
  bcast_S_S10000 : S_.BroadcastsInDim S10000 (![] : Fin 0 → Fin S10000.rank)
  bcast_S_S2500 : S_.BroadcastsInDim S2500 (![] : Fin 0 → Fin S2500.rank)
  bcast_S_S625 : S_.BroadcastsInDim S625 (![] : Fin 0 → Fin S625.rank)

variable [Facts]

def fn_part4 {F : FTy → Type} [FloatOps F] (main_arg3 : IVec S2500 32) (main_arg5 : IVec S625 32) (main_v2 : IVec S10000x128 1) (main_v15 : IVec S10000x3 1) (main_v28 : IVec S2500x3 1) (main_v31 : IVec S625x3 1) (main_v50 : IVec S131x128 1) (main_v69 : IVec S128 1) (main_v71 : IVec S10000 1) (main_v73 : IVec S2500 1) : IVec S10000x128 1 × IVec S10000x3 1 × IVec S2500x3 1 × IVec S625x3 1 × IVec S131x128 1 × IVec S128 1 × IVec S10000 1 × IVec S2500 1 × IVec S625 1 :=
  let main_c_20 : IVec S_ 32 := constantI S_ 32 10000#32
  let main_v74 : IVec S2500 32 := broadcastInDim S2500 ![] bcast_S_S2500 main_c_20
  let main_v75 : IVec S2500 1 := cmpi .slt main_arg3 main_v74
  let main_v76 : IVec S2500 1 := andi main_v73 main_v75
  let main_c_21 : IVec S_ 32 := constantI S_ 32 0#32
  let main_v77 : IVec S625 32 := broadcastInDim S625 ![] bcast_S_S625 main_c_21
  let main_v78 : IVec S625 1 := cmpi .sge main_arg5 main_v77
  let main_c_22 : IVec S_ 32 := constantI S_ 32 2500#32
  let main_v79 : IVec S625 32 := broadcastInDim S625 ![] bcast_S_S625 main_c_22
  let main_v80 : IVec S625 1 := cmpi .slt main_arg5 main_v79
  let main_v81 : IVec S625 1 := andi main_v78 main_v80
  (main_v2, main_v15, main_v28, main_v31, main_v50, main_v69, main_v71, main_v76, main_v81)

def fn_part3 {F : FTy → Type} [FloatOps F] (main_arg2 : IVec S10000 32) (main_arg3 : IVec S2500 32) (main_arg5 : IVec S625 32) (main_arg16 : FVec F S128 .f32) (main_arg18 : FVec F S128 .f32) (main_arg20 : FVec F S128 .f32) (main_v2 : IVec S10000x128 1) (main_v15 : IVec S10000x3 1) (main_v28 : IVec S2500x3 1) (main_v31 : IVec S625x3 1) (main_v50 : IVec S131x128 1) (main_v53 : IVec S128 1) (main_v54 : FVec F S128 .f32) (main_cst_14 : FVec F S_ .f32) : IVec S10000x128 1 × IVec S10000x3 1 × IVec S2500x3 1 × IVec S625x3 1 × IVec S131x128 1 × IVec S128 1 × IVec S10000 1 × IVec S2500 1 × IVec S625 1 :=
  let main_v55 : FVec F S128 .f32 := broadcastInDim S128 ![] bcast_S_S128 main_cst_14
  let main_v56 : IVec S128 1 := cmpf .olt main_v54 main_v55
  let main_v57 : FVec F S128 .f32 := Host.absf main_arg16
  let main_cst_15 : FVec F S_ .f32 := constant S_ .f32 0x7F800000#32
  let main_v58 : FVec F S128 .f32 := broadcastInDim S128 ![] bcast_S_S128 main_cst_15
  let main_v59 : IVec S128 1 := cmpf .olt main_v57 main_v58
  let main_v60 : FVec F S128 .f32 := Host.absf main_arg18
  let main_cst_16 : FVec F S_ .f32 := constant S_ .f32 0x7F800000#32
  let main_v61 : FVec F S128 .f32 := broadcastInDim S128 ![] bcast_S_S128 main_cst_16
  let main_v62 : IVec S128 1 := cmpf .olt main_v60 main_v61
  let main_v63 : FVec F S128 .f32 := Host.absf main_arg20
  let main_cst_17 : FVec F S_ .f32 := constant S_ .f32 0x7F800000#32
  let main_v64 : FVec F S128 .f32 := broadcastInDim S128 ![] bcast_S_S128 main_cst_17
  let main_v65 : IVec S128 1 := cmpf .olt main_v63 main_v64
  let main_v66 : IVec S128 1 := andi main_v53 main_v56
  let main_v67 : IVec S128 1 := andi main_v66 main_v59
  let main_v68 : IVec S128 1 := andi main_v67 main_v62
  let main_v69 : IVec S128 1 := andi main_v68 main_v65
  let main_c_18 : IVec S_ 32 := constantI S_ 32 0#32
  let main_v70 : IVec S10000 32 := broadcastInDim S10000 ![] bcast_S_S10000 main_c_18
  let main_v71 : IVec S10000 1 := cmpi .eq main_arg2 main_v70
  let main_c_19 : IVec S_ 32 := constantI S_ 32 0#32
  let main_v72 : IVec S2500 32 := broadcastInDim S2500 ![] bcast_S_S2500 main_c_19
  let main_v73 : IVec S2500 1 := cmpi .sge main_arg3 main_v72
  fn_part4 (F := F) main_arg3 main_arg5 main_v2 main_v15 main_v28 main_v31 main_v50 main_v69 main_v71 main_v73

def fn_part2 {F : FTy → Type} [FloatOps F] (main_arg2 : IVec S10000 32) (main_arg3 : IVec S2500 32) (main_arg5 : IVec S625 32) (main_arg12 : FVec F S128 .f32) (main_arg14 : FVec F S128 .f32) (main_arg15 : FVec F S131x128 .f32) (main_arg16 : FVec F S128 .f32) (main_arg17 : FVec F S131x128 .f32) (main_arg18 : FVec F S128 .f32) (main_arg19 : FVec F S131x128 .f32) (main_arg20 : FVec F S128 .f32) (main_v2 : IVec S10000x128 1) (main_v15 : IVec S10000x3 1) (main_v28 : IVec S2500x3 1) (main_v31 : IVec S625x3 1) (main_v34 : IVec S131x128 1) (main_v35 : FVec F S131x128 .f32) (main_cst_9 : FVec F S_ .f32) : IVec S10000x128 1 × IVec S10000x3 1 × IVec S2500x3 1 × IVec S625x3 1 × IVec S131x128 1 × IVec S128 1 × IVec S10000 1 × IVec S2500 1 × IVec S625 1 :=
  let main_v36 : FVec F S131x128 .f32 := broadcastInDim S131x128 ![] bcast_S_S131x128 main_cst_9
  let main_v37 : IVec S131x128 1 := cmpf .olt main_v35 main_v36
  let main_v38 : FVec F S131x128 .f32 := Host.absf main_arg15
  let main_cst_10 : FVec F S_ .f32 := constant S_ .f32 0x7F800000#32
  let main_v39 : FVec F S131x128 .f32 := broadcastInDim S131x128 ![] bcast_S_S131x128 main_cst_10
  let main_v40 : IVec S131x128 1 := cmpf .olt main_v38 main_v39
  let main_v41 : FVec F S131x128 .f32 := Host.absf main_arg17
  let main_cst_11 : FVec F S_ .f32 := constant S_ .f32 0x7F800000#32
  let main_v42 : FVec F S131x128 .f32 := broadcastInDim S131x128 ![] bcast_S_S131x128 main_cst_11
  let main_v43 : IVec S131x128 1 := cmpf .olt main_v41 main_v42
  let main_v44 : FVec F S131x128 .f32 := Host.absf main_arg19
  let main_cst_12 : FVec F S_ .f32 := constant S_ .f32 0x7F800000#32
  let main_v45 : FVec F S131x128 .f32 := broadcastInDim S131x128 ![] bcast_S_S131x128 main_cst_12
  let main_v46 : IVec S131x128 1 := cmpf .olt main_v44 main_v45
  let main_v47 : IVec S131x128 1 := andi main_v34 main_v37
  let main_v48 : IVec S131x128 1 := andi main_v47 main_v40
  let main_v49 : IVec S131x128 1 := andi main_v48 main_v43
  let main_v50 : IVec S131x128 1 := andi main_v49 main_v46
  let main_v51 : FVec F S128 .f32 := Host.absf main_arg12
  let main_cst_13 : FVec F S_ .f32 := constant S_ .f32 0x7F800000#32
  let main_v52 : FVec F S128 .f32 := broadcastInDim S128 ![] bcast_S_S128 main_cst_13
  let main_v53 : IVec S128 1 := cmpf .olt main_v51 main_v52
  let main_v54 : FVec F S128 .f32 := Host.absf main_arg14
  let main_cst_14 : FVec F S_ .f32 := constant S_ .f32 0x7F800000#32
  fn_part3 (F := F) main_arg2 main_arg3 main_arg5 main_arg16 main_arg18 main_arg20 main_v2 main_v15 main_v28 main_v31 main_v50 main_v53 main_v54 main_cst_14

def fn_part1 {F : FTy → Type} [FloatOps F] (main_arg2 : IVec S10000 32) (main_arg3 : IVec S2500 32) (main_arg5 : IVec S625 32) (main_arg6 : FVec F S625x3 .f32) (main_arg7 : IVec S2500x3 32) (main_arg8 : FVec F S2500x3 .f32) (main_arg11 : FVec F S131x128 .f32) (main_arg12 : FVec F S128 .f32) (main_arg13 : FVec F S131x128 .f32) (main_arg14 : FVec F S128 .f32) (main_arg15 : FVec F S131x128 .f32) (main_arg16 : FVec F S128 .f32) (main_arg17 : FVec F S131x128 .f32) (main_arg18 : FVec F S128 .f32) (main_arg19 : FVec F S131x128 .f32) (main_arg20 : FVec F S128 .f32) (main_v2 : IVec S10000x128 1) (main_v15 : IVec S10000x3 1) (main_v16 : FVec F S2500x3 .f32) (main_v17 : FVec F S2500x3 .f32) : IVec S10000x128 1 × IVec S10000x3 1 × IVec S2500x3 1 × IVec S625x3 1 × IVec S131x128 1 × IVec S128 1 × IVec S10000 1 × IVec S2500 1 × IVec S625 1 :=
  let main_v18 : IVec S2500x3 1 := cmpf .olt main_v16 main_v17
  let main_v19 : FVec F S2500x3 .f32 := Host.absf main_arg8
  let main_cst_4 : FVec F S_ .f32 := constant S_ .f32 0x7F800000#32
  let main_v20 : FVec F S2500x3 .f32 := broadcastInDim S2500x3 ![] bcast_S_S2500x3 main_cst_4
  let main_v21 : IVec S2500x3 1 := cmpf .olt main_v19 main_v20
  let main_v22 : IVec S2500x3 1 := andi main_v18 main_v21
  let main_c_5 : IVec S_ 32 := constantI S_ 32 0#32
  let main_v23 : IVec S2500x3 32 := broadcastInDim S2500x3 ![] bcast_S_S2500x3 main_c_5
  let main_v24 : IVec S2500x3 1 := cmpi .sge main_arg7 main_v23
  let main_v25 : IVec S2500x3 1 := andi main_v22 main_v24
  let main_c_6 : IVec S_ 32 := constantI S_ 32 625#32
  let main_v26 : IVec S2500x3 32 := broadcastInDim S2500x3 ![] bcast_S_S2500x3 main_c_6
  let main_v27 : IVec S2500x3 1 := cmpi .slt main_arg7 main_v26
  let main_v28 : IVec S2500x3 1 := andi main_v25 main_v27
  let main_v29 : FVec F S625x3 .f32 := Host.absf main_arg6
  let main_cst_7 : FVec F S_ .f32 := constant S_ .f32 0x7F800000#32
  let main_v30 : FVec F S625x3 .f32 := broadcastInDim S625x3 ![] bcast_S_S625x3 main_cst_7
  let main_v31 : IVec S625x3 1 := cmpf .olt main_v29 main_v30
  let main_v32 : FVec F S131x128 .f32 := Host.absf main_arg11
  let main_cst_8 : FVec F S_ .f32 := constant S_ .f32 0x7F800000#32
  let main_v33 : FVec F S131x128 .f32 := broadcastInDim S131x128 ![] bcast_S_S131x128 main_cst_8
  let main_v34 : IVec S131x128 1 := cmpf .olt main_v32 main_v33
  let main_v35 : FVec F S131x128 .f32 := Host.absf main_arg13
  let main_cst_9 : FVec F S_ .f32 := constant S_ .f32 0x7F800000#32
  fn_part2 (F := F) main_arg2 main_arg3 main_arg5 main_arg12 main_arg14 main_arg15 main_arg16 main_arg17 main_arg18 main_arg19 main_arg20 main_v2 main_v15 main_v28 main_v31 main_v34 main_v35 main_cst_9

def fn {F : FTy → Type} [FloatOps F] (main_arg0 : FVec F S10000x128 .f32) (main_arg1 : FVec F S10000x3 .f32) (main_arg2 : IVec S10000 32) (main_arg3 : IVec S2500 32) (main_arg4 : FVec F S2500x3 .f32) (main_arg5 : IVec S625 32) (main_arg6 : FVec F S625x3 .f32) (main_arg7 : IVec S2500x3 32) (main_arg8 : FVec F S2500x3 .f32) (main_arg9 : IVec S10000x3 32) (main_arg10 : FVec F S10000x3 .f32) (main_arg11 : FVec F S131x128 .f32) (main_arg12 : FVec F S128 .f32) (main_arg13 : FVec F S131x128 .f32) (main_arg14 : FVec F S128 .f32) (main_arg15 : FVec F S131x128 .f32) (main_arg16 : FVec F S128 .f32) (main_arg17 : FVec F S131x128 .f32) (main_arg18 : FVec F S128 .f32) (main_arg19 : FVec F S131x128 .f32) (main_arg20 : FVec F S128 .f32) : IVec S10000x128 1 × IVec S10000x3 1 × IVec S2500x3 1 × IVec S625x3 1 × IVec S131x128 1 × IVec S128 1 × IVec S10000 1 × IVec S2500 1 × IVec S625 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x3 .f32 := Host.absf main_arg1
  let main_cst_0 : FVec F S_ .f32 := constant S_ .f32 0x7F800000#32
  let main_v4 : FVec F S10000x3 .f32 := broadcastInDim S10000x3 ![] bcast_S_S10000x3 main_cst_0
  let main_v5 : IVec S10000x3 1 := cmpf .olt main_v3 main_v4
  let main_v6 : FVec F S10000x3 .f32 := Host.absf main_arg10
  let main_cst_1 : FVec F S_ .f32 := constant S_ .f32 0x7F800000#32
  let main_v7 : FVec F S10000x3 .f32 := broadcastInDim S10000x3 ![] bcast_S_S10000x3 main_cst_1
  let main_v8 : IVec S10000x3 1 := cmpf .olt main_v6 main_v7
  let main_v9 : IVec S10000x3 1 := andi main_v5 main_v8
  let main_c : IVec S_ 32 := constantI S_ 32 0#32
  let main_v10 : IVec S10000x3 32 := broadcastInDim S10000x3 ![] bcast_S_S10000x3 main_c
  let main_v11 : IVec S10000x3 1 := cmpi .sge main_arg9 main_v10
  let main_v12 : IVec S10000x3 1 := andi main_v9 main_v11
  let main_c_2 : IVec S_ 32 := constantI S_ 32 2500#32
  let main_v13 : IVec S10000x3 32 := broadcastInDim S10000x3 ![] bcast_S_S10000x3 main_c_2
  let main_v14 : IVec S10000x3 1 := cmpi .slt main_arg9 main_v13
  let main_v15 : IVec S10000x3 1 := andi main_v12 main_v14
  let main_v16 : FVec F S2500x3 .f32 := Host.absf main_arg4
  let main_cst_3 : FVec F S_ .f32 := constant S_ .f32 0x7F800000#32
  let main_v17 : FVec F S2500x3 .f32 := broadcastInDim S2500x3 ![] bcast_S_S2500x3 main_cst_3
  fn_part1 (F := F) main_arg2 main_arg3 main_arg5 main_arg6 main_arg7 main_arg8 main_arg11 main_arg12 main_arg13 main_arg14 main_arg15 main_arg16 main_arg17 main_arg18 main_arg19 main_arg20 main_v2 main_v15 main_v16 main_v17
-- ==== Kernel.lean ====
abbrev S10000x128 : Shape := ⟨2, ![10000, 128]⟩
abbrev S10000x3 : Shape := ⟨2, ![10000, 3]⟩
abbrev S10000 : Shape := ⟨1, ![10000]⟩
abbrev S2500 : Shape := ⟨1, ![2500]⟩
abbrev S2500x3 : Shape := ⟨2, ![2500, 3]⟩
abbrev S625 : Shape := ⟨1, ![625]⟩
abbrev S625x3 : Shape := ⟨2, ![625, 3]⟩
abbrev S131x128 : Shape := ⟨2, ![131, 128]⟩
abbrev S128 : Shape := ⟨1, ![128]⟩
abbrev S_ : Shape := ⟨0, ![]⟩
abbrev S10000x8 : Shape := ⟨2, ![10000, 8]⟩
abbrev S10240x8 : Shape := ⟨2, ![10240, 8]⟩
abbrev S8x10240 : Shape := ⟨2, ![8, 10240]⟩
abbrev S10240x16 : Shape := ⟨2, ![10240, 16]⟩
abbrev S256x8 : Shape := ⟨2, ![256, 8]⟩
abbrev S256x16 : Shape := ⟨2, ![256, 16]⟩
abbrev S256 : Shape := ⟨1, ![256]⟩
abbrev S10240 : Shape := ⟨1, ![10240]⟩
abbrev S256x1 : Shape := ⟨2, ![256, 1]⟩
abbrev S1x10240 : Shape := ⟨2, ![1, 10240]⟩
abbrev S256x10240 : Shape := ⟨2, ![256, 10240]⟩
abbrev S10000x16 : Shape := ⟨2, ![10000, 16]⟩
abbrev S128x128 : Shape := ⟨2, ![128, 128]⟩
abbrev S3x128 : Shape := ⟨2, ![3, 128]⟩
abbrev S8x128 : Shape := ⟨2, ![8, 128]⟩
abbrev S10240x128 : Shape := ⟨2, ![10240, 128]⟩
abbrev S256x128 : Shape := ⟨2, ![256, 128]⟩
abbrev S160000 : Shape := ⟨1, ![160000]⟩
abbrev S160000x1 : Shape := ⟨2, ![160000, 1]⟩
abbrev S1 : Shape := ⟨1, ![1]⟩
abbrev S1x1 : Shape := ⟨2, ![1, 1]⟩
abbrev S160000x128 : Shape := ⟨2, ![160000, 128]⟩
abbrev S10000x16x128 : Shape := ⟨3, ![10000, 16, 128]⟩
abbrev S10112x16x128 : Shape := ⟨3, ![10112, 16, 128]⟩
abbrev S10112x128 : Shape := ⟨2, ![10112, 128]⟩
abbrev S1x128 : Shape := ⟨2, ![1, 128]⟩
abbrev S128x16x128 : Shape := ⟨3, ![128, 16, 128]⟩
abbrev S128x1x128 : Shape := ⟨3, ![128, 1, 128]⟩
abbrev S2500x1 : Shape := ⟨2, ![2500, 1]⟩
abbrev S2500x128 : Shape := ⟨2, ![2500, 128]⟩
abbrev S2500x8 : Shape := ⟨2, ![2500, 8]⟩
abbrev S2560x8 : Shape := ⟨2, ![2560, 8]⟩
abbrev S8x2560 : Shape := ⟨2, ![8, 2560]⟩
abbrev S2560x16 : Shape := ⟨2, ![2560, 16]⟩
abbrev S2560 : Shape := ⟨1, ![2560]⟩
abbrev S1x2560 : Shape := ⟨2, ![1, 2560]⟩
abbrev S256x2560 : Shape := ⟨2, ![256, 2560]⟩
abbrev S2500x16 : Shape := ⟨2, ![2500, 16]⟩
abbrev S2560x128 : Shape := ⟨2, ![2560, 128]⟩
abbrev S40000 : Shape := ⟨1, ![40000]⟩
abbrev S40000x1 : Shape := ⟨2, ![40000, 1]⟩
abbrev S40000x128 : Shape := ⟨2, ![40000, 128]⟩
abbrev S2500x16x128 : Shape := ⟨3, ![2500, 16, 128]⟩
abbrev S2560x16x128 : Shape := ⟨3, ![2560, 16, 128]⟩
abbrev S625x1 : Shape := ⟨2, ![625, 1]⟩
abbrev S625x128 : Shape := ⟨2, ![625, 128]⟩
abbrev S625x8 : Shape := ⟨2, ![625, 8]⟩
abbrev S768x8 : Shape := ⟨2, ![768, 8]⟩
abbrev S8x768 : Shape := ⟨2, ![8, 768]⟩
abbrev S768x16 : Shape := ⟨2, ![768, 16]⟩
abbrev S768 : Shape := ⟨1, ![768]⟩
abbrev S1x768 : Shape := ⟨2, ![1, 768]⟩
abbrev S256x768 : Shape := ⟨2, ![256, 768]⟩
abbrev S625x16 : Shape := ⟨2, ![625, 16]⟩
abbrev S768x128 : Shape := ⟨2, ![768, 128]⟩
abbrev S10000x1 : Shape := ⟨2, ![10000, 1]⟩
abbrev S625x16x128 : Shape := ⟨3, ![625, 16, 128]⟩
abbrev S640x16x128 : Shape := ⟨3, ![640, 16, 128]⟩
abbrev S640x128 : Shape := ⟨2, ![640, 128]⟩

abbrev nBuf : Space → Nat
  | .hbm => 514
  | .vmem => 120
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S2500, .i32⟩
  | 4 => ⟨S2500x3, .f32⟩
  | 5 => ⟨S625, .i32⟩
  | 6 => ⟨S625x3, .f32⟩
  | 7 => ⟨S2500x3, .i32⟩
  | 8 => ⟨S2500x3, .f32⟩
  | 9 => ⟨S10000x3, .i32⟩
  | 10 => ⟨S10000x3, .f32⟩
  | 11 => ⟨S131x128, .f32⟩
  | 12 => ⟨S128, .f32⟩
  | 13 => ⟨S131x128, .f32⟩
  | 14 => ⟨S128, .f32⟩
  | 15 => ⟨S131x128, .f32⟩
  | 16 => ⟨S128, .f32⟩
  | 17 => ⟨S131x128, .f32⟩
  | 18 => ⟨S128, .f32⟩
  | 19 => ⟨S131x128, .f32⟩
  | 20 => ⟨S128, .f32⟩
  | 21 => ⟨S_, .i32⟩
  | 22 => ⟨S_, .f32⟩
  | 23 => ⟨S10000x8, .f32⟩
  | 24 => ⟨S_, .f32⟩
  | 25 => ⟨S_, .f32⟩
  | 26 => ⟨S10240x8, .f32⟩
  | 27 => ⟨S8x10240, .f32⟩
  | 28 => ⟨S10240x16, .i32⟩
  | 29 => ⟨S10000x16, .i32⟩
  | 30 => ⟨S128x128, .f32⟩
  | 31 => ⟨S3x128, .f32⟩
  | 32 => ⟨S_, .i32⟩
  | 33 => ⟨S_, .f32⟩
  | 34 => ⟨S8x128, .f32⟩
  | 35 => ⟨S_, .f32⟩
  | 36 => ⟨S_, .f32⟩
  | 37 => ⟨S10240x128, .f32⟩
  | 38 => ⟨S_, .i32⟩
  | 39 => ⟨S_, .f32⟩
  | 40 => ⟨S10000x8, .f32⟩
  | 41 => ⟨S_, .f32⟩
  | 42 => ⟨S_, .f32⟩
  | 43 => ⟨S10240x8, .f32⟩
  | 44 => ⟨S10240x128, .f32⟩
  | 45 => ⟨S10240x128, .f32⟩
  | 46 => ⟨S160000, .i32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S1, .i32⟩
  | 56 => ⟨S_, .i32⟩
  | 57 => ⟨S160000x1, .i32⟩
  | 58 => ⟨S160000x1, .i1⟩
  | 59 => ⟨S1x1, .i32⟩
  | 60 => ⟨S160000x1, .i32⟩
  | 61 => ⟨S160000x1, .i1⟩
  | 62 => ⟨S160000x1, .i1⟩
  | 63 => ⟨S_, .i1⟩
  | 64 => ⟨S160000, .i1⟩
  | 65 => ⟨S160000x128, .f32⟩
  | 66 => ⟨S160000x128, .i1⟩
  | 67 => ⟨S_, .f32⟩
  | 68 => ⟨S160000x128, .f32⟩
  | 69 => ⟨S160000x128, .f32⟩
  | 70 => ⟨S10000x16x128, .f32⟩
  | 71 => ⟨S_, .f32⟩
  | 72 => ⟨S_, .f32⟩
  | 73 => ⟨S10112x16x128, .f32⟩
  | 74 => ⟨S10112x128, .f32⟩
  | 75 => ⟨S1x128, .f32⟩
  | 76 => ⟨S10112x128, .f32⟩
  | 77 => ⟨S10000x128, .f32⟩
  | 78 => ⟨S_, .i32⟩
  | 79 => ⟨S2500, .i32⟩
  | 80 => ⟨S2500, .i1⟩
  | 81 => ⟨S_, .i32⟩
  | 82 => ⟨S2500, .i32⟩
  | 83 => ⟨S2500, .i32⟩
  | 84 => ⟨S2500, .i32⟩
  | 85 => ⟨S2500x1, .i32⟩
  | 86 => ⟨S1, .i32⟩
  | 87 => ⟨S_, .i32⟩
  | 88 => ⟨S2500x1, .i32⟩
  | 89 => ⟨S2500x1, .i1⟩
  | 90 => ⟨S1x1, .i32⟩
  | 91 => ⟨S2500x1, .i32⟩
  | 92 => ⟨S2500x1, .i1⟩
  | 93 => ⟨S2500x1, .i1⟩
  | 94 => ⟨S_, .i1⟩
  | 95 => ⟨S2500, .i1⟩
  | 96 => ⟨S2500x128, .f32⟩
  | 97 => ⟨S2500x128, .i1⟩
  | 98 => ⟨S_, .f32⟩
  | 99 => ⟨S2500x128, .f32⟩
  | 100 => ⟨S2500x128, .f32⟩
  | 101 => ⟨S_, .i32⟩
  | 102 => ⟨S_, .f32⟩
  | 103 => ⟨S2500x8, .f32⟩
  | 104 => ⟨S_, .f32⟩
  | 105 => ⟨S_, .f32⟩
  | 106 => ⟨S2560x8, .f32⟩
  | 107 => ⟨S8x2560, .f32⟩
  | 108 => ⟨S2560x16, .i32⟩
  | 109 => ⟨S2500x16, .i32⟩
  | 110 => ⟨S128x128, .f32⟩
  | 111 => ⟨S3x128, .f32⟩
  | 112 => ⟨S_, .i32⟩
  | 113 => ⟨S_, .f32⟩
  | 114 => ⟨S8x128, .f32⟩
  | 115 => ⟨S_, .f32⟩
  | 116 => ⟨S_, .f32⟩
  | 117 => ⟨S2560x128, .f32⟩
  | 118 => ⟨S_, .i32⟩
  | 119 => ⟨S_, .f32⟩
  | 120 => ⟨S2500x8, .f32⟩
  | 121 => ⟨S_, .f32⟩
  | 122 => ⟨S_, .f32⟩
  | 123 => ⟨S2560x8, .f32⟩
  | 124 => ⟨S2560x128, .f32⟩
  | 125 => ⟨S2560x128, .f32⟩
  | 126 => ⟨S40000, .i32⟩
  | 127 => ⟨S_, .i32⟩
  | _ => ⟨S10000x128, .f32⟩

abbrev hbmTy0_1 (i : Nat) : BufTy := match i % 128 with
  | 0 => ⟨S40000, .i32⟩
  | 1 => ⟨S40000, .i1⟩
  | 2 => ⟨S_, .i32⟩
  | 3 => ⟨S40000, .i32⟩
  | 4 => ⟨S40000, .i32⟩
  | 5 => ⟨S40000, .i32⟩
  | 6 => ⟨S40000x1, .i32⟩
  | 7 => ⟨S1, .i32⟩
  | 8 => ⟨S_, .i32⟩
  | 9 => ⟨S40000x1, .i32⟩
  | 10 => ⟨S40000x1, .i1⟩
  | 11 => ⟨S1x1, .i32⟩
  | 12 => ⟨S40000x1, .i32⟩
  | 13 => ⟨S40000x1, .i1⟩
  | 14 => ⟨S40000x1, .i1⟩
  | 15 => ⟨S_, .i1⟩
  | 16 => ⟨S40000, .i1⟩
  | 17 => ⟨S40000x128, .f32⟩
  | 18 => ⟨S40000x128, .i1⟩
  | 19 => ⟨S_, .f32⟩
  | 20 => ⟨S40000x128, .f32⟩
  | 21 => ⟨S40000x128, .f32⟩
  | 22 => ⟨S2500x16x128, .f32⟩
  | 23 => ⟨S_, .f32⟩
  | 24 => ⟨S_, .f32⟩
  | 25 => ⟨S2560x16x128, .f32⟩
  | 26 => ⟨S1x128, .f32⟩
  | 27 => ⟨S2560x128, .f32⟩
  | 28 => ⟨S2500x128, .f32⟩
  | 29 => ⟨S_, .i32⟩
  | 30 => ⟨S625, .i32⟩
  | 31 => ⟨S625, .i1⟩
  | 32 => ⟨S_, .i32⟩
  | 33 => ⟨S625, .i32⟩
  | 34 => ⟨S625, .i32⟩
  | 35 => ⟨S625, .i32⟩
  | 36 => ⟨S625x1, .i32⟩
  | 37 => ⟨S1, .i32⟩
  | 38 => ⟨S_, .i32⟩
  | 39 => ⟨S625x1, .i32⟩
  | 40 => ⟨S625x1, .i1⟩
  | 41 => ⟨S1x1, .i32⟩
  | 42 => ⟨S625x1, .i32⟩
  | 43 => ⟨S625x1, .i1⟩
  | 44 => ⟨S625x1, .i1⟩
  | 45 => ⟨S_, .i1⟩
  | 46 => ⟨S625, .i1⟩
  | 47 => ⟨S625x128, .f32⟩
  | 48 => ⟨S625x128, .i1⟩
  | 49 => ⟨S_, .f32⟩
  | 50 => ⟨S625x128, .f32⟩
  | 51 => ⟨S625x128, .f32⟩
  | 52 => ⟨S_, .i32⟩
  | 53 => ⟨S_, .f32⟩
  | 54 => ⟨S625x8, .f32⟩
  | 55 => ⟨S_, .f32⟩
  | 56 => ⟨S_, .f32⟩
  | 57 => ⟨S768x8, .f32⟩
  | 58 => ⟨S8x768, .f32⟩
  | 59 => ⟨S768x16, .i32⟩
  | 60 => ⟨S625x16, .i32⟩
  | 61 => ⟨S128x128, .f32⟩
  | 62 => ⟨S3x128, .f32⟩
  | 63 => ⟨S_, .i32⟩
  | 64 => ⟨S_, .f32⟩
  | 65 => ⟨S8x128, .f32⟩
  | 66 => ⟨S_, .f32⟩
  | 67 => ⟨S_, .f32⟩
  | 68 => ⟨S768x128, .f32⟩
  | 69 => ⟨S_, .i32⟩
  | 70 => ⟨S_, .f32⟩
  | 71 => ⟨S625x8, .f32⟩
  | 72 => ⟨S_, .f32⟩
  | 73 => ⟨S_, .f32⟩
  | 74 => ⟨S768x8, .f32⟩
  | 75 => ⟨S768x128, .f32⟩
  | 76 => ⟨S768x128, .f32⟩
  | 77 => ⟨S10000, .i32⟩
  | 78 => ⟨S_, .i32⟩
  | 79 => ⟨S10000, .i32⟩
  | 80 => ⟨S10000, .i1⟩
  | 81 => ⟨S_, .i32⟩
  | 82 => ⟨S10000, .i32⟩
  | 83 => ⟨S10000, .i32⟩
  | 84 => ⟨S10000, .i32⟩
  | 85 => ⟨S10000x1, .i32⟩
  | 86 => ⟨S1, .i32⟩
  | 87 => ⟨S_, .i32⟩
  | 88 => ⟨S10000x1, .i32⟩
  | 89 => ⟨S10000x1, .i1⟩
  | 90 => ⟨S1x1, .i32⟩
  | 91 => ⟨S10000x1, .i32⟩
  | 92 => ⟨S10000x1, .i1⟩
  | 93 => ⟨S10000x1, .i1⟩
  | 94 => ⟨S_, .i1⟩
  | 95 => ⟨S10000, .i1⟩
  | 96 => ⟨S10000x128, .f32⟩
  | 97 => ⟨S10000x128, .i1⟩
  | 98 => ⟨S_, .f32⟩
  | 99 => ⟨S10000x128, .f32⟩
  | 100 => ⟨S10000x128, .f32⟩
  | 101 => ⟨S625x16x128, .f32⟩
  | 102 => ⟨S_, .f32⟩
  | 103 => ⟨S_, .f32⟩
  | 104 => ⟨S640x16x128, .f32⟩
  | 105 => ⟨S640x128, .f32⟩
  | 106 => ⟨S1x128, .f32⟩
  | 107 => ⟨S640x128, .f32⟩
  | 108 => ⟨S625x128, .f32⟩
  | 109 => ⟨S2500x1, .i32⟩
  | 110 => ⟨S2500, .i32⟩
  | 111 => ⟨S_, .i32⟩
  | 112 => ⟨S2500, .i32⟩
  | 113 => ⟨S2500, .i1⟩
  | 114 => ⟨S_, .i32⟩
  | 115 => ⟨S2500, .i32⟩
  | 116 => ⟨S2500, .i32⟩
  | 117 => ⟨S2500, .i32⟩
  | 118 => ⟨S2500x1, .i32⟩
  | 119 => ⟨S1, .i32⟩
  | 120 => ⟨S_, .i32⟩
  | 121 => ⟨S2500x1, .i32⟩
  | 122 => ⟨S2500x1, .i1⟩
  | 123 => ⟨S1x1, .i32⟩
  | 124 => ⟨S2500x1, .i32⟩
  | 125 => ⟨S2500x1, .i1⟩
  | 126 => ⟨S2500x1, .i1⟩
  | 127 => ⟨S_, .i1⟩
  | _ => ⟨S10000x128, .f32⟩

abbrev hbmTy0_2 (i : Nat) : BufTy := match i % 128 with
  | 0 => ⟨S2500, .i1⟩
  | 1 => ⟨S2500x128, .f32⟩
  | 2 => ⟨S2500x128, .i1⟩
  | 3 => ⟨S_, .f32⟩
  | 4 => ⟨S2500x128, .f32⟩
  | 5 => ⟨S2500x128, .f32⟩
  | 6 => ⟨S2500x1, .i32⟩
  | 7 => ⟨S2500, .i32⟩
  | 8 => ⟨S_, .i32⟩
  | 9 => ⟨S2500, .i32⟩
  | 10 => ⟨S2500, .i1⟩
  | 11 => ⟨S_, .i32⟩
  | 12 => ⟨S2500, .i32⟩
  | 13 => ⟨S2500, .i32⟩
  | 14 => ⟨S2500, .i32⟩
  | 15 => ⟨S2500x1, .i32⟩
  | 16 => ⟨S1, .i32⟩
  | 17 => ⟨S_, .i32⟩
  | 18 => ⟨S2500x1, .i32⟩
  | 19 => ⟨S2500x1, .i1⟩
  | 20 => ⟨S1x1, .i32⟩
  | 21 => ⟨S2500x1, .i32⟩
  | 22 => ⟨S2500x1, .i1⟩
  | 23 => ⟨S2500x1, .i1⟩
  | 24 => ⟨S_, .i1⟩
  | 25 => ⟨S2500, .i1⟩
  | 26 => ⟨S2500x128, .f32⟩
  | 27 => ⟨S2500x128, .i1⟩
  | 28 => ⟨S_, .f32⟩
  | 29 => ⟨S2500x128, .f32⟩
  | 30 => ⟨S2500x128, .f32⟩
  | 31 => ⟨S2500x1, .i32⟩
  | 32 => ⟨S2500, .i32⟩
  | 33 => ⟨S_, .i32⟩
  | 34 => ⟨S2500, .i32⟩
  | 35 => ⟨S2500, .i1⟩
  | 36 => ⟨S_, .i32⟩
  | 37 => ⟨S2500, .i32⟩
  | 38 => ⟨S2500, .i32⟩
  | 39 => ⟨S2500, .i32⟩
  | 40 => ⟨S2500x1, .i32⟩
  | 41 => ⟨S1, .i32⟩
  | 42 => ⟨S_, .i32⟩
  | 43 => ⟨S2500x1, .i32⟩
  | 44 => ⟨S2500x1, .i1⟩
  | 45 => ⟨S1x1, .i32⟩
  | 46 => ⟨S2500x1, .i32⟩
  | 47 => ⟨S2500x1, .i1⟩
  | 48 => ⟨S2500x1, .i1⟩
  | 49 => ⟨S_, .i1⟩
  | 50 => ⟨S2500, .i1⟩
  | 51 => ⟨S2500x128, .f32⟩
  | 52 => ⟨S2500x128, .i1⟩
  | 53 => ⟨S_, .f32⟩
  | 54 => ⟨S2500x128, .f32⟩
  | 55 => ⟨S2500x128, .f32⟩
  | 56 => ⟨S128x128, .f32⟩
  | 57 => ⟨S3x128, .f32⟩
  | 58 => ⟨S_, .i32⟩
  | 59 => ⟨S_, .f32⟩
  | 60 => ⟨S8x128, .f32⟩
  | 61 => ⟨S_, .i32⟩
  | 62 => ⟨S_, .f32⟩
  | 63 => ⟨S2500x16, .f32⟩
  | 64 => ⟨S_, .f32⟩
  | 65 => ⟨S_, .f32⟩
  | 66 => ⟨S2560x16, .f32⟩
  | 67 => ⟨S_, .f32⟩
  | 68 => ⟨S_, .f32⟩
  | 69 => ⟨S2560x128, .f32⟩
  | 70 => ⟨S_, .f32⟩
  | 71 => ⟨S_, .f32⟩
  | 72 => ⟨S2560x128, .f32⟩
  | 73 => ⟨S_, .f32⟩
  | 74 => ⟨S_, .f32⟩
  | 75 => ⟨S2560x128, .f32⟩
  | 76 => ⟨S_, .f32⟩
  | 77 => ⟨S_, .f32⟩
  | 78 => ⟨S2560x128, .f32⟩
  | 79 => ⟨S_, .i32⟩
  | 80 => ⟨S_, .f32⟩
  | 81 => ⟨S2500x8, .f32⟩
  | 82 => ⟨S_, .f32⟩
  | 83 => ⟨S_, .f32⟩
  | 84 => ⟨S2560x8, .f32⟩
  | 85 => ⟨S2560x128, .f32⟩
  | 86 => ⟨S2560x128, .f32⟩
  | 87 => ⟨S2560x128, .f32⟩
  | 88 => ⟨S40000, .i32⟩
  | 89 => ⟨S_, .i32⟩
  | 90 => ⟨S40000, .i32⟩
  | 91 => ⟨S40000, .i1⟩
  | 92 => ⟨S_, .i32⟩
  | 93 => ⟨S40000, .i32⟩
  | 94 => ⟨S40000, .i32⟩
  | 95 => ⟨S40000, .i32⟩
  | 96 => ⟨S40000x1, .i32⟩
  | 97 => ⟨S1, .i32⟩
  | 98 => ⟨S_, .i32⟩
  | 99 => ⟨S40000x1, .i32⟩
  | 100 => ⟨S40000x1, .i1⟩
  | 101 => ⟨S1x1, .i32⟩
  | 102 => ⟨S40000x1, .i32⟩
  | 103 => ⟨S40000x1, .i1⟩
  | 104 => ⟨S40000x1, .i1⟩
  | 105 => ⟨S_, .i1⟩
  | 106 => ⟨S40000, .i1⟩
  | 107 => ⟨S40000x128, .f32⟩
  | 108 => ⟨S40000x128, .i1⟩
  | 109 => ⟨S_, .f32⟩
  | 110 => ⟨S40000x128, .f32⟩
  | 111 => ⟨S40000x128, .f32⟩
  | 112 => ⟨S2500x16x128, .f32⟩
  | 113 => ⟨S_, .f32⟩
  | 114 => ⟨S_, .f32⟩
  | 115 => ⟨S2560x16x128, .f32⟩
  | 116 => ⟨S1x128, .f32⟩
  | 117 => ⟨S2560x128, .f32⟩
  | 118 => ⟨S2500x128, .f32⟩
  | 119 => ⟨S10000x1, .i32⟩
  | 120 => ⟨S10000, .i32⟩
  | 121 => ⟨S_, .i32⟩
  | 122 => ⟨S10000, .i32⟩
  | 123 => ⟨S10000, .i1⟩
  | 124 => ⟨S_, .i32⟩
  | 125 => ⟨S10000, .i32⟩
  | 126 => ⟨S10000, .i32⟩
  | 127 => ⟨S10000, .i32⟩
  | _ => ⟨S10000x128, .f32⟩

abbrev hbmTy0_3 (i : Nat) : BufTy := match i % 128 with
  | 0 => ⟨S10000x1, .i32⟩
  | 1 => ⟨S1, .i32⟩
  | 2 => ⟨S_, .i32⟩
  | 3 => ⟨S10000x1, .i32⟩
  | 4 => ⟨S10000x1, .i1⟩
  | 5 => ⟨S1x1, .i32⟩
  | 6 => ⟨S10000x1, .i32⟩
  | 7 => ⟨S10000x1, .i1⟩
  | 8 => ⟨S10000x1, .i1⟩
  | 9 => ⟨S_, .i1⟩
  | 10 => ⟨S10000, .i1⟩
  | 11 => ⟨S10000x128, .f32⟩
  | 12 => ⟨S10000x128, .i1⟩
  | 13 => ⟨S_, .f32⟩
  | 14 => ⟨S10000x128, .f32⟩
  | 15 => ⟨S10000x128, .f32⟩
  | 16 => ⟨S10000x1, .i32⟩
  | 17 => ⟨S10000, .i32⟩
  | 18 => ⟨S_, .i32⟩
  | 19 => ⟨S10000, .i32⟩
  | 20 => ⟨S10000, .i1⟩
  | 21 => ⟨S_, .i32⟩
  | 22 => ⟨S10000, .i32⟩
  | 23 => ⟨S10000, .i32⟩
  | 24 => ⟨S10000, .i32⟩
  | 25 => ⟨S10000x1, .i32⟩
  | 26 => ⟨S1, .i32⟩
  | 27 => ⟨S_, .i32⟩
  | 28 => ⟨S10000x1, .i32⟩
  | 29 => ⟨S10000x1, .i1⟩
  | 30 => ⟨S1x1, .i32⟩
  | 31 => ⟨S10000x1, .i32⟩
  | 32 => ⟨S10000x1, .i1⟩
  | 33 => ⟨S10000x1, .i1⟩
  | 34 => ⟨S_, .i1⟩
  | 35 => ⟨S10000, .i1⟩
  | 36 => ⟨S10000x128, .f32⟩
  | 37 => ⟨S10000x128, .i1⟩
  | 38 => ⟨S_, .f32⟩
  | 39 => ⟨S10000x128, .f32⟩
  | 40 => ⟨S10000x128, .f32⟩
  | 41 => ⟨S10000x1, .i32⟩
  | 42 => ⟨S10000, .i32⟩
  | 43 => ⟨S_, .i32⟩
  | 44 => ⟨S10000, .i32⟩
  | 45 => ⟨S10000, .i1⟩
  | 46 => ⟨S_, .i32⟩
  | 47 => ⟨S10000, .i32⟩
  | 48 => ⟨S10000, .i32⟩
  | 49 => ⟨S10000, .i32⟩
  | 50 => ⟨S10000x1, .i32⟩
  | 51 => ⟨S1, .i32⟩
  | 52 => ⟨S_, .i32⟩
  | 53 => ⟨S10000x1, .i32⟩
  | 54 => ⟨S10000x1, .i1⟩
  | 55 => ⟨S1x1, .i32⟩
  | 56 => ⟨S10000x1, .i32⟩
  | 57 => ⟨S10000x1, .i1⟩
  | 58 => ⟨S10000x1, .i1⟩
  | 59 => ⟨S_, .i1⟩
  | 60 => ⟨S10000, .i1⟩
  | 61 => ⟨S10000x128, .f32⟩
  | 62 => ⟨S10000x128, .i1⟩
  | 63 => ⟨S_, .f32⟩
  | 64 => ⟨S10000x128, .f32⟩
  | 65 => ⟨S10000x128, .f32⟩
  | 66 => ⟨S128x128, .f32⟩
  | 67 => ⟨S3x128, .f32⟩
  | 68 => ⟨S_, .i32⟩
  | 69 => ⟨S_, .f32⟩
  | 70 => ⟨S8x128, .f32⟩
  | 71 => ⟨S_, .i32⟩
  | 72 => ⟨S_, .f32⟩
  | 73 => ⟨S10000x16, .f32⟩
  | 74 => ⟨S_, .f32⟩
  | 75 => ⟨S_, .f32⟩
  | 76 => ⟨S10240x16, .f32⟩
  | 77 => ⟨S_, .f32⟩
  | 78 => ⟨S_, .f32⟩
  | 79 => ⟨S10240x128, .f32⟩
  | 80 => ⟨S_, .f32⟩
  | 81 => ⟨S_, .f32⟩
  | 82 => ⟨S10240x128, .f32⟩
  | 83 => ⟨S_, .f32⟩
  | 84 => ⟨S_, .f32⟩
  | 85 => ⟨S10240x128, .f32⟩
  | 86 => ⟨S_, .f32⟩
  | 87 => ⟨S_, .f32⟩
  | 88 => ⟨S10240x128, .f32⟩
  | 89 => ⟨S_, .i32⟩
  | 90 => ⟨S_, .f32⟩
  | 91 => ⟨S10000x8, .f32⟩
  | 92 => ⟨S_, .f32⟩
  | 93 => ⟨S_, .f32⟩
  | 94 => ⟨S10240x8, .f32⟩
  | 95 => ⟨S10240x128, .f32⟩
  | 96 => ⟨S10240x128, .f32⟩
  | 97 => ⟨S10240x128, .f32⟩
  | 98 => ⟨S160000, .i32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S1, .i32⟩
  | 108 => ⟨S_, .i32⟩
  | 109 => ⟨S160000x1, .i32⟩
  | 110 => ⟨S160000x1, .i1⟩
  | 111 => ⟨S1x1, .i32⟩
  | 112 => ⟨S160000x1, .i32⟩
  | 113 => ⟨S160000x1, .i1⟩
  | 114 => ⟨S160000x1, .i1⟩
  | 115 => ⟨S_, .i1⟩
  | 116 => ⟨S160000, .i1⟩
  | 117 => ⟨S160000x128, .f32⟩
  | 118 => ⟨S160000x128, .i1⟩
  | 119 => ⟨S_, .f32⟩
  | 120 => ⟨S160000x128, .f32⟩
  | 121 => ⟨S160000x128, .f32⟩
  | 122 => ⟨S10000x16x128, .f32⟩
  | 123 => ⟨S_, .f32⟩
  | 124 => ⟨S_, .f32⟩
  | 125 => ⟨S10112x16x128, .f32⟩
  | 126 => ⟨S10112x128, .f32⟩
  | 127 => ⟨S1x128, .f32⟩
  | _ => ⟨S10000x128, .f32⟩

abbrev hbmTy0_4 (i : Nat) : BufTy := match i % 128 with
  | 0 => ⟨S10112x128, .f32⟩
  | 1 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | .local _ .vmem, ⟨0, _⟩ => ⟨S256x8, .f32⟩
  | .local _ .vmem, ⟨1, _⟩ => ⟨S256x8, .f32⟩
  | .local _ .vmem, ⟨2, _⟩ => ⟨S8x10240, .f32⟩
  | .local _ .vmem, ⟨3, _⟩ => ⟨S256x16, .i32⟩
  | .local _ .vmem, ⟨4, _⟩ => ⟨S256x16, .i32⟩
  | .local _ .vmem, ⟨5, _⟩ => ⟨S256x128, .f32⟩
  | .local _ .vmem, ⟨6, _⟩ => ⟨S256x128, .f32⟩
  | .local _ .vmem, ⟨7, _⟩ => ⟨S256x8, .f32⟩
  | .local _ .vmem, ⟨8, _⟩ => ⟨S256x8, .f32⟩
  | .local _ .vmem, ⟨9, _⟩ => ⟨S128x128, .f32⟩
  | .local _ .vmem, ⟨10, _⟩ => ⟨S8x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S128x16x128, .f32⟩
  | .local _ .vmem, ⟨16, _⟩ => ⟨S128x16x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S256x8, .f32⟩
  | .local _ .vmem, ⟨23, _⟩ => ⟨S256x8, .f32⟩
  | .local _ .vmem, ⟨24, _⟩ => ⟨S8x2560, .f32⟩
  | .local _ .vmem, ⟨25, _⟩ => ⟨S256x16, .i32⟩
  | .local _ .vmem, ⟨26, _⟩ => ⟨S256x16, .i32⟩
  | .local _ .vmem, ⟨27, _⟩ => ⟨S256x128, .f32⟩
  | .local _ .vmem, ⟨28, _⟩ => ⟨S256x128, .f32⟩
  | .local _ .vmem, ⟨29, _⟩ => ⟨S256x8, .f32⟩
  | .local _ .vmem, ⟨30, _⟩ => ⟨S256x8, .f32⟩
  | .local _ .vmem, ⟨31, _⟩ => ⟨S128x128, .f32⟩
  | .local _ .vmem, ⟨32, _⟩ => ⟨S8x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S128x16x128, .f32⟩
  | .local _ .vmem, ⟨38, _⟩ => ⟨S128x16x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S128x128, .f32⟩
  | .local _ .vmem, ⟨44, _⟩ => ⟨S256x8, .f32⟩
  | .local _ .vmem, ⟨45, _⟩ => ⟨S256x8, .f32⟩
  | .local _ .vmem, ⟨46, _⟩ => ⟨S8x768, .f32⟩
  | .local _ .vmem, ⟨47, _⟩ => ⟨S256x16, .i32⟩
  | .local _ .vmem, ⟨48, _⟩ => ⟨S256x16, .i32⟩
  | .local _ .vmem, ⟨49, _⟩ => ⟨S256x128, .f32⟩
  | .local _ .vmem, ⟨50, _⟩ => ⟨S256x128, .f32⟩
  | .local _ .vmem, ⟨51, _⟩ => ⟨S256x8, .f32⟩
  | .local _ .vmem, ⟨52, _⟩ => ⟨S256x8, .f32⟩
  | .local _ .vmem, ⟨53, _⟩ => ⟨S128x128, .f32⟩
  | .local _ .vmem, ⟨54, _⟩ => ⟨S8x128, .f32⟩
  | .local _ .vmem, ⟨55, _⟩ => ⟨S256x128, .f32⟩
  | .local _ .vmem, ⟨56, _⟩ => ⟨S256x128, .f32⟩
  | .local _ .vmem, ⟨57, _⟩ => ⟨S256x128, .f32⟩
  | .local _ .vmem, ⟨58, _⟩ => ⟨S256x128, .f32⟩
  | .local _ .vmem, ⟨59, _⟩ => ⟨S128x16x128, .f32⟩
  | .local _ .vmem, ⟨60, _⟩ => ⟨S128x16x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S128x128, .f32⟩
  | .local _ .vmem, ⟨66, _⟩ => ⟨S256x128, .f32⟩
  | .local _ .vmem, ⟨67, _⟩ => ⟨S256x128, .f32⟩
  | .local _ .vmem, ⟨68, _⟩ => ⟨S256x128, .f32⟩
  | .local _ .vmem, ⟨69, _⟩ => ⟨S256x128, .f32⟩
  | .local _ .vmem, ⟨70, _⟩ => ⟨S256x128, .f32⟩
  | .local _ .vmem, ⟨71, _⟩ => ⟨S256x128, .f32⟩
  | .local _ .vmem, ⟨72, _⟩ => ⟨S256x128, .f32⟩
  | .local _ .vmem, ⟨73, _⟩ => ⟨S256x128, .f32⟩
  | .local _ .vmem, ⟨74, _⟩ => ⟨S256x16, .f32⟩
  | .local _ .vmem, ⟨75, _⟩ => ⟨S256x16, .f32⟩
  | .local _ .vmem, ⟨76, _⟩ => ⟨S256x8, .f32⟩
  | .local _ .vmem, ⟨77, _⟩ => ⟨S256x8, .f32⟩
  | .local _ .vmem, ⟨78, _⟩ => ⟨S128x128, .f32⟩
  | .local _ .vmem, ⟨79, _⟩ => ⟨S8x128, .f32⟩
  | .local _ .vmem, ⟨80, _⟩ => ⟨S256x128, .f32⟩
  | .local _ .vmem, ⟨81, _⟩ => ⟨S256x128, .f32⟩
  | .local _ .vmem, ⟨82, _⟩ => ⟨S256x128, .f32⟩
  | .local _ .vmem, ⟨83, _⟩ => ⟨S256x128, .f32⟩
  | .local _ .vmem, ⟨84, _⟩ => ⟨S256x128, .f32⟩
  | .local _ .vmem, ⟨85, _⟩ => ⟨S256x128, .f32⟩
  | .local _ .vmem, ⟨86, _⟩ => ⟨S128x16x128, .f32⟩
  | .local _ .vmem, ⟨87, _⟩ => ⟨S128x16x128, .f32⟩
  | .local _ .vmem, ⟨88, _⟩ => ⟨S128x128, .f32⟩
  | .local _ .vmem, ⟨89, _⟩ => ⟨S128x128, .f32⟩
  | .local _ .vmem, ⟨90, _⟩ => ⟨S1x128, .f32⟩
  | .local _ .vmem, ⟨91, _⟩ => ⟨S128x128, .f32⟩
  | .local _ .vmem, ⟨92, _⟩ => ⟨S128x128, .f32⟩
  | .local _ .vmem, ⟨93, _⟩ => ⟨S256x128, .f32⟩
  | .local _ .vmem, ⟨94, _⟩ => ⟨S256x128, .f32⟩
  | .local _ .vmem, ⟨95, _⟩ => ⟨S256x128, .f32⟩
  | .local _ .vmem, ⟨96, _⟩ => ⟨S256x128, .f32⟩
  | .local _ .vmem, ⟨97, _⟩ => ⟨S256x128, .f32⟩
  | .local _ .vmem, ⟨98, _⟩ => ⟨S256x128, .f32⟩
  | .local _ .vmem, ⟨99, _⟩ => ⟨S256x128, .f32⟩
  | .local _ .vmem, ⟨100, _⟩ => ⟨S256x128, .f32⟩
  | .local _ .vmem, ⟨101, _⟩ => ⟨S256x16, .f32⟩
  | .local _ .vmem, ⟨102, _⟩ => ⟨S256x16, .f32⟩
  | .local _ .vmem, ⟨103, _⟩ => ⟨S256x8, .f32⟩
  | .local _ .vmem, ⟨104, _⟩ => ⟨S256x8, .f32⟩
  | .local _ .vmem, ⟨105, _⟩ => ⟨S128x128, .f32⟩
  | .local _ .vmem, ⟨106, _⟩ => ⟨S8x128, .f32⟩
  | .local _ .vmem, ⟨107, _⟩ => ⟨S256x128, .f32⟩
  | .local _ .vmem, ⟨108, _⟩ => ⟨S256x128, .f32⟩
  | .local _ .vmem, ⟨109, _⟩ => ⟨S256x128, .f32⟩
  | .local _ .vmem, ⟨110, _⟩ => ⟨S256x128, .f32⟩
  | .local _ .vmem, ⟨111, _⟩ => ⟨S256x128, .f32⟩
  | .local _ .vmem, ⟨112, _⟩ => ⟨S256x128, .f32⟩
  | .local _ .vmem, ⟨113, _⟩ => ⟨S128x16x128, .f32⟩
  | .local _ .vmem, ⟨114, _⟩ => ⟨S128x16x128, .f32⟩
  | .local _ .vmem, ⟨115, _⟩ => ⟨S128x128, .f32⟩
  | .local _ .vmem, ⟨116, _⟩ => ⟨S128x128, .f32⟩
  | .local _ .vmem, ⟨117, _⟩ => ⟨S1x128, .f32⟩
  | .local _ .vmem, ⟨118, _⟩ => ⟨S128x128, .f32⟩
  | .local _ .vmem, ⟨119, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_call0_v0 : Ref sig .tc := ⟨.hbm, 22, rfl⟩
abbrev main_v0 : Ref sig .tc := ⟨.hbm, 23, rfl⟩
abbrev main_cst : Ref sig .tc := ⟨.hbm, 24, rfl⟩
abbrev main_call1_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call2_v0 : Ref sig .tc := ⟨.hbm, 33, rfl⟩
abbrev main_v7 : Ref sig .tc := ⟨.hbm, 34, rfl⟩
abbrev main_cst_1 : Ref sig .tc := ⟨.hbm, 35, rfl⟩
abbrev main_call3_v0 : Ref sig .tc := ⟨.hbm, 36, rfl⟩
abbrev main_v8 : Ref sig .tc := ⟨.hbm, 37, rfl⟩
abbrev main_c_2 : Ref sig .tc := ⟨.hbm, 38, rfl⟩
abbrev main_call4_v0 : Ref sig .tc := ⟨.hbm, 39, rfl⟩
abbrev main_v9 : Ref sig .tc := ⟨.hbm, 40, rfl⟩
abbrev main_cst_3 : Ref sig .tc := ⟨.hbm, 41, rfl⟩
abbrev main_call5_v0 : Ref sig .tc := ⟨.hbm, 42, rfl⟩
abbrev main_v10 : Ref sig .tc := ⟨.hbm, 43, rfl⟩
abbrev main_v11_0 : Ref sig .tc := ⟨.hbm, 44, rfl⟩
abbrev main_v11_1 : Ref sig .tc := ⟨.hbm, 45, rfl⟩
abbrev main_v12 : Ref sig .tc := ⟨.hbm, 46, rfl⟩
abbrev main_call6_c : Ref sig .tc := ⟨.hbm, 47, rfl⟩
abbrev main_call6_v0 : Ref sig .tc := ⟨.hbm, 48, rfl⟩
abbrev main_call6_v1 : Ref sig .tc := ⟨.hbm, 49, rfl⟩
abbrev main_call6_c_0 : Ref sig .tc := ⟨.hbm, 50, rfl⟩
abbrev main_call6_v2 : Ref sig .tc := ⟨.hbm, 51, rfl⟩
abbrev main_call6_v3 : Ref sig .tc := ⟨.hbm, 52, rfl⟩
abbrev main_call6_v4 : Ref sig .tc := ⟨.hbm, 53, rfl⟩
abbrev main_call6_v5 : Ref sig .tc := ⟨.hbm, 54, rfl⟩
abbrev main_call6_c_1 : Ref sig .tc := ⟨.hbm, 55, rfl⟩
abbrev main_call6_c_2 : Ref sig .tc := ⟨.hbm, 56, rfl⟩
abbrev main_call6_v6 : Ref sig .tc := ⟨.hbm, 57, rfl⟩
abbrev main_call6_v7 : Ref sig .tc := ⟨.hbm, 58, rfl⟩
abbrev main_call6_v8 : Ref sig .tc := ⟨.hbm, 59, rfl⟩
abbrev main_call6_v9 : Ref sig .tc := ⟨.hbm, 60, rfl⟩
abbrev main_call6_v10 : Ref sig .tc := ⟨.hbm, 61, rfl⟩
abbrev main_call6_v11 : Ref sig .tc := ⟨.hbm, 62, rfl⟩
abbrev main_call6_c_3 : Ref sig .tc := ⟨.hbm, 63, rfl⟩
abbrev main_call6_v12 : Ref sig .tc := ⟨.hbm, 64, rfl⟩
abbrev main_call6_v13 : Ref sig .tc := ⟨.hbm, 65, rfl⟩
abbrev main_call6_v14 : Ref sig .tc := ⟨.hbm, 66, rfl⟩
abbrev main_call6_cst : Ref sig .tc := ⟨.hbm, 67, rfl⟩
abbrev main_call6_v15 : Ref sig .tc := ⟨.hbm, 68, rfl⟩
abbrev main_v13 : Ref sig .tc := ⟨.hbm, 69, rfl⟩
abbrev main_v14 : Ref sig .tc := ⟨.hbm, 70, rfl⟩
abbrev main_cst_4 : Ref sig .tc := ⟨.hbm, 71, rfl⟩
abbrev main_call7_v0 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_call8_c : Ref sig .tc := ⟨.hbm, 78, rfl⟩
abbrev main_call8_v0 : Ref sig .tc := ⟨.hbm, 79, rfl⟩
abbrev main_call8_v1 : Ref sig .tc := ⟨.hbm, 80, rfl⟩
abbrev main_call8_c_0 : Ref sig .tc := ⟨.hbm, 81, rfl⟩
abbrev main_call8_v2 : Ref sig .tc := ⟨.hbm, 82, rfl⟩
abbrev main_call8_v3 : Ref sig .tc := ⟨.hbm, 83, rfl⟩
abbrev main_call8_v4 : Ref sig .tc := ⟨.hbm, 84, rfl⟩
abbrev main_call8_v5 : Ref sig .tc := ⟨.hbm, 85, rfl⟩
abbrev main_call8_c_1 : Ref sig .tc := ⟨.hbm, 86, rfl⟩
abbrev main_call8_c_2 : Ref sig .tc := ⟨.hbm, 87, rfl⟩
abbrev main_call8_v6 : Ref sig .tc := ⟨.hbm, 88, rfl⟩
abbrev main_call8_v7 : Ref sig .tc := ⟨.hbm, 89, rfl⟩
abbrev main_call8_v8 : Ref sig .tc := ⟨.hbm, 90, rfl⟩
abbrev main_call8_v9 : Ref sig .tc := ⟨.hbm, 91, rfl⟩
abbrev main_call8_v10 : Ref sig .tc := ⟨.hbm, 92, rfl⟩
abbrev main_call8_v11 : Ref sig .tc := ⟨.hbm, 93, rfl⟩
abbrev main_call8_c_3 : Ref sig .tc := ⟨.hbm, 94, rfl⟩
abbrev main_call8_v12 : Ref sig .tc := ⟨.hbm, 95, rfl⟩
abbrev main_call8_v13 : Ref sig .tc := ⟨.hbm, 96, rfl⟩
abbrev main_call8_v14 : Ref sig .tc := ⟨.hbm, 97, rfl⟩
abbrev main_call8_cst : Ref sig .tc := ⟨.hbm, 98, rfl⟩
abbrev main_call8_v15 : Ref sig .tc := ⟨.hbm, 99, rfl⟩
abbrev main_v20 : Ref sig .tc := ⟨.hbm, 100, rfl⟩
abbrev main_c_5 : Ref sig .tc := ⟨.hbm, 101, rfl⟩
abbrev main_call9_v0 : Ref sig .tc := ⟨.hbm, 102, rfl⟩
abbrev main_v21 : Ref sig .tc := ⟨.hbm, 103, rfl⟩
abbrev main_cst_6 : Ref sig .tc := ⟨.hbm, 104, rfl⟩
abbrev main_call10_v0 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_c_7 : Ref sig .tc := ⟨.hbm, 112, rfl⟩
abbrev main_call11_v0 : Ref sig .tc := ⟨.hbm, 113, rfl⟩
abbrev main_v28 : Ref sig .tc := ⟨.hbm, 114, rfl⟩
abbrev main_cst_8 : Ref sig .tc := ⟨.hbm, 115, rfl⟩
abbrev main_call12_v0 : Ref sig .tc := ⟨.hbm, 116, rfl⟩
abbrev main_v29 : Ref sig .tc := ⟨.hbm, 117, rfl⟩
abbrev main_c_9 : Ref sig .tc := ⟨.hbm, 118, rfl⟩
abbrev main_call13_v0 : Ref sig .tc := ⟨.hbm, 119, rfl⟩
abbrev main_v30 : Ref sig .tc := ⟨.hbm, 120, rfl⟩
abbrev main_cst_10 : Ref sig .tc := ⟨.hbm, 121, rfl⟩
abbrev main_call14_v0 : Ref sig .tc := ⟨.hbm, 122, rfl⟩
abbrev main_v31 : Ref sig .tc := ⟨.hbm, 123, rfl⟩
abbrev main_v32_0 : Ref sig .tc := ⟨.hbm, 124, rfl⟩
abbrev main_v32_1 : Ref sig .tc := ⟨.hbm, 125, rfl⟩
abbrev main_v33 : Ref sig .tc := ⟨.hbm, 126, rfl⟩
abbrev main_call15_c : Ref sig .tc := ⟨.hbm, 127, rfl⟩
abbrev main_call15_v0 : Ref sig .tc := ⟨.hbm, 128, rfl⟩
abbrev main_call15_v1 : Ref sig .tc := ⟨.hbm, 129, rfl⟩
abbrev main_call15_c_0 : Ref sig .tc := ⟨.hbm, 130, rfl⟩
abbrev main_call15_v2 : Ref sig .tc := ⟨.hbm, 131, rfl⟩
abbrev main_call15_v3 : Ref sig .tc := ⟨.hbm, 132, rfl⟩
abbrev main_call15_v4 : Ref sig .tc := ⟨.hbm, 133, rfl⟩
abbrev main_call15_v5 : Ref sig .tc := ⟨.hbm, 134, rfl⟩
abbrev main_call15_c_1 : Ref sig .tc := ⟨.hbm, 135, rfl⟩
abbrev main_call15_c_2 : Ref sig .tc := ⟨.hbm, 136, rfl⟩
abbrev main_call15_v6 : Ref sig .tc := ⟨.hbm, 137, rfl⟩
abbrev main_call15_v7 : Ref sig .tc := ⟨.hbm, 138, rfl⟩
abbrev main_call15_v8 : Ref sig .tc := ⟨.hbm, 139, rfl⟩
abbrev main_call15_v9 : Ref sig .tc := ⟨.hbm, 140, rfl⟩
abbrev main_call15_v10 : Ref sig .tc := ⟨.hbm, 141, rfl⟩
abbrev main_call15_v11 : Ref sig .tc := ⟨.hbm, 142, rfl⟩
abbrev main_call15_c_3 : Ref sig .tc := ⟨.hbm, 143, rfl⟩
abbrev main_call15_v12 : Ref sig .tc := ⟨.hbm, 144, rfl⟩
abbrev main_call15_v13 : Ref sig .tc := ⟨.hbm, 145, rfl⟩
abbrev main_call15_v14 : Ref sig .tc := ⟨.hbm, 146, rfl⟩
abbrev main_call15_cst : Ref sig .tc := ⟨.hbm, 147, rfl⟩
abbrev main_call15_v15 : Ref sig .tc := ⟨.hbm, 148, rfl⟩
abbrev main_v34 : Ref sig .tc := ⟨.hbm, 149, rfl⟩
abbrev main_v35 : Ref sig .tc := ⟨.hbm, 150, rfl⟩
abbrev main_cst_11 : Ref sig .tc := ⟨.hbm, 151, rfl⟩
abbrev main_call16_v0 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_call17_c : Ref sig .tc := ⟨.hbm, 157, rfl⟩
abbrev main_call17_v0 : Ref sig .tc := ⟨.hbm, 158, rfl⟩
abbrev main_call17_v1 : Ref sig .tc := ⟨.hbm, 159, rfl⟩
abbrev main_call17_c_0 : Ref sig .tc := ⟨.hbm, 160, rfl⟩
abbrev main_call17_v2 : Ref sig .tc := ⟨.hbm, 161, rfl⟩
abbrev main_call17_v3 : Ref sig .tc := ⟨.hbm, 162, rfl⟩
abbrev main_call17_v4 : Ref sig .tc := ⟨.hbm, 163, rfl⟩
abbrev main_call17_v5 : Ref sig .tc := ⟨.hbm, 164, rfl⟩
abbrev main_call17_c_1 : Ref sig .tc := ⟨.hbm, 165, rfl⟩
abbrev main_call17_c_2 : Ref sig .tc := ⟨.hbm, 166, rfl⟩
abbrev main_call17_v6 : Ref sig .tc := ⟨.hbm, 167, rfl⟩
abbrev main_call17_v7 : Ref sig .tc := ⟨.hbm, 168, rfl⟩
abbrev main_call17_v8 : Ref sig .tc := ⟨.hbm, 169, rfl⟩
abbrev main_call17_v9 : Ref sig .tc := ⟨.hbm, 170, rfl⟩
abbrev main_call17_v10 : Ref sig .tc := ⟨.hbm, 171, rfl⟩
abbrev main_call17_v11 : Ref sig .tc := ⟨.hbm, 172, rfl⟩
abbrev main_call17_c_3 : Ref sig .tc := ⟨.hbm, 173, rfl⟩
abbrev main_call17_v12 : Ref sig .tc := ⟨.hbm, 174, rfl⟩
abbrev main_call17_v13 : Ref sig .tc := ⟨.hbm, 175, rfl⟩
abbrev main_call17_v14 : Ref sig .tc := ⟨.hbm, 176, rfl⟩
abbrev main_call17_cst : Ref sig .tc := ⟨.hbm, 177, rfl⟩
abbrev main_call17_v15 : Ref sig .tc := ⟨.hbm, 178, rfl⟩
abbrev main_v40 : Ref sig .tc := ⟨.hbm, 179, rfl⟩
abbrev main_c_12 : Ref sig .tc := ⟨.hbm, 180, rfl⟩
abbrev main_call18_v0 : Ref sig .tc := ⟨.hbm, 181, rfl⟩
abbrev main_v41 : Ref sig .tc := ⟨.hbm, 182, rfl⟩
abbrev main_cst_13 : Ref sig .tc := ⟨.hbm, 183, rfl⟩
abbrev main_call19_v0 : Ref sig .tc := ⟨.hbm, 184, rfl⟩
abbrev main_v42 : Ref sig .tc := ⟨.hbm, 185, rfl⟩
abbrev main_v43 : Ref sig .tc := ⟨.hbm, 186, rfl⟩
abbrev main_v44 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_c_14 : Ref sig .tc := ⟨.hbm, 191, rfl⟩
abbrev main_call20_v0 : Ref sig .tc := ⟨.hbm, 192, rfl⟩
abbrev main_v48 : Ref sig .tc := ⟨.hbm, 193, rfl⟩
abbrev main_cst_15 : Ref sig .tc := ⟨.hbm, 194, rfl⟩
abbrev main_call21_v0 : Ref sig .tc := ⟨.hbm, 195, rfl⟩
abbrev main_v49 : Ref sig .tc := ⟨.hbm, 196, rfl⟩
abbrev main_c_16 : Ref sig .tc := ⟨.hbm, 197, rfl⟩
abbrev main_call22_v0 : Ref sig .tc := ⟨.hbm, 198, rfl⟩
abbrev main_v50 : Ref sig .tc := ⟨.hbm, 199, rfl⟩
abbrev main_cst_17 : Ref sig .tc := ⟨.hbm, 200, rfl⟩
abbrev main_call23_v0 : Ref sig .tc := ⟨.hbm, 201, rfl⟩
abbrev main_v51 : Ref sig .tc := ⟨.hbm, 202, rfl⟩
abbrev main_v52_0 : Ref sig .tc := ⟨.hbm, 203, rfl⟩
abbrev main_v52_1 : Ref sig .tc := ⟨.hbm, 204, rfl⟩
abbrev main_v53 : Ref sig .tc := ⟨.hbm, 205, rfl⟩
abbrev main_call24_c : Ref sig .tc := ⟨.hbm, 206, rfl⟩
abbrev main_call24_v0 : Ref sig .tc := ⟨.hbm, 207, rfl⟩
abbrev main_call24_v1 : Ref sig .tc := ⟨.hbm, 208, rfl⟩
abbrev main_call24_c_0 : Ref sig .tc := ⟨.hbm, 209, rfl⟩
abbrev main_call24_v2 : Ref sig .tc := ⟨.hbm, 210, rfl⟩
abbrev main_call24_v3 : Ref sig .tc := ⟨.hbm, 211, rfl⟩
abbrev main_call24_v4 : Ref sig .tc := ⟨.hbm, 212, rfl⟩
abbrev main_call24_v5 : Ref sig .tc := ⟨.hbm, 213, rfl⟩
abbrev main_call24_c_1 : Ref sig .tc := ⟨.hbm, 214, rfl⟩
abbrev main_call24_c_2 : Ref sig .tc := ⟨.hbm, 215, rfl⟩
abbrev main_call24_v6 : Ref sig .tc := ⟨.hbm, 216, rfl⟩
abbrev main_call24_v7 : Ref sig .tc := ⟨.hbm, 217, rfl⟩
abbrev main_call24_v8 : Ref sig .tc := ⟨.hbm, 218, rfl⟩
abbrev main_call24_v9 : Ref sig .tc := ⟨.hbm, 219, rfl⟩
abbrev main_call24_v10 : Ref sig .tc := ⟨.hbm, 220, rfl⟩
abbrev main_call24_v11 : Ref sig .tc := ⟨.hbm, 221, rfl⟩
abbrev main_call24_c_3 : Ref sig .tc := ⟨.hbm, 222, rfl⟩
abbrev main_call24_v12 : Ref sig .tc := ⟨.hbm, 223, rfl⟩
abbrev main_call24_v13 : Ref sig .tc := ⟨.hbm, 224, rfl⟩
abbrev main_call24_v14 : Ref sig .tc := ⟨.hbm, 225, rfl⟩
abbrev main_call24_cst : Ref sig .tc := ⟨.hbm, 226, rfl⟩
abbrev main_call24_v15 : Ref sig .tc := ⟨.hbm, 227, rfl⟩
abbrev main_v54 : Ref sig .tc := ⟨.hbm, 228, rfl⟩
abbrev main_v55 : Ref sig .tc := ⟨.hbm, 229, rfl⟩
abbrev main_cst_18 : Ref sig .tc := ⟨.hbm, 230, rfl⟩
abbrev main_call25_v0 : Ref sig .tc := ⟨.hbm, 231, rfl⟩
abbrev main_v56 : Ref sig .tc := ⟨.hbm, 232, rfl⟩
abbrev main_v57 : Ref sig .tc := ⟨.hbm, 233, rfl⟩
abbrev main_v58 : Ref sig .tc := ⟨.hbm, 234, rfl⟩
abbrev main_v59 : Ref sig .tc := ⟨.hbm, 235, rfl⟩
abbrev main_v60 : Ref sig .tc := ⟨.hbm, 236, rfl⟩
abbrev main_v61 : Ref sig .tc := ⟨.hbm, 237, rfl⟩
abbrev main_v62 : Ref sig .tc := ⟨.hbm, 238, rfl⟩
abbrev main_call26_c : Ref sig .tc := ⟨.hbm, 239, rfl⟩
abbrev main_call26_v0 : Ref sig .tc := ⟨.hbm, 240, rfl⟩
abbrev main_call26_v1 : Ref sig .tc := ⟨.hbm, 241, rfl⟩
abbrev main_call26_c_0 : Ref sig .tc := ⟨.hbm, 242, rfl⟩
abbrev main_call26_v2 : Ref sig .tc := ⟨.hbm, 243, rfl⟩
abbrev main_call26_v3 : Ref sig .tc := ⟨.hbm, 244, rfl⟩
abbrev main_call26_v4 : Ref sig .tc := ⟨.hbm, 245, rfl⟩
abbrev main_call26_v5 : Ref sig .tc := ⟨.hbm, 246, rfl⟩
abbrev main_call26_c_1 : Ref sig .tc := ⟨.hbm, 247, rfl⟩
abbrev main_call26_c_2 : Ref sig .tc := ⟨.hbm, 248, rfl⟩
abbrev main_call26_v6 : Ref sig .tc := ⟨.hbm, 249, rfl⟩
abbrev main_call26_v7 : Ref sig .tc := ⟨.hbm, 250, rfl⟩
abbrev main_call26_v8 : Ref sig .tc := ⟨.hbm, 251, rfl⟩
abbrev main_call26_v9 : Ref sig .tc := ⟨.hbm, 252, rfl⟩
abbrev main_call26_v10 : Ref sig .tc := ⟨.hbm, 253, rfl⟩
abbrev main_call26_v11 : Ref sig .tc := ⟨.hbm, 254, rfl⟩
abbrev main_call26_c_3 : Ref sig .tc := ⟨.hbm, 255, rfl⟩
abbrev main_call26_v12 : Ref sig .tc := ⟨.hbm, 256, rfl⟩
abbrev main_call26_v13 : Ref sig .tc := ⟨.hbm, 257, rfl⟩
abbrev main_call26_v14 : Ref sig .tc := ⟨.hbm, 258, rfl⟩
abbrev main_call26_cst : Ref sig .tc := ⟨.hbm, 259, rfl⟩
abbrev main_call26_v15 : Ref sig .tc := ⟨.hbm, 260, rfl⟩
abbrev main_v63 : Ref sig .tc := ⟨.hbm, 261, rfl⟩
abbrev main_v64 : Ref sig .tc := ⟨.hbm, 262, rfl⟩
abbrev main_v65 : Ref sig .tc := ⟨.hbm, 263, rfl⟩
abbrev main_call27_c : Ref sig .tc := ⟨.hbm, 264, rfl⟩
abbrev main_call27_v0 : Ref sig .tc := ⟨.hbm, 265, rfl⟩
abbrev main_call27_v1 : Ref sig .tc := ⟨.hbm, 266, rfl⟩
abbrev main_call27_c_0 : Ref sig .tc := ⟨.hbm, 267, rfl⟩
abbrev main_call27_v2 : Ref sig .tc := ⟨.hbm, 268, rfl⟩
abbrev main_call27_v3 : Ref sig .tc := ⟨.hbm, 269, rfl⟩
abbrev main_call27_v4 : Ref sig .tc := ⟨.hbm, 270, rfl⟩
abbrev main_call27_v5 : Ref sig .tc := ⟨.hbm, 271, rfl⟩
abbrev main_call27_c_1 : Ref sig .tc := ⟨.hbm, 272, rfl⟩
abbrev main_call27_c_2 : Ref sig .tc := ⟨.hbm, 273, rfl⟩
abbrev main_call27_v6 : Ref sig .tc := ⟨.hbm, 274, rfl⟩
abbrev main_call27_v7 : Ref sig .tc := ⟨.hbm, 275, rfl⟩
abbrev main_call27_v8 : Ref sig .tc := ⟨.hbm, 276, rfl⟩
abbrev main_call27_v9 : Ref sig .tc := ⟨.hbm, 277, rfl⟩
abbrev main_call27_v10 : Ref sig .tc := ⟨.hbm, 278, rfl⟩
abbrev main_call27_v11 : Ref sig .tc := ⟨.hbm, 279, rfl⟩
abbrev main_call27_c_3 : Ref sig .tc := ⟨.hbm, 280, rfl⟩
abbrev main_call27_v12 : Ref sig .tc := ⟨.hbm, 281, rfl⟩
abbrev main_call27_v13 : Ref sig .tc := ⟨.hbm, 282, rfl⟩
abbrev main_call27_v14 : Ref sig .tc := ⟨.hbm, 283, rfl⟩
abbrev main_call27_cst : Ref sig .tc := ⟨.hbm, 284, rfl⟩
abbrev main_call27_v15 : Ref sig .tc := ⟨.hbm, 285, rfl⟩
abbrev main_v66 : Ref sig .tc := ⟨.hbm, 286, rfl⟩
abbrev main_v67 : Ref sig .tc := ⟨.hbm, 287, rfl⟩
abbrev main_v68 : Ref sig .tc := ⟨.hbm, 288, rfl⟩
abbrev main_call28_c : Ref sig .tc := ⟨.hbm, 289, rfl⟩
abbrev main_call28_v0 : Ref sig .tc := ⟨.hbm, 290, rfl⟩
abbrev main_call28_v1 : Ref sig .tc := ⟨.hbm, 291, rfl⟩
abbrev main_call28_c_0 : Ref sig .tc := ⟨.hbm, 292, rfl⟩
abbrev main_call28_v2 : Ref sig .tc := ⟨.hbm, 293, rfl⟩
abbrev main_call28_v3 : Ref sig .tc := ⟨.hbm, 294, rfl⟩
abbrev main_call28_v4 : Ref sig .tc := ⟨.hbm, 295, rfl⟩
abbrev main_call28_v5 : Ref sig .tc := ⟨.hbm, 296, rfl⟩
abbrev main_call28_c_1 : Ref sig .tc := ⟨.hbm, 297, rfl⟩
abbrev main_call28_c_2 : Ref sig .tc := ⟨.hbm, 298, rfl⟩
abbrev main_call28_v6 : Ref sig .tc := ⟨.hbm, 299, rfl⟩
abbrev main_call28_v7 : Ref sig .tc := ⟨.hbm, 300, rfl⟩
abbrev main_call28_v8 : Ref sig .tc := ⟨.hbm, 301, rfl⟩
abbrev main_call28_v9 : Ref sig .tc := ⟨.hbm, 302, rfl⟩
abbrev main_call28_v10 : Ref sig .tc := ⟨.hbm, 303, rfl⟩
abbrev main_call28_v11 : Ref sig .tc := ⟨.hbm, 304, rfl⟩
abbrev main_call28_c_3 : Ref sig .tc := ⟨.hbm, 305, rfl⟩
abbrev main_call28_v12 : Ref sig .tc := ⟨.hbm, 306, rfl⟩
abbrev main_call28_v13 : Ref sig .tc := ⟨.hbm, 307, rfl⟩
abbrev main_call28_v14 : Ref sig .tc := ⟨.hbm, 308, rfl⟩
abbrev main_call28_cst : Ref sig .tc := ⟨.hbm, 309, rfl⟩
abbrev main_call28_v15 : Ref sig .tc := ⟨.hbm, 310, rfl⟩
abbrev main_v69 : Ref sig .tc := ⟨.hbm, 311, rfl⟩
abbrev main_v70 : Ref sig .tc := ⟨.hbm, 312, rfl⟩
abbrev main_v71 : Ref sig .tc := ⟨.hbm, 313, rfl⟩
abbrev main_c_19 : Ref sig .tc := ⟨.hbm, 314, rfl⟩
abbrev main_call29_v0 : Ref sig .tc := ⟨.hbm, 315, rfl⟩
abbrev main_v72 : Ref sig .tc := ⟨.hbm, 316, rfl⟩
abbrev main_c_20 : Ref sig .tc := ⟨.hbm, 317, rfl⟩
abbrev main_call30_v0 : Ref sig .tc := ⟨.hbm, 318, rfl⟩
abbrev main_v73 : Ref sig .tc := ⟨.hbm, 319, rfl⟩
abbrev main_cst_21 : Ref sig .tc := ⟨.hbm, 320, rfl⟩
abbrev main_call31_v0 : Ref sig .tc := ⟨.hbm, 321, rfl⟩
abbrev main_v74 : Ref sig .tc := ⟨.hbm, 322, rfl⟩
abbrev main_cst_22 : Ref sig .tc := ⟨.hbm, 323, rfl⟩
abbrev main_call32_v0 : Ref sig .tc := ⟨.hbm, 324, rfl⟩
abbrev main_v75 : Ref sig .tc := ⟨.hbm, 325, rfl⟩
abbrev main_cst_23 : Ref sig .tc := ⟨.hbm, 326, rfl⟩
abbrev main_call33_v0 : Ref sig .tc := ⟨.hbm, 327, rfl⟩
abbrev main_v76 : Ref sig .tc := ⟨.hbm, 328, rfl⟩
abbrev main_cst_24 : Ref sig .tc := ⟨.hbm, 329, rfl⟩
abbrev main_call34_v0 : Ref sig .tc := ⟨.hbm, 330, rfl⟩
abbrev main_v77 : Ref sig .tc := ⟨.hbm, 331, rfl⟩
abbrev main_cst_25 : Ref sig .tc := ⟨.hbm, 332, rfl⟩
abbrev main_call35_v0 : Ref sig .tc := ⟨.hbm, 333, rfl⟩
abbrev main_v78 : Ref sig .tc := ⟨.hbm, 334, rfl⟩
abbrev main_c_26 : Ref sig .tc := ⟨.hbm, 335, rfl⟩
abbrev main_call36_v0 : Ref sig .tc := ⟨.hbm, 336, rfl⟩
abbrev main_v79 : Ref sig .tc := ⟨.hbm, 337, rfl⟩
abbrev main_cst_27 : Ref sig .tc := ⟨.hbm, 338, rfl⟩
abbrev main_call37_v0 : Ref sig .tc := ⟨.hbm, 339, rfl⟩
abbrev main_v80 : Ref sig .tc := ⟨.hbm, 340, rfl⟩
abbrev main_v81_0 : Ref sig .tc := ⟨.hbm, 341, rfl⟩
abbrev main_v81_1 : Ref sig .tc := ⟨.hbm, 342, rfl⟩
abbrev main_v81_2 : Ref sig .tc := ⟨.hbm, 343, rfl⟩
abbrev main_v82 : Ref sig .tc := ⟨.hbm, 344, rfl⟩
abbrev main_call38_c : Ref sig .tc := ⟨.hbm, 345, rfl⟩
abbrev main_call38_v0 : Ref sig .tc := ⟨.hbm, 346, rfl⟩
abbrev main_call38_v1 : Ref sig .tc := ⟨.hbm, 347, rfl⟩
abbrev main_call38_c_0 : Ref sig .tc := ⟨.hbm, 348, rfl⟩
abbrev main_call38_v2 : Ref sig .tc := ⟨.hbm, 349, rfl⟩
abbrev main_call38_v3 : Ref sig .tc := ⟨.hbm, 350, rfl⟩
abbrev main_call38_v4 : Ref sig .tc := ⟨.hbm, 351, rfl⟩
abbrev main_call38_v5 : Ref sig .tc := ⟨.hbm, 352, rfl⟩
abbrev main_call38_c_1 : Ref sig .tc := ⟨.hbm, 353, rfl⟩
abbrev main_call38_c_2 : Ref sig .tc := ⟨.hbm, 354, rfl⟩
abbrev main_call38_v6 : Ref sig .tc := ⟨.hbm, 355, rfl⟩
abbrev main_call38_v7 : Ref sig .tc := ⟨.hbm, 356, rfl⟩
abbrev main_call38_v8 : Ref sig .tc := ⟨.hbm, 357, rfl⟩
abbrev main_call38_v9 : Ref sig .tc := ⟨.hbm, 358, rfl⟩
abbrev main_call38_v10 : Ref sig .tc := ⟨.hbm, 359, rfl⟩
abbrev main_call38_v11 : Ref sig .tc := ⟨.hbm, 360, rfl⟩
abbrev main_call38_c_3 : Ref sig .tc := ⟨.hbm, 361, rfl⟩
abbrev main_call38_v12 : Ref sig .tc := ⟨.hbm, 362, rfl⟩
abbrev main_call38_v13 : Ref sig .tc := ⟨.hbm, 363, rfl⟩
abbrev main_call38_v14 : Ref sig .tc := ⟨.hbm, 364, rfl⟩
abbrev main_call38_cst : Ref sig .tc := ⟨.hbm, 365, rfl⟩
abbrev main_call38_v15 : Ref sig .tc := ⟨.hbm, 366, rfl⟩
abbrev main_v83 : Ref sig .tc := ⟨.hbm, 367, rfl⟩
abbrev main_v84 : Ref sig .tc := ⟨.hbm, 368, rfl⟩
abbrev main_cst_28 : Ref sig .tc := ⟨.hbm, 369, rfl⟩
abbrev main_call39_v0 : Ref sig .tc := ⟨.hbm, 370, rfl⟩
abbrev main_v85 : Ref sig .tc := ⟨.hbm, 371, rfl⟩
abbrev main_v86 : Ref sig .tc := ⟨.hbm, 372, rfl⟩
abbrev main_v87 : Ref sig .tc := ⟨.hbm, 373, rfl⟩
abbrev main_v88 : Ref sig .tc := ⟨.hbm, 374, rfl⟩
abbrev main_v89 : Ref sig .tc := ⟨.hbm, 375, rfl⟩
abbrev main_v90 : Ref sig .tc := ⟨.hbm, 376, rfl⟩
abbrev main_call40_c : Ref sig .tc := ⟨.hbm, 377, rfl⟩
abbrev main_call40_v0 : Ref sig .tc := ⟨.hbm, 378, rfl⟩
abbrev main_call40_v1 : Ref sig .tc := ⟨.hbm, 379, rfl⟩
abbrev main_call40_c_0 : Ref sig .tc := ⟨.hbm, 380, rfl⟩
abbrev main_call40_v2 : Ref sig .tc := ⟨.hbm, 381, rfl⟩
abbrev main_call40_v3 : Ref sig .tc := ⟨.hbm, 382, rfl⟩
abbrev main_call40_v4 : Ref sig .tc := ⟨.hbm, 383, rfl⟩
abbrev main_call40_v5 : Ref sig .tc := ⟨.hbm, 384, rfl⟩
abbrev main_call40_c_1 : Ref sig .tc := ⟨.hbm, 385, rfl⟩
abbrev main_call40_c_2 : Ref sig .tc := ⟨.hbm, 386, rfl⟩
abbrev main_call40_v6 : Ref sig .tc := ⟨.hbm, 387, rfl⟩
abbrev main_call40_v7 : Ref sig .tc := ⟨.hbm, 388, rfl⟩
abbrev main_call40_v8 : Ref sig .tc := ⟨.hbm, 389, rfl⟩
abbrev main_call40_v9 : Ref sig .tc := ⟨.hbm, 390, rfl⟩
abbrev main_call40_v10 : Ref sig .tc := ⟨.hbm, 391, rfl⟩
abbrev main_call40_v11 : Ref sig .tc := ⟨.hbm, 392, rfl⟩
abbrev main_call40_c_3 : Ref sig .tc := ⟨.hbm, 393, rfl⟩
abbrev main_call40_v12 : Ref sig .tc := ⟨.hbm, 394, rfl⟩
abbrev main_call40_v13 : Ref sig .tc := ⟨.hbm, 395, rfl⟩
abbrev main_call40_v14 : Ref sig .tc := ⟨.hbm, 396, rfl⟩
abbrev main_call40_cst : Ref sig .tc := ⟨.hbm, 397, rfl⟩
abbrev main_call40_v15 : Ref sig .tc := ⟨.hbm, 398, rfl⟩
abbrev main_v91 : Ref sig .tc := ⟨.hbm, 399, rfl⟩
abbrev main_v92 : Ref sig .tc := ⟨.hbm, 400, rfl⟩
abbrev main_v93 : Ref sig .tc := ⟨.hbm, 401, rfl⟩
abbrev main_call41_c : Ref sig .tc := ⟨.hbm, 402, rfl⟩
abbrev main_call41_v0 : Ref sig .tc := ⟨.hbm, 403, rfl⟩
abbrev main_call41_v1 : Ref sig .tc := ⟨.hbm, 404, rfl⟩
abbrev main_call41_c_0 : Ref sig .tc := ⟨.hbm, 405, rfl⟩
abbrev main_call41_v2 : Ref sig .tc := ⟨.hbm, 406, rfl⟩
abbrev main_call41_v3 : Ref sig .tc := ⟨.hbm, 407, rfl⟩
abbrev main_call41_v4 : Ref sig .tc := ⟨.hbm, 408, rfl⟩
abbrev main_call41_v5 : Ref sig .tc := ⟨.hbm, 409, rfl⟩
abbrev main_call41_c_1 : Ref sig .tc := ⟨.hbm, 410, rfl⟩
abbrev main_call41_c_2 : Ref sig .tc := ⟨.hbm, 411, rfl⟩
abbrev main_call41_v6 : Ref sig .tc := ⟨.hbm, 412, rfl⟩
abbrev main_call41_v7 : Ref sig .tc := ⟨.hbm, 413, rfl⟩
abbrev main_call41_v8 : Ref sig .tc := ⟨.hbm, 414, rfl⟩
abbrev main_call41_v9 : Ref sig .tc := ⟨.hbm, 415, rfl⟩
abbrev main_call41_v10 : Ref sig .tc := ⟨.hbm, 416, rfl⟩
abbrev main_call41_v11 : Ref sig .tc := ⟨.hbm, 417, rfl⟩
abbrev main_call41_c_3 : Ref sig .tc := ⟨.hbm, 418, rfl⟩
abbrev main_call41_v12 : Ref sig .tc := ⟨.hbm, 419, rfl⟩
abbrev main_call41_v13 : Ref sig .tc := ⟨.hbm, 420, rfl⟩
abbrev main_call41_v14 : Ref sig .tc := ⟨.hbm, 421, rfl⟩
abbrev main_call41_cst : Ref sig .tc := ⟨.hbm, 422, rfl⟩
abbrev main_call41_v15 : Ref sig .tc := ⟨.hbm, 423, rfl⟩
abbrev main_v94 : Ref sig .tc := ⟨.hbm, 424, rfl⟩
abbrev main_v95 : Ref sig .tc := ⟨.hbm, 425, rfl⟩
abbrev main_v96 : Ref sig .tc := ⟨.hbm, 426, rfl⟩
abbrev main_call42_c : Ref sig .tc := ⟨.hbm, 427, rfl⟩
abbrev main_call42_v0 : Ref sig .tc := ⟨.hbm, 428, rfl⟩
abbrev main_call42_v1 : Ref sig .tc := ⟨.hbm, 429, rfl⟩
abbrev main_call42_c_0 : Ref sig .tc := ⟨.hbm, 430, rfl⟩
abbrev main_call42_v2 : Ref sig .tc := ⟨.hbm, 431, rfl⟩
abbrev main_call42_v3 : Ref sig .tc := ⟨.hbm, 432, rfl⟩
abbrev main_call42_v4 : Ref sig .tc := ⟨.hbm, 433, rfl⟩
abbrev main_call42_v5 : Ref sig .tc := ⟨.hbm, 434, rfl⟩
abbrev main_call42_c_1 : Ref sig .tc := ⟨.hbm, 435, rfl⟩
abbrev main_call42_c_2 : Ref sig .tc := ⟨.hbm, 436, rfl⟩
abbrev main_call42_v6 : Ref sig .tc := ⟨.hbm, 437, rfl⟩
abbrev main_call42_v7 : Ref sig .tc := ⟨.hbm, 438, rfl⟩
abbrev main_call42_v8 : Ref sig .tc := ⟨.hbm, 439, rfl⟩
abbrev main_call42_v9 : Ref sig .tc := ⟨.hbm, 440, rfl⟩
abbrev main_call42_v10 : Ref sig .tc := ⟨.hbm, 441, rfl⟩
abbrev main_call42_v11 : Ref sig .tc := ⟨.hbm, 442, rfl⟩
abbrev main_call42_c_3 : Ref sig .tc := ⟨.hbm, 443, rfl⟩
abbrev main_call42_v12 : Ref sig .tc := ⟨.hbm, 444, rfl⟩
abbrev main_call42_v13 : Ref sig .tc := ⟨.hbm, 445, rfl⟩
abbrev main_call42_v14 : Ref sig .tc := ⟨.hbm, 446, rfl⟩
abbrev main_call42_cst : Ref sig .tc := ⟨.hbm, 447, rfl⟩
abbrev main_call42_v15 : Ref sig .tc := ⟨.hbm, 448, rfl⟩
abbrev main_v97 : Ref sig .tc := ⟨.hbm, 449, rfl⟩
abbrev main_v98 : Ref sig .tc := ⟨.hbm, 450, rfl⟩
abbrev main_v99 : Ref sig .tc := ⟨.hbm, 451, rfl⟩
abbrev main_c_29 : Ref sig .tc := ⟨.hbm, 452, rfl⟩
abbrev main_call43_v0 : Ref sig .tc := ⟨.hbm, 453, rfl⟩
abbrev main_v100 : Ref sig .tc := ⟨.hbm, 454, rfl⟩
abbrev main_c_30 : Ref sig .tc := ⟨.hbm, 455, rfl⟩
abbrev main_call44_v0 : Ref sig .tc := ⟨.hbm, 456, rfl⟩
abbrev main_v101 : Ref sig .tc := ⟨.hbm, 457, rfl⟩
abbrev main_cst_31 : Ref sig .tc := ⟨.hbm, 458, rfl⟩
abbrev main_call45_v0 : Ref sig .tc := ⟨.hbm, 459, rfl⟩
abbrev main_v102 : Ref sig .tc := ⟨.hbm, 460, rfl⟩
abbrev main_cst_32 : Ref sig .tc := ⟨.hbm, 461, rfl⟩
abbrev main_call46_v0 : Ref sig .tc := ⟨.hbm, 462, rfl⟩
abbrev main_v103 : Ref sig .tc := ⟨.hbm, 463, rfl⟩
abbrev main_cst_33 : Ref sig .tc := ⟨.hbm, 464, rfl⟩
abbrev main_call47_v0 : Ref sig .tc := ⟨.hbm, 465, rfl⟩
abbrev main_v104 : Ref sig .tc := ⟨.hbm, 466, rfl⟩
abbrev main_cst_34 : Ref sig .tc := ⟨.hbm, 467, rfl⟩
abbrev main_call48_v0 : Ref sig .tc := ⟨.hbm, 468, rfl⟩
abbrev main_v105 : Ref sig .tc := ⟨.hbm, 469, rfl⟩
abbrev main_cst_35 : Ref sig .tc := ⟨.hbm, 470, rfl⟩
abbrev main_call49_v0 : Ref sig .tc := ⟨.hbm, 471, rfl⟩
abbrev main_v106 : Ref sig .tc := ⟨.hbm, 472, rfl⟩
abbrev main_c_36 : Ref sig .tc := ⟨.hbm, 473, rfl⟩
abbrev main_call50_v0 : Ref sig .tc := ⟨.hbm, 474, rfl⟩
abbrev main_v107 : Ref sig .tc := ⟨.hbm, 475, rfl⟩
abbrev main_cst_37 : Ref sig .tc := ⟨.hbm, 476, rfl⟩
abbrev main_call51_v0 : Ref sig .tc := ⟨.hbm, 477, rfl⟩
abbrev main_v108 : Ref sig .tc := ⟨.hbm, 478, rfl⟩
abbrev main_v109_0 : Ref sig .tc := ⟨.hbm, 479, rfl⟩
abbrev main_v109_1 : Ref sig .tc := ⟨.hbm, 480, rfl⟩
abbrev main_v109_2 : Ref sig .tc := ⟨.hbm, 481, rfl⟩
abbrev main_v110 : Ref sig .tc := ⟨.hbm, 482, rfl⟩
abbrev main_call52_c : Ref sig .tc := ⟨.hbm, 483, rfl⟩
abbrev main_call52_v0 : Ref sig .tc := ⟨.hbm, 484, rfl⟩
abbrev main_call52_v1 : Ref sig .tc := ⟨.hbm, 485, rfl⟩
abbrev main_call52_c_0 : Ref sig .tc := ⟨.hbm, 486, rfl⟩
abbrev main_call52_v2 : Ref sig .tc := ⟨.hbm, 487, rfl⟩
abbrev main_call52_v3 : Ref sig .tc := ⟨.hbm, 488, rfl⟩
abbrev main_call52_v4 : Ref sig .tc := ⟨.hbm, 489, rfl⟩
abbrev main_call52_v5 : Ref sig .tc := ⟨.hbm, 490, rfl⟩
abbrev main_call52_c_1 : Ref sig .tc := ⟨.hbm, 491, rfl⟩
abbrev main_call52_c_2 : Ref sig .tc := ⟨.hbm, 492, rfl⟩
abbrev main_call52_v6 : Ref sig .tc := ⟨.hbm, 493, rfl⟩
abbrev main_call52_v7 : Ref sig .tc := ⟨.hbm, 494, rfl⟩
abbrev main_call52_v8 : Ref sig .tc := ⟨.hbm, 495, rfl⟩
abbrev main_call52_v9 : Ref sig .tc := ⟨.hbm, 496, rfl⟩
abbrev main_call52_v10 : Ref sig .tc := ⟨.hbm, 497, rfl⟩
abbrev main_call52_v11 : Ref sig .tc := ⟨.hbm, 498, rfl⟩
abbrev main_call52_c_3 : Ref sig .tc := ⟨.hbm, 499, rfl⟩
abbrev main_call52_v12 : Ref sig .tc := ⟨.hbm, 500, rfl⟩
abbrev main_call52_v13 : Ref sig .tc := ⟨.hbm, 501, rfl⟩
abbrev main_call52_v14 : Ref sig .tc := ⟨.hbm, 502, rfl⟩
abbrev main_call52_cst : Ref sig .tc := ⟨.hbm, 503, rfl⟩
abbrev main_call52_v15 : Ref sig .tc := ⟨.hbm, 504, rfl⟩
abbrev main_v111 : Ref sig .tc := ⟨.hbm, 505, rfl⟩
abbrev main_v112 : Ref sig .tc := ⟨.hbm, 506, rfl⟩
abbrev main_cst_38 : Ref sig .tc := ⟨.hbm, 507, rfl⟩
abbrev main_call53_v0 : Ref sig .tc := ⟨.hbm, 508, rfl⟩
abbrev main_v113 : Ref sig .tc := ⟨.hbm, 509, rfl⟩
abbrev main_v114 : Ref sig .tc := ⟨.hbm, 510, rfl⟩
abbrev main_v115 : Ref sig .tc := ⟨.hbm, 511, rfl⟩
abbrev main_v116 : Ref sig .tc := ⟨.hbm, 512, rfl⟩
abbrev main_v117 : Ref sig .tc := ⟨.hbm, 513, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg4_1 : Ref sig .tc := ⟨.vmem, 56, rfl⟩
abbrev cc7_stg5_0 : Ref sig .tc := ⟨.vmem, 57, rfl⟩
abbrev cc7_stg5_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg2_1 : Ref sig .tc := ⟨.vmem, 71, rfl⟩
abbrev cc9_stg3_0 : Ref sig .tc := ⟨.vmem, 72, rfl⟩
abbrev cc9_stg3_1 : Ref sig .tc := ⟨.vmem, 73, rfl⟩
abbrev cc9_stg4_0 : Ref sig .tc := ⟨.vmem, 74, rfl⟩
abbrev cc9_stg4_1 : Ref sig .tc := ⟨.vmem, 75, rfl⟩
abbrev cc9_stg5_0 : Ref sig .tc := ⟨.vmem, 76, rfl⟩
abbrev cc9_stg5_1 : Ref sig .tc := ⟨.vmem, 77, rfl⟩
abbrev cc9_stg6_0 : Ref sig .tc := ⟨.vmem, 78, rfl⟩
abbrev cc9_stg7_0 : Ref sig .tc := ⟨.vmem, 79, rfl⟩
abbrev cc9_stg8_0 : Ref sig .tc := ⟨.vmem, 80, rfl⟩
abbrev cc9_stg8_1 : Ref sig .tc := ⟨.vmem, 81, rfl⟩
abbrev cc9_stg9_0 : Ref sig .tc := ⟨.vmem, 82, rfl⟩
abbrev cc9_stg9_1 : Ref sig .tc := ⟨.vmem, 83, rfl⟩
abbrev cc9_stg10_0 : Ref sig .tc := ⟨.vmem, 84, rfl⟩
abbrev cc9_stg10_1 : Ref sig .tc := ⟨.vmem, 85, rfl⟩
abbrev cc10_stg0_0 : Ref sig .tc := ⟨.vmem, 86, rfl⟩
abbrev cc10_stg0_1 : Ref sig .tc := ⟨.vmem, 87, rfl⟩
abbrev cc10_stg1_0 : Ref sig .tc := ⟨.vmem, 88, rfl⟩
abbrev cc10_stg1_1 : Ref sig .tc := ⟨.vmem, 89, rfl⟩
abbrev cc10_stg2_0 : Ref sig .tc := ⟨.vmem, 90, rfl⟩
abbrev cc10_stg3_0 : Ref sig .tc := ⟨.vmem, 91, rfl⟩
abbrev cc10_stg3_1 : Ref sig .tc := ⟨.vmem, 92, rfl⟩
abbrev cc11_stg0_0 : Ref sig .tc := ⟨.vmem, 93, rfl⟩
abbrev cc11_stg0_1 : Ref sig .tc := ⟨.vmem, 94, rfl⟩
abbrev cc11_stg1_0 : Ref sig .tc := ⟨.vmem, 95, rfl⟩
abbrev cc11_stg1_1 : Ref sig .tc := ⟨.vmem, 96, rfl⟩
abbrev cc11_stg2_0 : Ref sig .tc := ⟨.vmem, 97, rfl⟩
abbrev cc11_stg2_1 : Ref sig .tc := ⟨.vmem, 98, rfl⟩
abbrev cc11_stg3_0 : Ref sig .tc := ⟨.vmem, 99, rfl⟩
abbrev cc11_stg3_1 : Ref sig .tc := ⟨.vmem, 100, rfl⟩
abbrev cc11_stg4_0 : Ref sig .tc := ⟨.vmem, 101, rfl⟩
abbrev cc11_stg4_1 : Ref sig .tc := ⟨.vmem, 102, rfl⟩
abbrev cc11_stg5_0 : Ref sig .tc := ⟨.vmem, 103, rfl⟩
abbrev cc11_stg5_1 : Ref sig .tc := ⟨.vmem, 104, rfl⟩
abbrev cc11_stg6_0 : Ref sig .tc := ⟨.vmem, 105, rfl⟩
abbrev cc11_stg7_0 : Ref sig .tc := ⟨.vmem, 106, rfl⟩
abbrev cc11_stg8_0 : Ref sig .tc := ⟨.vmem, 107, rfl⟩
abbrev cc11_stg8_1 : Ref sig .tc := ⟨.vmem, 108, rfl⟩
abbrev cc11_stg9_0 : Ref sig .tc := ⟨.vmem, 109, rfl⟩
abbrev cc11_stg9_1 : Ref sig .tc := ⟨.vmem, 110, rfl⟩
abbrev cc11_stg10_0 : Ref sig .tc := ⟨.vmem, 111, rfl⟩
abbrev cc11_stg10_1 : Ref sig .tc := ⟨.vmem, 112, rfl⟩
abbrev cc12_stg0_0 : Ref sig .tc := ⟨.vmem, 113, rfl⟩
abbrev cc12_stg0_1 : Ref sig .tc := ⟨.vmem, 114, rfl⟩
abbrev cc12_stg1_0 : Ref sig .tc := ⟨.vmem, 115, rfl⟩
abbrev cc12_stg1_1 : Ref sig .tc := ⟨.vmem, 116, rfl⟩
abbrev cc12_stg2_0 : Ref sig .tc := ⟨.vmem, 117, rfl⟩
abbrev cc12_stg3_0 : Ref sig .tc := ⟨.vmem, 118, rfl⟩
abbrev cc12_stg3_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem4_0 : DmaSem sig := 55
abbrev cc7_sem4_1 : DmaSem sig := 56
abbrev cc7_sem5_0 : DmaSem sig := 57
abbrev cc7_sem5_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem3_0 : DmaSem sig := 64
abbrev cc8_sem3_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem2_1 : DmaSem sig := 71
abbrev cc9_sem3_0 : DmaSem sig := 72
abbrev cc9_sem3_1 : DmaSem sig := 73
abbrev cc9_sem4_0 : DmaSem sig := 74
abbrev cc9_sem4_1 : DmaSem sig := 75
abbrev cc9_sem5_0 : DmaSem sig := 76
abbrev cc9_sem5_1 : DmaSem sig := 77
abbrev cc9_sem6_0 : DmaSem sig := 78
abbrev cc9_sem7_0 : DmaSem sig := 79
abbrev cc9_sem8_0 : DmaSem sig := 80
abbrev cc9_sem8_1 : DmaSem sig := 81
abbrev cc9_sem9_0 : DmaSem sig := 82
abbrev cc9_sem9_1 : DmaSem sig := 83
abbrev cc9_sem10_0 : DmaSem sig := 84
abbrev cc9_sem10_1 : DmaSem sig := 85
abbrev cc10_sem0_0 : DmaSem sig := 86
abbrev cc10_sem0_1 : DmaSem sig := 87
abbrev cc10_sem1_0 : DmaSem sig := 88
abbrev cc10_sem1_1 : DmaSem sig := 89
abbrev cc10_sem2_0 : DmaSem sig := 90
abbrev cc10_sem3_0 : DmaSem sig := 91
abbrev cc10_sem3_1 : DmaSem sig := 92
abbrev cc11_sem0_0 : DmaSem sig := 93
abbrev cc11_sem0_1 : DmaSem sig := 94
abbrev cc11_sem1_0 : DmaSem sig := 95
abbrev cc11_sem1_1 : DmaSem sig := 96
abbrev cc11_sem2_0 : DmaSem sig := 97
abbrev cc11_sem2_1 : DmaSem sig := 98
abbrev cc11_sem3_0 : DmaSem sig := 99
abbrev cc11_sem3_1 : DmaSem sig := 100
abbrev cc11_sem4_0 : DmaSem sig := 101
abbrev cc11_sem4_1 : DmaSem sig := 102
abbrev cc11_sem5_0 : DmaSem sig := 103
abbrev cc11_sem5_1 : DmaSem sig := 104
abbrev cc11_sem6_0 : DmaSem sig := 105
abbrev cc11_sem7_0 : DmaSem sig := 106
abbrev cc11_sem8_0 : DmaSem sig := 107
abbrev cc11_sem8_1 : DmaSem sig := 108
abbrev cc11_sem9_0 : DmaSem sig := 109
abbrev cc11_sem9_1 : DmaSem sig := 110
abbrev cc11_sem10_0 : DmaSem sig := 111
abbrev cc11_sem10_1 : DmaSem sig := 112
abbrev cc12_sem0_0 : DmaSem sig := 113
abbrev cc12_sem0_1 : DmaSem sig := 114
abbrev cc12_sem1_0 : DmaSem sig := 115
abbrev cc12_sem1_1 : DmaSem sig := 116
abbrev cc12_sem2_0 : DmaSem sig := 117
abbrev cc12_sem3_0 : DmaSem sig := 118
abbrev cc12_sem3_1 : DmaSem sig := 119

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![79], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x2560 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x16 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x8 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x16x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S128x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![3], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x768 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x16 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![3], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x8 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S8x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S256x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x16x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S128x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S256x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S256x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S256x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S256x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x16 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S256x8 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S128x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S8x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S256x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S256x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev stage9_10 : Fin 2 → Memref sig .tc .vmem S256x128 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev grid10 : Pipeline.Grid := ⟨1, ![20], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S128x16x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S128x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S128x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S256x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S256x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S256x16 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S256x8 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S128x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S8x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 2 → Memref sig .tc .vmem S256x128 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S256x128 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]

abbrev stage11_10 : Fin 2 → Memref sig .tc .vmem S256x128 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev grid12 : Pipeline.Grid := ⟨1, ![79], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x16x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S128x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]
-- ==== ReferenceIdeal.lean ====
abbrev S10000x128 : Shape := ⟨2, ![10000, 128]⟩
abbrev S10000x3 : Shape := ⟨2, ![10000, 3]⟩
abbrev S10000 : Shape := ⟨1, ![10000]⟩
abbrev S2500 : Shape := ⟨1, ![2500]⟩
abbrev S2500x3 : Shape := ⟨2, ![2500, 3]⟩
abbrev S625 : Shape := ⟨1, ![625]⟩
abbrev S625x3 : Shape := ⟨2, ![625, 3]⟩
abbrev S131x128 : Shape := ⟨2, ![131, 128]⟩
abbrev S128 : Shape := ⟨1, ![128]⟩
abbrev S_ : Shape := ⟨0, ![]⟩
abbrev S10000x1 : Shape := ⟨2, ![10000, 1]⟩
abbrev S1x10000 : Shape := ⟨2, ![1, 10000]⟩
abbrev S10000x10000 : Shape := ⟨2, ![10000, 10000]⟩
abbrev S3x10000 : Shape := ⟨2, ![3, 10000]⟩
abbrev S10000x16 : Shape := ⟨2, ![10000, 16]⟩
abbrev S10000x16x1 : Shape := ⟨3, ![10000, 16, 1]⟩
abbrev S10000x16x128 : Shape := ⟨3, ![10000, 16, 128]⟩
abbrev S10000x16x3 : Shape := ⟨3, ![10000, 16, 3]⟩
abbrev S10000x1x3 : Shape := ⟨3, ![10000, 1, 3]⟩
abbrev S10000x16x131 : Shape := ⟨3, ![10000, 16, 131]⟩
abbrev S1x1x128 : Shape := ⟨3, ![1, 1, 128]⟩
abbrev S2500x1 : Shape := ⟨2, ![2500, 1]⟩
abbrev S2500x128 : Shape := ⟨2, ![2500, 128]⟩
abbrev S1x2500 : Shape := ⟨2, ![1, 2500]⟩
abbrev S2500x2500 : Shape := ⟨2, ![2500, 2500]⟩
abbrev S3x2500 : Shape := ⟨2, ![3, 2500]⟩
abbrev S2500x16 : Shape := ⟨2, ![2500, 16]⟩
abbrev S2500x16x1 : Shape := ⟨3, ![2500, 16, 1]⟩
abbrev S2500x16x128 : Shape := ⟨3, ![2500, 16, 128]⟩
abbrev S2500x16x3 : Shape := ⟨3, ![2500, 16, 3]⟩
abbrev S2500x1x3 : Shape := ⟨3, ![2500, 1, 3]⟩
abbrev S2500x16x131 : Shape := ⟨3, ![2500, 16, 131]⟩
abbrev S625x1 : Shape := ⟨2, ![625, 1]⟩
abbrev S625x128 : Shape := ⟨2, ![625, 128]⟩
abbrev S1x625 : Shape := ⟨2, ![1, 625]⟩
abbrev S625x625 : Shape := ⟨2, ![625, 625]⟩
abbrev S3x625 : Shape := ⟨2, ![3, 625]⟩
abbrev S625x16 : Shape := ⟨2, ![625, 16]⟩
abbrev S625x16x1 : Shape := ⟨3, ![625, 16, 1]⟩
abbrev S625x16x128 : Shape := ⟨3, ![625, 16, 128]⟩
abbrev S625x16x3 : Shape := ⟨3, ![625, 16, 3]⟩
abbrev S625x1x3 : Shape := ⟨3, ![625, 1, 3]⟩
abbrev S625x16x131 : Shape := ⟨3, ![625, 16, 131]⟩
abbrev S2500x3x1 : Shape := ⟨3, ![2500, 3, 1]⟩
abbrev S2500x3x128 : Shape := ⟨3, ![2500, 3, 128]⟩
abbrev S10000x3x1 : Shape := ⟨3, ![10000, 3, 1]⟩
abbrev S10000x3x128 : Shape := ⟨3, ![10000, 3, 128]⟩

abbrev nBuf : Space → Nat
  | .hbm => 408
  | .vmem => 0
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S2500, .i32⟩
  | 4 => ⟨S2500x3, .f32⟩
  | 5 => ⟨S625, .i32⟩
  | 6 => ⟨S625x3, .f32⟩
  | 7 => ⟨S2500x3, .i32⟩
  | 8 => ⟨S2500x3, .f32⟩
  | 9 => ⟨S10000x3, .i32⟩
  | 10 => ⟨S10000x3, .f32⟩
  | 11 => ⟨S131x128, .f32⟩
  | 12 => ⟨S128, .f32⟩
  | 13 => ⟨S131x128, .f32⟩
  | 14 => ⟨S128, .f32⟩
  | 15 => ⟨S131x128, .f32⟩
  | 16 => ⟨S128, .f32⟩
  | 17 => ⟨S131x128, .f32⟩
  | 18 => ⟨S128, .f32⟩
  | 19 => ⟨S131x128, .f32⟩
  | 20 => ⟨S128, .f32⟩
  | 21 => ⟨S10000x3, .f32⟩
  | 22 => ⟨S_, .f32⟩
  | 23 => ⟨S10000, .f32⟩
  | 24 => ⟨S10000x1, .f32⟩
  | 25 => ⟨S10000x3, .f32⟩
  | 26 => ⟨S_, .f32⟩
  | 27 => ⟨S10000, .f32⟩
  | 28 => ⟨S1x10000, .f32⟩
  | 29 => ⟨S10000x10000, .f32⟩
  | 30 => ⟨S10000x10000, .f32⟩
  | 31 => ⟨S10000x10000, .f32⟩
  | 32 => ⟨S3x10000, .f32⟩
  | 33 => ⟨S10000x10000, .f32⟩
  | 34 => ⟨S_, .f32⟩
  | 35 => ⟨S10000x10000, .f32⟩
  | 36 => ⟨S10000x10000, .f32⟩
  | 37 => ⟨S10000x10000, .f32⟩
  | 38 => ⟨S_, .f32⟩
  | 39 => ⟨S10000x10000, .f32⟩
  | 40 => ⟨S10000x10000, .f32⟩
  | 41 => ⟨S10000x1, .i32⟩
  | 42 => ⟨S1x10000, .i32⟩
  | 43 => ⟨S10000x10000, .i32⟩
  | 44 => ⟨S10000x10000, .i32⟩
  | 45 => ⟨S10000x10000, .i1⟩
  | 46 => ⟨S_, .f32⟩
  | 47 => ⟨S_, .f32⟩
  | 48 => ⟨S10000x10000, .f32⟩
  | 49 => ⟨S10000x10000, .f32⟩
  | 50 => ⟨S10000, .i32⟩
  | 51 => ⟨S10000x1, .i32⟩
  | 52 => ⟨S1x10000, .i32⟩
  | 53 => ⟨S10000x10000, .i32⟩
  | 54 => ⟨S10000x10000, .i32⟩
  | 55 => ⟨S10000x10000, .i1⟩
  | 56 => ⟨S_, .f32⟩
  | 57 => ⟨S_, .f32⟩
  | 58 => ⟨S10000x10000, .f32⟩
  | 59 => ⟨S10000x10000, .f32⟩
  | 60 => ⟨S10000x10000, .f32⟩
  | 61 => ⟨S10000x16, .f32⟩
  | 62 => ⟨S10000x16, .i32⟩
  | 63 => ⟨S_, .i32⟩
  | 64 => ⟨S10000x16, .i32⟩
  | 65 => ⟨S10000x16, .i1⟩
  | 66 => ⟨S_, .i32⟩
  | 67 => ⟨S10000x16, .i32⟩
  | 68 => ⟨S10000x16, .i32⟩
  | 69 => ⟨S10000x16, .i32⟩
  | 70 => ⟨S10000x16x1, .i32⟩
  | 71 => ⟨S10000x16x128, .f32⟩
  | 72 => ⟨S_, .i32⟩
  | 73 => ⟨S10000x16, .i32⟩
  | 74 => ⟨S10000x16, .i1⟩
  | 75 => ⟨S_, .i32⟩
  | 76 => ⟨S10000x16, .i32⟩
  | 77 => ⟨S10000x16, .i32⟩
  | 78 => ⟨S10000x16, .i32⟩
  | 79 => ⟨S10000x16x1, .i32⟩
  | 80 => ⟨S10000x16x3, .f32⟩
  | 81 => ⟨S10000x1x3, .f32⟩
  | 82 => ⟨S10000x16x3, .f32⟩
  | 83 => ⟨S10000x16x3, .f32⟩
  | 84 => ⟨S10000x16x131, .f32⟩
  | 85 => ⟨S10000x16x128, .f32⟩
  | 86 => ⟨S1x1x128, .f32⟩
  | 87 => ⟨S10000x16x128, .f32⟩
  | 88 => ⟨S10000x16x128, .f32⟩
  | 89 => ⟨S_, .f32⟩
  | 90 => ⟨S10000x128, .f32⟩
  | 91 => ⟨S10000x128, .f32⟩
  | 92 => ⟨S_, .f32⟩
  | 93 => ⟨S10000x128, .f32⟩
  | 94 => ⟨S10000x128, .i1⟩
  | 95 => ⟨S_, .f32⟩
  | 96 => ⟨S_, .f32⟩
  | 97 => ⟨S10000x128, .f32⟩
  | 98 => ⟨S10000x128, .f32⟩
  | 99 => ⟨S_, .f32⟩
  | 100 => ⟨S10000x128, .f32⟩
  | 101 => ⟨S10000x128, .f32⟩
  | 102 => ⟨S_, .i32⟩
  | 103 => ⟨S2500, .i32⟩
  | 104 => ⟨S2500, .i1⟩
  | 105 => ⟨S_, .i32⟩
  | 106 => ⟨S2500, .i32⟩
  | 107 => ⟨S2500, .i32⟩
  | 108 => ⟨S2500, .i32⟩
  | 109 => ⟨S2500x1, .i32⟩
  | 110 => ⟨S2500x128, .f32⟩
  | 111 => ⟨S_, .i32⟩
  | 112 => ⟨S2500, .i32⟩
  | 113 => ⟨S2500, .i1⟩
  | 114 => ⟨S_, .i32⟩
  | 115 => ⟨S2500, .i32⟩
  | 116 => ⟨S2500, .i32⟩
  | 117 => ⟨S2500, .i32⟩
  | 118 => ⟨S2500x1, .i32⟩
  | 119 => ⟨S2500, .i32⟩
  | 120 => ⟨S2500x3, .f32⟩
  | 121 => ⟨S_, .f32⟩
  | 122 => ⟨S2500, .f32⟩
  | 123 => ⟨S2500x1, .f32⟩
  | 124 => ⟨S2500x3, .f32⟩
  | 125 => ⟨S_, .f32⟩
  | 126 => ⟨S2500, .f32⟩
  | 127 => ⟨S1x2500, .f32⟩
  | _ => ⟨S10000x128, .f32⟩

abbrev hbmTy0_1 (i : Nat) : BufTy := match i % 128 with
  | 0 => ⟨S2500x2500, .f32⟩
  | 1 => ⟨S2500x2500, .f32⟩
  | 2 => ⟨S2500x2500, .f32⟩
  | 3 => ⟨S3x2500, .f32⟩
  | 4 => ⟨S2500x2500, .f32⟩
  | 5 => ⟨S_, .f32⟩
  | 6 => ⟨S2500x2500, .f32⟩
  | 7 => ⟨S2500x2500, .f32⟩
  | 8 => ⟨S2500x2500, .f32⟩
  | 9 => ⟨S_, .f32⟩
  | 10 => ⟨S2500x2500, .f32⟩
  | 11 => ⟨S2500x2500, .f32⟩
  | 12 => ⟨S2500x1, .i32⟩
  | 13 => ⟨S1x2500, .i32⟩
  | 14 => ⟨S2500x2500, .i32⟩
  | 15 => ⟨S2500x2500, .i32⟩
  | 16 => ⟨S2500x2500, .i1⟩
  | 17 => ⟨S_, .f32⟩
  | 18 => ⟨S_, .f32⟩
  | 19 => ⟨S2500x2500, .f32⟩
  | 20 => ⟨S2500x2500, .f32⟩
  | 21 => ⟨S2500, .i32⟩
  | 22 => ⟨S2500x1, .i32⟩
  | 23 => ⟨S1x2500, .i32⟩
  | 24 => ⟨S2500x2500, .i32⟩
  | 25 => ⟨S2500x2500, .i32⟩
  | 26 => ⟨S2500x2500, .i1⟩
  | 27 => ⟨S_, .f32⟩
  | 28 => ⟨S_, .f32⟩
  | 29 => ⟨S2500x2500, .f32⟩
  | 30 => ⟨S2500x2500, .f32⟩
  | 31 => ⟨S2500x2500, .f32⟩
  | 32 => ⟨S2500x16, .f32⟩
  | 33 => ⟨S2500x16, .i32⟩
  | 34 => ⟨S_, .i32⟩
  | 35 => ⟨S2500x16, .i32⟩
  | 36 => ⟨S2500x16, .i1⟩
  | 37 => ⟨S_, .i32⟩
  | 38 => ⟨S2500x16, .i32⟩
  | 39 => ⟨S2500x16, .i32⟩
  | 40 => ⟨S2500x16, .i32⟩
  | 41 => ⟨S2500x16x1, .i32⟩
  | 42 => ⟨S2500x16x128, .f32⟩
  | 43 => ⟨S_, .i32⟩
  | 44 => ⟨S2500x16, .i32⟩
  | 45 => ⟨S2500x16, .i1⟩
  | 46 => ⟨S_, .i32⟩
  | 47 => ⟨S2500x16, .i32⟩
  | 48 => ⟨S2500x16, .i32⟩
  | 49 => ⟨S2500x16, .i32⟩
  | 50 => ⟨S2500x16x1, .i32⟩
  | 51 => ⟨S2500x16x3, .f32⟩
  | 52 => ⟨S2500x1x3, .f32⟩
  | 53 => ⟨S2500x16x3, .f32⟩
  | 54 => ⟨S2500x16x3, .f32⟩
  | 55 => ⟨S2500x16x131, .f32⟩
  | 56 => ⟨S2500x16x128, .f32⟩
  | 57 => ⟨S1x1x128, .f32⟩
  | 58 => ⟨S2500x16x128, .f32⟩
  | 59 => ⟨S2500x16x128, .f32⟩
  | 60 => ⟨S_, .f32⟩
  | 61 => ⟨S2500x128, .f32⟩
  | 62 => ⟨S2500x128, .f32⟩
  | 63 => ⟨S_, .f32⟩
  | 64 => ⟨S2500x128, .f32⟩
  | 65 => ⟨S2500x128, .i1⟩
  | 66 => ⟨S_, .f32⟩
  | 67 => ⟨S_, .f32⟩
  | 68 => ⟨S2500x128, .f32⟩
  | 69 => ⟨S2500x128, .f32⟩
  | 70 => ⟨S_, .f32⟩
  | 71 => ⟨S2500x128, .f32⟩
  | 72 => ⟨S2500x128, .f32⟩
  | 73 => ⟨S_, .i32⟩
  | 74 => ⟨S625, .i32⟩
  | 75 => ⟨S625, .i1⟩
  | 76 => ⟨S_, .i32⟩
  | 77 => ⟨S625, .i32⟩
  | 78 => ⟨S625, .i32⟩
  | 79 => ⟨S625, .i32⟩
  | 80 => ⟨S625x1, .i32⟩
  | 81 => ⟨S625x128, .f32⟩
  | 82 => ⟨S_, .i32⟩
  | 83 => ⟨S625, .i32⟩
  | 84 => ⟨S625, .i1⟩
  | 85 => ⟨S_, .i32⟩
  | 86 => ⟨S625, .i32⟩
  | 87 => ⟨S625, .i32⟩
  | 88 => ⟨S625, .i32⟩
  | 89 => ⟨S625x1, .i32⟩
  | 90 => ⟨S625, .i32⟩
  | 91 => ⟨S625x3, .f32⟩
  | 92 => ⟨S_, .f32⟩
  | 93 => ⟨S625, .f32⟩
  | 94 => ⟨S625x1, .f32⟩
  | 95 => ⟨S625x3, .f32⟩
  | 96 => ⟨S_, .f32⟩
  | 97 => ⟨S625, .f32⟩
  | 98 => ⟨S1x625, .f32⟩
  | 99 => ⟨S625x625, .f32⟩
  | 100 => ⟨S625x625, .f32⟩
  | 101 => ⟨S625x625, .f32⟩
  | 102 => ⟨S3x625, .f32⟩
  | 103 => ⟨S625x625, .f32⟩
  | 104 => ⟨S_, .f32⟩
  | 105 => ⟨S625x625, .f32⟩
  | 106 => ⟨S625x625, .f32⟩
  | 107 => ⟨S625x625, .f32⟩
  | 108 => ⟨S_, .f32⟩
  | 109 => ⟨S625x625, .f32⟩
  | 110 => ⟨S625x625, .f32⟩
  | 111 => ⟨S625x1, .i32⟩
  | 112 => ⟨S1x625, .i32⟩
  | 113 => ⟨S625x625, .i32⟩
  | 114 => ⟨S625x625, .i32⟩
  | 115 => ⟨S625x625, .i1⟩
  | 116 => ⟨S_, .f32⟩
  | 117 => ⟨S_, .f32⟩
  | 118 => ⟨S625x625, .f32⟩
  | 119 => ⟨S625x625, .f32⟩
  | 120 => ⟨S625, .i32⟩
  | 121 => ⟨S625x1, .i32⟩
  | 122 => ⟨S1x625, .i32⟩
  | 123 => ⟨S625x625, .i32⟩
  | 124 => ⟨S625x625, .i32⟩
  | 125 => ⟨S625x625, .i1⟩
  | 126 => ⟨S_, .f32⟩
  | 127 => ⟨S_, .f32⟩
  | _ => ⟨S10000x128, .f32⟩

abbrev hbmTy0_2 (i : Nat) : BufTy := match i % 128 with
  | 0 => ⟨S625x625, .f32⟩
  | 1 => ⟨S625x625, .f32⟩
  | 2 => ⟨S625x625, .f32⟩
  | 3 => ⟨S625x16, .f32⟩
  | 4 => ⟨S625x16, .i32⟩
  | 5 => ⟨S_, .i32⟩
  | 6 => ⟨S625x16, .i32⟩
  | 7 => ⟨S625x16, .i1⟩
  | 8 => ⟨S_, .i32⟩
  | 9 => ⟨S625x16, .i32⟩
  | 10 => ⟨S625x16, .i32⟩
  | 11 => ⟨S625x16, .i32⟩
  | 12 => ⟨S625x16x1, .i32⟩
  | 13 => ⟨S625x16x128, .f32⟩
  | 14 => ⟨S_, .i32⟩
  | 15 => ⟨S625x16, .i32⟩
  | 16 => ⟨S625x16, .i1⟩
  | 17 => ⟨S_, .i32⟩
  | 18 => ⟨S625x16, .i32⟩
  | 19 => ⟨S625x16, .i32⟩
  | 20 => ⟨S625x16, .i32⟩
  | 21 => ⟨S625x16x1, .i32⟩
  | 22 => ⟨S625x16x3, .f32⟩
  | 23 => ⟨S625x1x3, .f32⟩
  | 24 => ⟨S625x16x3, .f32⟩
  | 25 => ⟨S625x16x3, .f32⟩
  | 26 => ⟨S625x16x131, .f32⟩
  | 27 => ⟨S625x16x128, .f32⟩
  | 28 => ⟨S1x1x128, .f32⟩
  | 29 => ⟨S625x16x128, .f32⟩
  | 30 => ⟨S625x16x128, .f32⟩
  | 31 => ⟨S_, .f32⟩
  | 32 => ⟨S625x128, .f32⟩
  | 33 => ⟨S625x128, .f32⟩
  | 34 => ⟨S_, .f32⟩
  | 35 => ⟨S625x128, .f32⟩
  | 36 => ⟨S625x128, .i1⟩
  | 37 => ⟨S_, .f32⟩
  | 38 => ⟨S_, .f32⟩
  | 39 => ⟨S625x128, .f32⟩
  | 40 => ⟨S625x128, .f32⟩
  | 41 => ⟨S_, .f32⟩
  | 42 => ⟨S625x128, .f32⟩
  | 43 => ⟨S625x128, .f32⟩
  | 44 => ⟨S_, .i32⟩
  | 45 => ⟨S2500x3, .i32⟩
  | 46 => ⟨S2500x3, .i1⟩
  | 47 => ⟨S_, .i32⟩
  | 48 => ⟨S2500x3, .i32⟩
  | 49 => ⟨S2500x3, .i32⟩
  | 50 => ⟨S2500x3, .i32⟩
  | 51 => ⟨S2500x3x1, .i32⟩
  | 52 => ⟨S2500x3x128, .f32⟩
  | 53 => ⟨S2500x3x1, .f32⟩
  | 54 => ⟨S2500x3x128, .f32⟩
  | 55 => ⟨S2500x3x128, .f32⟩
  | 56 => ⟨S_, .f32⟩
  | 57 => ⟨S2500x128, .f32⟩
  | 58 => ⟨S2500x128, .f32⟩
  | 59 => ⟨S_, .i32⟩
  | 60 => ⟨S2500x16, .i32⟩
  | 61 => ⟨S2500x16, .i1⟩
  | 62 => ⟨S_, .i32⟩
  | 63 => ⟨S2500x16, .i32⟩
  | 64 => ⟨S2500x16, .i32⟩
  | 65 => ⟨S2500x16, .i32⟩
  | 66 => ⟨S2500x16x1, .i32⟩
  | 67 => ⟨S2500x16x128, .f32⟩
  | 68 => ⟨S_, .i32⟩
  | 69 => ⟨S2500x16, .i32⟩
  | 70 => ⟨S2500x16, .i1⟩
  | 71 => ⟨S_, .i32⟩
  | 72 => ⟨S2500x16, .i32⟩
  | 73 => ⟨S2500x16, .i32⟩
  | 74 => ⟨S2500x16, .i32⟩
  | 75 => ⟨S2500x16x1, .i32⟩
  | 76 => ⟨S2500x16x3, .f32⟩
  | 77 => ⟨S2500x1x3, .f32⟩
  | 78 => ⟨S2500x16x3, .f32⟩
  | 79 => ⟨S2500x16x3, .f32⟩
  | 80 => ⟨S2500x16x131, .f32⟩
  | 81 => ⟨S2500x16x128, .f32⟩
  | 82 => ⟨S1x1x128, .f32⟩
  | 83 => ⟨S2500x16x128, .f32⟩
  | 84 => ⟨S2500x16x128, .f32⟩
  | 85 => ⟨S_, .f32⟩
  | 86 => ⟨S2500x128, .f32⟩
  | 87 => ⟨S2500x128, .f32⟩
  | 88 => ⟨S_, .f32⟩
  | 89 => ⟨S2500x128, .f32⟩
  | 90 => ⟨S2500x128, .i1⟩
  | 91 => ⟨S_, .f32⟩
  | 92 => ⟨S_, .f32⟩
  | 93 => ⟨S2500x128, .f32⟩
  | 94 => ⟨S2500x128, .f32⟩
  | 95 => ⟨S_, .f32⟩
  | 96 => ⟨S2500x128, .f32⟩
  | 97 => ⟨S2500x128, .f32⟩
  | 98 => ⟨S_, .i32⟩
  | 99 => ⟨S10000x3, .i32⟩
  | 100 => ⟨S10000x3, .i1⟩
  | 101 => ⟨S_, .i32⟩
  | 102 => ⟨S10000x3, .i32⟩
  | 103 => ⟨S10000x3, .i32⟩
  | 104 => ⟨S10000x3, .i32⟩
  | 105 => ⟨S10000x3x1, .i32⟩
  | 106 => ⟨S10000x3x128, .f32⟩
  | 107 => ⟨S10000x3x1, .f32⟩
  | 108 => ⟨S10000x3x128, .f32⟩
  | 109 => ⟨S10000x3x128, .f32⟩
  | 110 => ⟨S_, .f32⟩
  | 111 => ⟨S10000x128, .f32⟩
  | 112 => ⟨S10000x128, .f32⟩
  | 113 => ⟨S_, .i32⟩
  | 114 => ⟨S10000x16, .i32⟩
  | 115 => ⟨S10000x16, .i1⟩
  | 116 => ⟨S_, .i32⟩
  | 117 => ⟨S10000x16, .i32⟩
  | 118 => ⟨S10000x16, .i32⟩
  | 119 => ⟨S10000x16, .i32⟩
  | 120 => ⟨S10000x16x1, .i32⟩
  | 121 => ⟨S10000x16x128, .f32⟩
  | 122 => ⟨S_, .i32⟩
  | 123 => ⟨S10000x16, .i32⟩
  | 124 => ⟨S10000x16, .i1⟩
  | 125 => ⟨S_, .i32⟩
  | 126 => ⟨S10000x16, .i32⟩
  | 127 => ⟨S10000x16, .i32⟩
  | _ => ⟨S10000x128, .f32⟩

abbrev hbmTy0_3 (i : Nat) : BufTy := match i % 128 with
  | 0 => ⟨S10000x16, .i32⟩
  | 1 => ⟨S10000x16x1, .i32⟩
  | 2 => ⟨S10000x16x3, .f32⟩
  | 3 => ⟨S10000x1x3, .f32⟩
  | 4 => ⟨S10000x16x3, .f32⟩
  | 5 => ⟨S10000x16x3, .f32⟩
  | 6 => ⟨S10000x16x131, .f32⟩
  | 7 => ⟨S10000x16x128, .f32⟩
  | 8 => ⟨S1x1x128, .f32⟩
  | 9 => ⟨S10000x16x128, .f32⟩
  | 10 => ⟨S10000x16x128, .f32⟩
  | 11 => ⟨S_, .f32⟩
  | 12 => ⟨S10000x128, .f32⟩
  | 13 => ⟨S10000x128, .f32⟩
  | 14 => ⟨S_, .f32⟩
  | 15 => ⟨S10000x128, .f32⟩
  | 16 => ⟨S10000x128, .i1⟩
  | 17 => ⟨S_, .f32⟩
  | 18 => ⟨S_, .f32⟩
  | 19 => ⟨S10000x128, .f32⟩
  | 20 => ⟨S10000x128, .f32⟩
  | 21 => ⟨S_, .f32⟩
  | 22 => ⟨S10000x128, .f32⟩
  | 23 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v28 : Ref sig .tc := ⟨.hbm, 59, rfl⟩
abbrev main_v29 : Ref sig .tc := ⟨.hbm, 60, rfl⟩
abbrev main_values : Ref sig .tc := ⟨.hbm, 61, rfl⟩
abbrev main_indices : Ref sig .tc := ⟨.hbm, 62, rfl⟩
abbrev main_c : Ref sig .tc := ⟨.hbm, 63, rfl⟩
abbrev main_v30 : Ref sig .tc := ⟨.hbm, 64, rfl⟩
abbrev main_v31 : Ref sig .tc := ⟨.hbm, 65, rfl⟩
abbrev main_c_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_6 : Ref sig .tc := ⟨.hbm, 72, rfl⟩
abbrev main_v37 : Ref sig .tc := ⟨.hbm, 73, rfl⟩
abbrev main_v38 : Ref sig .tc := ⟨.hbm, 74, rfl⟩
abbrev main_c_7 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_8 : Ref sig .tc := ⟨.hbm, 89, rfl⟩
abbrev main_v52 : Ref sig .tc := ⟨.hbm, 90, rfl⟩
abbrev main_v53 : Ref sig .tc := ⟨.hbm, 91, rfl⟩
abbrev main_cst_9 : Ref sig .tc := ⟨.hbm, 92, rfl⟩
abbrev main_v54 : Ref sig .tc := ⟨.hbm, 93, rfl⟩
abbrev main_v55 : Ref sig .tc := ⟨.hbm, 94, rfl⟩
abbrev main_cst_10 : Ref sig .tc := ⟨.hbm, 95, rfl⟩
abbrev main_call2_v0 : Ref sig .tc := ⟨.hbm, 96, rfl⟩
abbrev main_call2_v1 : Ref sig .tc := ⟨.hbm, 97, rfl⟩
abbrev main_v56 : Ref sig .tc := ⟨.hbm, 98, rfl⟩
abbrev main_call3_cst : Ref sig .tc := ⟨.hbm, 99, rfl⟩
abbrev main_call3_v0 : Ref sig .tc := ⟨.hbm, 100, rfl⟩
abbrev main_v57 : Ref sig .tc := ⟨.hbm, 101, rfl⟩
abbrev main_c_11 : Ref sig .tc := ⟨.hbm, 102, rfl⟩
abbrev main_v58 : Ref sig .tc := ⟨.hbm, 103, rfl⟩
abbrev main_v59 : Ref sig .tc := ⟨.hbm, 104, rfl⟩
abbrev main_c_12 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_13 : Ref sig .tc := ⟨.hbm, 111, rfl⟩
abbrev main_v65 : Ref sig .tc := ⟨.hbm, 112, rfl⟩
abbrev main_v66 : Ref sig .tc := ⟨.hbm, 113, rfl⟩
abbrev main_c_14 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_15 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_16 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_17 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_18 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_19 : Ref sig .tc := ⟨.hbm, 145, rfl⟩
abbrev main_call4_v0 : Ref sig .tc := ⟨.hbm, 146, rfl⟩
abbrev main_call4_v1 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_20 : Ref sig .tc := ⟨.hbm, 155, rfl⟩
abbrev main_call5_v0 : Ref sig .tc := ⟨.hbm, 156, rfl⟩
abbrev main_call5_v1 : Ref sig .tc := ⟨.hbm, 157, rfl⟩
abbrev main_v100 : Ref sig .tc := ⟨.hbm, 158, rfl⟩
abbrev main_v101 : Ref sig .tc := ⟨.hbm, 159, rfl⟩
abbrev main_values_21 : Ref sig .tc := ⟨.hbm, 160, rfl⟩
abbrev main_indices_22 : Ref sig .tc := ⟨.hbm, 161, rfl⟩
abbrev main_c_23 : Ref sig .tc := ⟨.hbm, 162, rfl⟩
abbrev main_v102 : Ref sig .tc := ⟨.hbm, 163, rfl⟩
abbrev main_v103 : Ref sig .tc := ⟨.hbm, 164, rfl⟩
abbrev main_c_24 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_c_25 : Ref sig .tc := ⟨.hbm, 171, rfl⟩
abbrev main_v109 : Ref sig .tc := ⟨.hbm, 172, rfl⟩
abbrev main_v110 : Ref sig .tc := ⟨.hbm, 173, rfl⟩
abbrev main_c_26 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_27 : Ref sig .tc := ⟨.hbm, 188, rfl⟩
abbrev main_v124 : Ref sig .tc := ⟨.hbm, 189, rfl⟩
abbrev main_v125 : Ref sig .tc := ⟨.hbm, 190, rfl⟩
abbrev main_cst_28 : Ref sig .tc := ⟨.hbm, 191, rfl⟩
abbrev main_v126 : Ref sig .tc := ⟨.hbm, 192, rfl⟩
abbrev main_v127 : Ref sig .tc := ⟨.hbm, 193, rfl⟩
abbrev main_cst_29 : Ref sig .tc := ⟨.hbm, 194, rfl⟩
abbrev main_call6_v0 : Ref sig .tc := ⟨.hbm, 195, rfl⟩
abbrev main_call6_v1 : Ref sig .tc := ⟨.hbm, 196, rfl⟩
abbrev main_v128 : Ref sig .tc := ⟨.hbm, 197, rfl⟩
abbrev main_call7_cst : Ref sig .tc := ⟨.hbm, 198, rfl⟩
abbrev main_call7_v0 : Ref sig .tc := ⟨.hbm, 199, rfl⟩
abbrev main_v129 : Ref sig .tc := ⟨.hbm, 200, rfl⟩
abbrev main_c_30 : Ref sig .tc := ⟨.hbm, 201, rfl⟩
abbrev main_v130 : Ref sig .tc := ⟨.hbm, 202, rfl⟩
abbrev main_v131 : Ref sig .tc := ⟨.hbm, 203, rfl⟩
abbrev main_c_31 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_c_32 : Ref sig .tc := ⟨.hbm, 210, rfl⟩
abbrev main_v137 : Ref sig .tc := ⟨.hbm, 211, rfl⟩
abbrev main_v138 : Ref sig .tc := ⟨.hbm, 212, rfl⟩
abbrev main_c_33 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_34 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_cst_35 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_36 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_37 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_cst_38 : Ref sig .tc := ⟨.hbm, 244, rfl⟩
abbrev main_call8_v0 : Ref sig .tc := ⟨.hbm, 245, rfl⟩
abbrev main_call8_v1 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_cst_39 : Ref sig .tc := ⟨.hbm, 254, rfl⟩
abbrev main_call9_v0 : Ref sig .tc := ⟨.hbm, 255, rfl⟩
abbrev main_call9_v1 : Ref sig .tc := ⟨.hbm, 256, rfl⟩
abbrev main_v172 : Ref sig .tc := ⟨.hbm, 257, rfl⟩
abbrev main_v173 : Ref sig .tc := ⟨.hbm, 258, rfl⟩
abbrev main_values_40 : Ref sig .tc := ⟨.hbm, 259, rfl⟩
abbrev main_indices_41 : Ref sig .tc := ⟨.hbm, 260, rfl⟩
abbrev main_c_42 : Ref sig .tc := ⟨.hbm, 261, rfl⟩
abbrev main_v174 : Ref sig .tc := ⟨.hbm, 262, rfl⟩
abbrev main_v175 : Ref sig .tc := ⟨.hbm, 263, rfl⟩
abbrev main_c_43 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_c_44 : Ref sig .tc := ⟨.hbm, 270, rfl⟩
abbrev main_v181 : Ref sig .tc := ⟨.hbm, 271, rfl⟩
abbrev main_v182 : Ref sig .tc := ⟨.hbm, 272, rfl⟩
abbrev main_c_45 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_cst_46 : Ref sig .tc := ⟨.hbm, 287, rfl⟩
abbrev main_v196 : Ref sig .tc := ⟨.hbm, 288, rfl⟩
abbrev main_v197 : Ref sig .tc := ⟨.hbm, 289, rfl⟩
abbrev main_cst_47 : Ref sig .tc := ⟨.hbm, 290, rfl⟩
abbrev main_v198 : Ref sig .tc := ⟨.hbm, 291, rfl⟩
abbrev main_v199 : Ref sig .tc := ⟨.hbm, 292, rfl⟩
abbrev main_cst_48 : Ref sig .tc := ⟨.hbm, 293, rfl⟩
abbrev main_call10_v0 : Ref sig .tc := ⟨.hbm, 294, rfl⟩
abbrev main_call10_v1 : Ref sig .tc := ⟨.hbm, 295, rfl⟩
abbrev main_v200 : Ref sig .tc := ⟨.hbm, 296, rfl⟩
abbrev main_call11_cst : Ref sig .tc := ⟨.hbm, 297, rfl⟩
abbrev main_call11_v0 : Ref sig .tc := ⟨.hbm, 298, rfl⟩
abbrev main_v201 : Ref sig .tc := ⟨.hbm, 299, rfl⟩
abbrev main_c_49 : Ref sig .tc := ⟨.hbm, 300, rfl⟩
abbrev main_v202 : Ref sig .tc := ⟨.hbm, 301, rfl⟩
abbrev main_v203 : Ref sig .tc := ⟨.hbm, 302, rfl⟩
abbrev main_c_50 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_cst_51 : Ref sig .tc := ⟨.hbm, 312, rfl⟩
abbrev main_v212 : Ref sig .tc := ⟨.hbm, 313, rfl⟩
abbrev main_v213 : Ref sig .tc := ⟨.hbm, 314, rfl⟩
abbrev main_c_52 : Ref sig .tc := ⟨.hbm, 315, rfl⟩
abbrev main_v214 : Ref sig .tc := ⟨.hbm, 316, rfl⟩
abbrev main_v215 : Ref sig .tc := ⟨.hbm, 317, rfl⟩
abbrev main_c_53 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_c_54 : Ref sig .tc := ⟨.hbm, 324, rfl⟩
abbrev main_v221 : Ref sig .tc := ⟨.hbm, 325, rfl⟩
abbrev main_v222 : Ref sig .tc := ⟨.hbm, 326, rfl⟩
abbrev main_c_55 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_cst_56 : Ref sig .tc := ⟨.hbm, 341, rfl⟩
abbrev main_v236 : Ref sig .tc := ⟨.hbm, 342, rfl⟩
abbrev main_v237 : Ref sig .tc := ⟨.hbm, 343, rfl⟩
abbrev main_cst_57 : Ref sig .tc := ⟨.hbm, 344, rfl⟩
abbrev main_v238 : Ref sig .tc := ⟨.hbm, 345, rfl⟩
abbrev main_v239 : Ref sig .tc := ⟨.hbm, 346, rfl⟩
abbrev main_cst_58 : Ref sig .tc := ⟨.hbm, 347, rfl⟩
abbrev main_call12_v0 : Ref sig .tc := ⟨.hbm, 348, rfl⟩
abbrev main_call12_v1 : Ref sig .tc := ⟨.hbm, 349, rfl⟩
abbrev main_v240 : Ref sig .tc := ⟨.hbm, 350, rfl⟩
abbrev main_call13_cst : Ref sig .tc := ⟨.hbm, 351, rfl⟩
abbrev main_call13_v0 : Ref sig .tc := ⟨.hbm, 352, rfl⟩
abbrev main_v241 : Ref sig .tc := ⟨.hbm, 353, rfl⟩
abbrev main_c_59 : Ref sig .tc := ⟨.hbm, 354, rfl⟩
abbrev main_v242 : Ref sig .tc := ⟨.hbm, 355, rfl⟩
abbrev main_v243 : Ref sig .tc := ⟨.hbm, 356, rfl⟩
abbrev main_c_60 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_cst_61 : Ref sig .tc := ⟨.hbm, 366, rfl⟩
abbrev main_v252 : Ref sig .tc := ⟨.hbm, 367, rfl⟩
abbrev main_v253 : Ref sig .tc := ⟨.hbm, 368, rfl⟩
abbrev main_c_62 : Ref sig .tc := ⟨.hbm, 369, rfl⟩
abbrev main_v254 : Ref sig .tc := ⟨.hbm, 370, rfl⟩
abbrev main_v255 : Ref sig .tc := ⟨.hbm, 371, rfl⟩
abbrev main_c_63 : Ref sig .tc := ⟨.hbm, 372, rfl⟩
abbrev main_v256 : Ref sig .tc := ⟨.hbm, 373, rfl⟩
abbrev main_v257 : Ref sig .tc := ⟨.hbm, 374, rfl⟩
abbrev main_v258 : Ref sig .tc := ⟨.hbm, 375, rfl⟩
abbrev main_v259 : Ref sig .tc := ⟨.hbm, 376, rfl⟩
abbrev main_v260 : Ref sig .tc := ⟨.hbm, 377, rfl⟩
abbrev main_c_64 : Ref sig .tc := ⟨.hbm, 378, rfl⟩
abbrev main_v261 : Ref sig .tc := ⟨.hbm, 379, rfl⟩
abbrev main_v262 : Ref sig .tc := ⟨.hbm, 380, rfl⟩
abbrev main_c_65 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_v274 : Ref sig .tc := ⟨.hbm, 393, rfl⟩
abbrev main_v275 : Ref sig .tc := ⟨.hbm, 394, rfl⟩
abbrev main_cst_66 : Ref sig .tc := ⟨.hbm, 395, rfl⟩
abbrev main_v276 : Ref sig .tc := ⟨.hbm, 396, rfl⟩
abbrev main_v277 : Ref sig .tc := ⟨.hbm, 397, rfl⟩
abbrev main_cst_67 : Ref sig .tc := ⟨.hbm, 398, rfl⟩
abbrev main_v278 : Ref sig .tc := ⟨.hbm, 399, rfl⟩
abbrev main_v279 : Ref sig .tc := ⟨.hbm, 400, rfl⟩
abbrev main_cst_68 : Ref sig .tc := ⟨.hbm, 401, rfl⟩
abbrev main_call14_v0 : Ref sig .tc := ⟨.hbm, 402, rfl⟩
abbrev main_call14_v1 : Ref sig .tc := ⟨.hbm, 403, rfl⟩
abbrev main_v280 : Ref sig .tc := ⟨.hbm, 404, rfl⟩
abbrev main_call15_cst : Ref sig .tc := ⟨.hbm, 405, rfl⟩
abbrev main_call15_v0 : Ref sig .tc := ⟨.hbm, 406, rfl⟩
abbrev main_v281 : Ref sig .tc := ⟨.hbm, 407, rfl⟩

abbrev nD : Nat := 1
abbrev τ : Topo := Topo.v7x

variable {F : FTy → Type} [FloatOps F]
-- ==== Proof.Run1.lean ====
/-
  The kernel's program run from any launch memory: it ends with the arguments as launched and its result at what the
  last boundary holds.
-/
module

public import proofs.«01_k».proof.Proof.Gen.KernelIdeal.Frame

@[expose] public section

set_option maxRecDepth 16384

noncomputable section

namespace Cert.Run1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem kept : θ_run defs (onTc (τ := τ) (main (F := F))) ⟨m, fun _ => 0, ρ⟩ (fun r => ∀ c : Dev nD, ∀ b ∈ Pipeline.ucRefs τ sig,
      r.2.mem (((c : Thread nD τ)).1, b) = W130 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W130 m ρ c b)
    (hfin := fun c s' => by
      iintro ⟨⟨Hh, -⟩, HSI⟩
      unfold StableHlo.held
      imodintro
      iapply (pointsTo_read_all (Pipeline.ucRefs τ sig) (fun b => (((c : Thread nD τ)).1, b)) (W130 m ρ c) s')
      isplitl [Hh] <;> iassumption)
    (hQ := fun s h _ => h)

/-- The result at what the last boundary holds, and the arguments as launched. -/
theorem run : θ_run defs (onTc (τ := τ) (main (F := F))) ⟨m, fun _ => 0, ρ⟩ (fun r => ∀ c : Dev nD,
      r.2.mem ((c.tc : Thread nD τ).loc main_v117) = W130 m ρ c (Proc.devRef .tc main_v117) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20)) :=
  (θ_run defs _ _).mono (fun r h c => ⟨h c _ (mem_uc main_v117 (by decide)),
    (h c _ (mem_uc main_arg0 (by decide))).trans (W130_main_arg0 m ρ c),
    (h c _ (mem_uc main_arg1 (by decide))).trans (W130_main_arg1 m ρ c),
    (h c _ (mem_uc main_arg2 (by decide))).trans (W130_main_arg2 m ρ c),
    (h c _ (mem_uc main_arg3 (by decide))).trans (W130_main_arg3 m ρ c),
    (h c _ (mem_uc main_arg4 (by decide))).trans (W130_main_arg4 m ρ c),
    (h c _ (mem_uc main_arg5 (by decide))).trans (W130_main_arg5 m ρ c),
    (h c _ (mem_uc main_arg6 (by decide))).trans (W130_main_arg6 m ρ c),
    (h c _ (mem_uc main_arg7 (by decide))).trans (W130_main_arg7 m ρ c),
    (h c _ (mem_uc main_arg8 (by decide))).trans (W130_main_arg8 m ρ c),
    (h c _ (mem_uc main_arg9 (by decide))).trans (W130_main_arg9 m ρ c),
    (h c _ (mem_uc main_arg10 (by decide))).trans (W130_main_arg10 m ρ c),
    (h c _ (mem_uc main_arg11 (by decide))).trans (W130_main_arg11 m ρ c),
    (h c _ (mem_uc main_arg12 (by decide))).trans (W130_main_arg12 m ρ c),
    (h c _ (mem_uc main_arg13 (by decide))).trans (W130_main_arg13 m ρ c),
    (h c _ (mem_uc main_arg14 (by decide))).trans (W130_main_arg14 m ρ c),
    (h c _ (mem_uc main_arg15 (by decide))).trans (W130_main_arg15 m ρ c),
    (h c _ (mem_uc main_arg16 (by decide))).trans (W130_main_arg16 m ρ c),
    (h c _ (mem_uc main_arg17 (by decide))).trans (W130_main_arg17 m ρ c),
    (h c _ (mem_uc main_arg18 (by decide))).trans (W130_main_arg18 m ρ c),
    (h c _ (mem_uc main_arg19 (by decide))).trans (W130_main_arg19 m ρ c),
    (h c _ (mem_uc main_arg20 (by decide))).trans (W130_main_arg20 m ρ c)⟩)
    (kept m ρ)

end Cert.Run1
end
-- ==== Proof.Select.lean ====
/-
  Selecting the nearest neighbours of one row. The kernel picks, k times, the least position holding the row's
  minimum and overwrites that entry with `⊤`; the reference sorts the row stably and keeps the first k positions.
  `sorted_eq_pick`: over a row with at least k entries below `⊤`, the two pick the same positions in the same order.
-/
module

public import Idealize.ShloMosaic.Lib.SortPrefix
public import Idealize.ShloMosaic.Lib.Pointwise
public import Mathlib.Data.Fintype.Lattice

@[expose] public section

noncomputable section

namespace Cert.Select

open Idealize.ShloMosaic

/-- `i` is the least position at which `d` takes its minimum. -/
def IsPick {C : Nat} (d : Fin C → EReal) (i : Fin C) : Prop :=
  (∀ c, d i ≤ d c) ∧ ∀ c, d c = d i → i ≤ c

theorem exists_pick {C : Nat} [NeZero C] (d : Fin C → EReal) : ∃ i, IsPick d i := by
  obtain ⟨m, hm⟩ := Finite.exists_min d
  let s : Finset (Fin C) := Finset.univ.filter fun c => d c = d m
  have hs : s.Nonempty := ⟨m, by simp [s]⟩
  refine ⟨s.min' hs, fun c => ?_, fun c hc => ?_⟩
  · have h := s.min'_mem hs
    simp only [s, Finset.mem_filter, Finset.mem_univ, true_and] at h
    rw [h]; exact hm c
  · have h := s.min'_mem hs
    simp only [s, Finset.mem_filter, Finset.mem_univ, true_and] at h
    exact s.min'_le c (by simp [s, hc, h])

theorem IsPick.unique {C : Nat} {d : Fin C → EReal} {i j : Fin C} (hi : IsPick d i) (hj : IsPick d j) : i = j :=
  have e : d i = d j := le_antisymm (hi.1 j) (hj.1 i)
  le_antisymm (hi.2 j e.symm) (hj.2 i e)

/-- The least position of the minimum. -/
def pick {C : Nat} [NeZero C] (d : Fin C → EReal) : Fin C := (exists_pick d).choose

theorem pick_spec {C : Nat} [NeZero C] (d : Fin C → EReal) : IsPick d (pick d) := (exists_pick d).choose_spec

/-- The row after `k` picks. -/
def rest {C : Nat} [NeZero C] (d : Fin C → EReal) : Nat → Fin C → EReal
  | 0 => d
  | k + 1 => fun c => if c = pick (rest d k) then ⊤ else rest d k c

/-- The `k`-th pick. -/
def pickN {C : Nat} [NeZero C] (d : Fin C → EReal) (k : Nat) : Fin C := pick (rest d k)

theorem rest_of_mem {C : Nat} [NeZero C] (d : Fin C → EReal) (k : Nat) (c : Fin C) (j : Nat) (hj : j < k)
    (h : pickN d j = c) : rest d k c = ⊤ := by
  induction k with
  | zero => omega
  | succ k ih =>
    show (if c = pick (rest d k) then ⊤ else rest d k c) = ⊤
    split
    · rfl
    · rename_i hne
      refine ih ?_
      rcases Nat.lt_succ_iff_lt_or_eq.mp hj with h' | h'
      · exact h'
      · subst h'; exact absurd h.symm hne

theorem rest_of_not_mem {C : Nat} [NeZero C] (d : Fin C → EReal) (k : Nat) (c : Fin C)
    (h : ∀ j < k, pickN d j ≠ c) : rest d k c = d c := by
  induction k with
  | zero => rfl
  | succ k ih =>
    show (if c = pick (rest d k) then ⊤ else rest d k c) = d c
    rw [if_neg fun e => h k (Nat.lt_succ_self k) e.symm]
    exact ih fun j hj => h j (Nat.lt_succ_of_lt hj)

section
variable {C : Nat} [NeZero C] (d : Fin C → EReal) (k : Nat)
  (hfin : ∀ s : Finset (Fin C), s.card < k → ∃ c, c ∉ s ∧ d c ≠ ⊤)
include hfin

theorem rest_pick_ne_top (j : Nat) (hj : j < k) : rest d j (pickN d j) ≠ ⊤ := by
  classical
  obtain ⟨c, hc, hd⟩ := hfin ((Finset.range j).image (pickN d))
    (lt_of_le_of_lt Finset.card_image_le (by simpa using hj))
  have hr : rest d j c = d c := rest_of_not_mem d j c fun i hi e =>
    hc (Finset.mem_image.mpr ⟨i, Finset.mem_range.mpr hi, e⟩)
  intro ht
  have := (pick_spec (rest d j)).1 c
  rw [show pick (rest d j) = pickN d j from rfl, ht, hr, top_le_iff] at this
  exact hd this

theorem pickN_ne (i j : Nat) (hij : i < j) (hj : j < k) : pickN d i ≠ pickN d j := fun e =>
  rest_pick_ne_top d k hfin j hj (rest_of_mem d j _ i hij e)

theorem rest_pick (j : Nat) (hj : j < k) : rest d j (pickN d j) = d (pickN d j) :=
  rest_of_not_mem d j _ fun i hi => pickN_ne d k hfin i j hi hj

theorem pickN_ne_top (j : Nat) (hj : j < k) : d (pickN d j) ≠ ⊤ := by
  rw [← rest_pick d k hfin j hj]; exact rest_pick_ne_top d k hfin j hj

/-- A position not among the picks before the `j`-th is not before the `j`-th. -/
theorem not_before (j : Nat) (hj : j < k) (p : Fin C) (hp : ∀ i < j, pickN d i ≠ p) :
    d (pickN d j) ≤ d p ∧ (d p = d (pickN d j) → pickN d j ≤ p) := by
  have h := pick_spec (rest d j)
  have hr := rest_of_not_mem d j p hp
  have hq := rest_pick d k hfin j hj
  refine ⟨?_, fun e => ?_⟩
  · have := h.1 p; rwa [hr, show pick (rest d j) = pickN d j from rfl, hq] at this
  · exact h.2 p (by rw [hr, e, ← hq]; rfl)

end

/-- Inserting depends on the comparator only at the inserted element. -/
theorem insertBefore_congr {ι : Type} (R R' : ι → ι → Bool) (a : ι) (l : List ι) (h : ∀ b ∈ l, R b a = R' b a) :
    insertBefore R a l = insertBefore R' a l := by
  induction l with
  | nil => rfl
  | cons b l ih =>
    simp only [insertBefore, h b (List.mem_cons_self ..)]
    rw [ih fun c hc => h c (List.mem_cons_of_mem _ hc)]

theorem stableSort_congr {ι : Type} (R R' : ι → ι → Bool) (l : List ι)
    (h : l.Pairwise fun a b => R b a = R' b a) : stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.mp hb)

theorem sortedFrom_congr {n : Nat} (R R' : Fin n → Fin n → Bool) (h : ∀ a b : Fin n, a < b → R b a = R' b a) (k : Fin n) :
    sortedFrom R k = sortedFrom R' k := by
  have e : sortPositions n R = sortPositions n R' := by
    unfold sortPositions
    exact stableSort_congr R R' _ ((List.pairwise_lt_finRange n).imp fun {a b} hab => h a b hab)
  unfold sortedFrom
  simp only [List.get_eq_getElem, Fin.val_cast, e]

/-- The kernel's picks are the stable sort's first positions. -/
theorem sorted_eq_pick {N C k : Nat} [NeZero C] (hNC : N ≤ C) (d : Fin C → EReal)
    (hpad : ∀ c : Fin C, N ≤ c.val → d c = ⊤)
    (hfin : ∀ s : Finset (Fin C), s.card < k → ∃ c, c ∉ s ∧ d c ≠ ⊤)
    (R : Fin N → Fin N → Bool) (hR : ∀ a b : Fin N, R a b = decide (d (a.castLE hNC) < d (b.castLE hNC)))
    (hk : k ≤ N) (j : Fin k) : (sortedFrom R (j.castLE hk)).val = (pickN d j.val).val := by
  have hlt : ∀ j : Nat, j < k → (pickN d j).val < N := fun j hj => by
    by_contra hge
    exact pickN_ne_top d k hfin j hj (hpad _ (by omega))
  let σ : Fin k → Fin N := fun j => ⟨(pickN d j.val).val, hlt j.val j.isLt⟩
  have hσ : ∀ j : Fin k, (σ j).castLE hNC = pickN d j.val := fun j => Fin.ext rfl
  have hB := StrictTotalBefore.of_key_then_position (n := N) (κ := EReal) (fun a b => decide (a < b))
    (fun a => d (a.castLE hNC)) (by simp) (fun a b c h h' => by simp at *; exact lt_trans h h')
    (fun a b => by simpa using lt_trichotomy a b)
  rw [sortedFrom_congr R _ (fun a b hab => ?_) (j.castLE hk), hB.sortedFrom_eq_of_prefix hk σ ?_ ?_ ?_ j]
  · intro a b hab
    have e : (pickN d a.val).val = (pickN d b.val).val := congrArg (fun x : Fin N => x.val) hab
    rcases lt_trichotomy a.val b.val with h | h | h
    · exact absurd (Fin.ext e) (pickN_ne d k hfin _ _ h b.isLt)
    · exact Fin.ext h
    · exact absurd (Fin.ext e.symm) (pickN_ne d k hfin _ _ h a.isLt)
  · intro a b hab
    have h := not_before d k hfin a.val a.isLt (pickN d b.val) fun i hi =>
      pickN_ne d k hfin i b.val (lt_trans hi hab) b.isLt
    simp only [hσ, Bool.or_eq_false_iff, decide_eq_false_iff_not, not_lt, Bool.and_eq_false_iff]
    refine ⟨h.1, ?_⟩
    by_cases e : d (pickN d b.val) = d (pickN d a.val)
    · exact Or.inr (h.2 e)
    · exact Or.inl e
  · intro a p hp
    have h := not_before d k hfin a.val a.isLt (p.castLE hNC) fun i hi e =>
      hp ⟨i, lt_trans hi a.isLt⟩ (Fin.ext (show (pickN d i).val = p.val from congrArg (fun x : Fin C => x.val) e))
    simp only [hσ, Bool.or_eq_false_iff, decide_eq_false_iff_not, not_lt, Bool.and_eq_false_iff]
    refine ⟨h.1, ?_⟩
    by_cases e : d (p.castLE hNC) = d (pickN d a.val)
    · exact Or.inr (h.2 e)
    · exact Or.inl e
  · rw [hR]
    have : ¬ b < a := not_lt.mpr hab.le
    simp [this]

end Cert.Select

end
-- ==== Proof.Rows.lean ====
/-
  One pick of the nearest-neighbour search, as the kernel writes it on a block of 256 rows: the row's minimum, the
  least position holding it, and the entry there overwritten. `pickV_apply` and `dropN_apply` read the chain of such steps
  at an index by the picks of Select.lean.
-/
module

public import proofs.«01_k».proof.Proof.Select
public import Idealize.ShloMosaic.Lib.Pointwise.IndexVar

@[expose] public section

set_option maxRecDepth 16384

noncomputable section

namespace Cert.Rows

open Idealize.ShloMosaic Cert.Select

/-- The minimum of a row, as the fold the machine computes. -/
theorem fold_min_pick {C : Nat} [NeZero C] (d : Fin C → EReal) : Finset.fold min ⊤ d Finset.univ = d (pick d) := by
  apply le_antisymm
  · exact (Finset.fold_min_le _).mpr (Or.inr ⟨pick d, Finset.mem_univ _, le_rfl⟩)
  · exact (Finset.le_fold_min _).mpr ⟨le_top, fun c _ => (pick_spec d).1 c⟩

theorem toInt_ofNat_small (n : Nat) (h : n < 2147483647) : (BitVec.ofNat 32 n).toInt = n := by
  have hn : (BitVec.ofNat 32 n).toNat = n := by rw [BitVec.toNat_ofNat]; exact Nat.mod_eq_of_lt (by omega)
  rw [BitVec.toInt_eq_toNat_of_lt (by rw [hn]; omega), hn]

theorem toInt_minsi (a b : BitVec 32) : (IntOp.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

/-- The least position holding the row's minimum, as the machine computes it: the signed minimum of the positions that
    hold it. -/
theorem fold_minsi_pick {C : Nat} [NeZero C] (hC : C ≤ 2147483647) (d : Fin C → EReal) (m : EReal)
    (hm : m = d (pick d)) :
    Finset.fold IntOp.minsi 2147483647#32 (fun x : Fin C => if d x = m then BitVec.ofNat 32 x.val else 2147483647#32)
      Finset.univ = BitVec.ofNat 32 (pick d).val := by
  have hlt : ∀ c : Fin C, c.val < 2147483647 := fun c => lt_of_lt_of_le c.isLt hC
  have hbig : (2147483647#32 : BitVec 32).toInt = 2147483647 := by decide
  apply BitVec.eq_of_toInt_eq
  rw [← Finset.fold_hom (op' := min) toInt_minsi, toInt_ofNat_small _ (hlt _), hbig]
  apply le_antisymm
  · refine (Finset.fold_min_le _).mpr (Or.inr ⟨pick d, Finset.mem_univ _, ?_⟩)
    rw [if_pos hm.symm, toInt_ofNat_small _ (hlt _)]
  · refine (Finset.le_fold_min _).mpr ⟨?_, fun c _ => ?_⟩
    · have := hlt (pick d); omega
    · split
      · rename_i h
        have h2 : pick d ≤ c := (pick_spec d).2 c (by rw [h, hm])
        have h3 : (pick d).val ≤ c.val := h2
        rw [toInt_ofNat_small _ (hlt _)]; omega
      · rw [hbig]; have := hlt (pick d); omega

theorem inf_word : Ideal.ofBits .f32 2139095040#32 = (⊤ : EReal) := by
  first | rfl | simp [Ideal.ofBits] | decide

/-- The squared distance of two rows, the way both programs write it: squares and products summed apart, cut at zero. -/
def dist2 {K : Nat} (a b : Fin K → EReal) : EReal :=
  max (∑ e, a e * a e + ∑ e, b e * b e - Ideal.ofBits .f32 1073741824#32 * ∑ e, a e * b e) 0

/-- The row of distances the kernel selects from: `⊤` at the padding and at the point itself. -/
def padRow (n : Nat) {C : Nat} (P : Fin C → Fin 8 → EReal) (Q : Fin C → Fin 8 → EReal) (r c : Fin C) : EReal :=
  if n ≤ c.val then ⊤ else if c = r then ⊤ else dist2 (P r) (Q c)

/-- The two masks of the kernel's rows, as conditions on positions. -/
theorem mask_row (n k r i : Nat) (hn : n < 100000) (hk : k < 100000) (hr : r < 256) (hi : i < 1000) (X : EReal) :
    Scalar.select (IntOp.cmpi .sge (BitVec.ofNat 32 k) (BitVec.ofNat 32 n)) (Ideal.ofBits .f32 2139095040#32)
      (Scalar.select (IntOp.cmpi .eq (BitVec.ofNat 32 k)
          (IntOp.addi (BitVec.ofNat 32 r) (Scalar.muli (BitVec.ofNat 32 i) 256#32)))
        (Ideal.ofBits .f32 2139095040#32) X)
      = if n ≤ k then ⊤ else if k = i * 256 + r then ⊤ else X := by
  have e1 : (IntOp.cmpi .sge (BitVec.ofNat 32 k) (BitVec.ofNat 32 n) = 1#1) = (n ≤ k) := by
    show (BitVec.ofBool ((BitVec.ofNat 32 n).sle (BitVec.ofNat 32 k)) = 1#1) = _
    have : (BitVec.ofNat 32 n).sle (BitVec.ofNat 32 k) = decide (n ≤ k) := by
      rw [BitVec.sle, toInt_ofNat_small _ (by omega), toInt_ofNat_small _ (by omega)]
      simp
    rw [this]; by_cases h : n ≤ k <;> simp [h]
  have e2 : (IntOp.cmpi .eq (BitVec.ofNat 32 k) (IntOp.addi (BitVec.ofNat 32 r) (Scalar.muli (BitVec.ofNat 32 i) 256#32)) = 1#1)
      = (k = i * 256 + r) := by
    have hw : IntOp.addi (BitVec.ofNat 32 r) (Scalar.muli (BitVec.ofNat 32 i) 256#32) = BitVec.ofNat 32 (i * 256 + r) := by
      show BitVec.ofNat 32 r + BitVec.ofNat 32 i * BitVec.ofNat 32 256 = _
      rw [← BitVec.ofNat_mul, ← BitVec.ofNat_add, Nat.add_comm]
    rw [hw]
    show (BitVec.ofBool (BitVec.ofNat 32 k == BitVec.ofNat 32 (i * 256 + r)) = 1#1) = _
    by_cases h : k = i * 256 + r
    · subst h; simp
    · have : ¬ BitVec.ofNat 32 k = BitVec.ofNat 32 (i * 256 + r) := fun e => h (by
        have := congrArg BitVec.toInt e
        rw [toInt_ofNat_small _ (by omega), toInt_ofNat_small _ (by omega)] at this
        omega)
      rw [beq_eq_false_iff_ne.mpr this]; simp [h]
  unfold Scalar.select
  simp only [show (1 : BitVec 1) = 1#1 from rfl, e1, e2, inf_word]

/-- A block of 256 rows of `C` entries, one value per row, and one value per row as a column. -/
abbrev SC (C : Nat) : Shape := ⟨2, ![256, C]⟩
abbrev S1 : Shape := ⟨1, ![256]⟩
abbrev S11 : Shape := ⟨2, ![256, 1]⟩

section
variable {C : Nat} (hi : (SC C).Iotas .tc 32 [1]) (hr : (SC C).Reduces [1] S1) (hs : S1.ShapeCasts S11)
  (hb : S11.Broadcasts (SC C))

/-- The rows' minima, as a column. -/
def minV (d : FVec Ideal (SC C) .f32) : FVec Ideal S11 .f32 :=
  shapeCast S11 (multiReduction .minimumf [1] S1 d 0x7F800000#32 hr (.inl rfl) rfl) hs

/-- Where a row's minimum stands, its position; elsewhere the greatest word. -/
def candV (d : FVec Ideal (SC C) .f32) : IVec (SC C) 32 :=
  select (cmpf .oeq d (broadcastTo (SC C) (minV hr hs d) hb)) (iota .tc (SC C) 32 [1] hi)
    (broadcast (SC C) 2147483647#32)

/-- The picks of the rows. -/
def pickV (d : FVec Ideal (SC C) .f32) : IVec S1 32 :=
  multiReductionI .minsi [1] S1 (candV hi hr hs hb d) 2147483647#32 hr rfl

/-- Where the rows' picks stand. -/
def hitV (d : FVec Ideal (SC C) .f32) : IVec (SC C) 1 :=
  cmpi .eq (iota .tc (SC C) 32 [1] hi) (broadcastTo (SC C) (shapeCast S11 (pickV hi hr hs hb d) hs) hb)

/-- The rows with the picks overwritten. -/
def dropV (d : FVec Ideal (SC C) .f32) : FVec Ideal (SC C) .f32 :=
  select (hitV hi hr hs hb d) (broadcast (SC C) (Scalar.ofBits .f32 0x7F800000#32)) d

/-- The rows after `k` picks. -/
def dropN (d : FVec Ideal (SC C) .f32) : Nat → FVec Ideal (SC C) .f32
  | 0 => d
  | k + 1 => dropV hi hr hs hb (dropN d k)

theorem minV_apply (d : FVec Ideal (SC C) .f32) (r : Fin 256) (z : Fin 1) :
    minV hr hs d (ix2 r z) = Finset.fold min ⊤ (fun c => d (ix2 r c)) Finset.univ := by
  rw [← inf_word]
  pointwise [minV]

theorem pickV_read (d : FVec Ideal (SC C) .f32) (r : Fin 256) :
    pickV hi hr hs hb d (ix1 r) = Finset.fold IntOp.minsi 2147483647#32
      (fun x : Fin C => if d (ix2 r x) = Finset.fold min ⊤ (fun c => d (ix2 r c)) Finset.univ
        then BitVec.ofNat 32 x.val else 2147483647#32) Finset.univ := by
  rw [← inf_word]
  pointwise [pickV, candV, minV]

theorem dropV_read (d : FVec Ideal (SC C) .f32) (r : Fin 256) (c : Fin C) :
    dropV hi hr hs hb d (ix2 r c) = Scalar.select (IntOp.cmpi .eq (BitVec.ofNat 32 c.val) (pickV hi hr hs hb d (ix1 r)))
      ⊤ (d (ix2 r c)) := by
  rw [← inf_word]
  generalize hp : pickV hi hr hs hb d = p
  pointwise [dropV, hitV, hp]

variable [NeZero C] (hC : C ≤ 2147483647)
include hC

theorem pickV_apply (d : FVec Ideal (SC C) .f32) (r : Fin 256) :
    pickV hi hr hs hb d (ix1 r) = BitVec.ofNat 32 (pick fun c => d (ix2 r c)).val := by
  rw [pickV_read, fold_minsi_pick hC (fun c => d (ix2 r c)) _ (fold_min_pick _)]

theorem ofNat_eq_iff (a b : Nat) (ha : a < 2147483647) (hb : b < 2147483647) :
    BitVec.ofNat 32 a = BitVec.ofNat 32 b ↔ a = b := by
  constructor
  · intro h
    have := congrArg BitVec.toInt h
    rw [toInt_ofNat_small _ ha, toInt_ofNat_small _ hb] at this
    omega
  · rintro rfl; rfl

theorem dropV_apply (d : FVec Ideal (SC C) .f32) (r : Fin 256) (c : Fin C) :
    dropV hi hr hs hb d (ix2 r c) = if c = pick (fun c => d (ix2 r c)) then ⊤ else d (ix2 r c) := by
  have hlt : ∀ c : Fin C, c.val < 2147483647 := fun c => lt_of_lt_of_le c.isLt hC
  rw [dropV_read, pickV_apply hi hr hs hb hC]
  by_cases h : c = pick fun c => d (ix2 r c)
  · rw [if_pos h, ← h]
    simp [Scalar.select, IntOp.cmpi]
  · rw [if_neg h]
    have h' : ¬ BitVec.ofNat 32 c.val = BitVec.ofNat 32 (pick fun c => d (ix2 r c)).val := fun e =>
      h (Fin.ext ((ofNat_eq_iff hC _ _ (hlt _) (hlt _)).mp e))
    show (if BitVec.ofBool (BitVec.ofNat 32 c.val == BitVec.ofNat 32 (pick fun c => d (ix2 r c)).val) = 1#1 then _ else _) = _
    rw [beq_eq_false_iff_ne.mpr h']; rfl

theorem dropN_apply (d : FVec Ideal (SC C) .f32) (k : Nat) (r : Fin 256) (c : Fin C) :
    dropN hi hr hs hb d k (ix2 r c) = rest (fun c => d (ix2 r c)) k c := by
  induction k generalizing c with
  | zero => rfl
  | succ k ih =>
    show dropV hi hr hs hb (dropN hi hr hs hb d k) (ix2 r c) = _
    rw [dropV_apply hi hr hs hb hC, ih, show (fun c => dropN hi hr hs hb d k (ix2 r c)) = rest (fun c => d (ix2 r c)) k from
      funext ih]
    rfl

/-- The column of the `k`-th picks. -/
theorem col_apply (d : FVec Ideal (SC C) .f32) (k : Nat) (r : Fin 256) (z : Fin 1) :
    shapeCast S11 (pickV hi hr hs hb (dropN hi hr hs hb d k)) hs (ix2 r z)
      = BitVec.ofNat 32 (pickN (fun c => d (ix2 r c)) k).val := by
  have e := pickV_apply hi hr hs hb hC (dropN hi hr hs hb d k) r
  rw [show (fun c => dropN hi hr hs hb d k (ix2 r c)) = rest (fun c => d (ix2 r c)) k from
    funext fun c => dropN_apply hi hr hs hb hC d k r c] at e
  rw [show (pickN (fun c => d (ix2 r c)) k) = pick (rest (fun c => d (ix2 r c)) k) from rfl, ← e]
  generalize pickV hi hr hs hb (dropN hi hr hs hb d k) = v
  pointwise []
end

end Cert.Rows

end
-- ==== Proof.Layer.lean ====
/-
  One layer of the network as mathematics, at any number of points and features: the nearest neighbours of a point, the
  maximum over them of an affine map of a neighbour's features and relative position, and the two facts that the
  kernel's way of computing them rests on: the picks on the padded rows of distances are the neighbours, and the point's
  own product may be taken out of the maximum.
-/
module

public import proofs.«01_k».proof.Proof.Rows
public import Mathlib.Data.EReal.Operations

@[expose] public section

set_option maxRecDepth 16384

noncomputable section

namespace Cert.Layer

open Idealize.ShloMosaic Cert.Select Cert.Rows

/-- The value is a real number. -/
def Real? (x : EReal) : Prop := ∃ r : ℝ, x = (r : EReal)

theorem real_add {x y : EReal} (hx : Real? x) (hy : Real? y) : Real? (x + y) := by
  obtain ⟨a, rfl⟩ := hx; obtain ⟨b, rfl⟩ := hy; exact ⟨a + b, (EReal.coe_add a b).symm⟩
theorem real_sub {x y : EReal} (hx : Real? x) (hy : Real? y) : Real? (x - y) := by
  obtain ⟨a, rfl⟩ := hx; obtain ⟨b, rfl⟩ := hy; exact ⟨a - b, (EReal.coe_sub a b).symm⟩
theorem real_mul {x y : EReal} (hx : Real? x) (hy : Real? y) : Real? (x * y) := by
  obtain ⟨a, rfl⟩ := hx; obtain ⟨b, rfl⟩ := hy; exact ⟨a * b, (EReal.coe_mul a b).symm⟩
theorem real_zero : Real? (0 : EReal) := ⟨0, EReal.coe_zero.symm⟩
theorem real_max {x y : EReal} (hx : Real? x) (hy : Real? y) : Real? (max x y) := by
  rcases max_choice x y with h | h <;> rw [h] <;> assumption
theorem real_sum {ι : Type} (s : Finset ι) (f : ι → EReal) (hf : ∀ i, Real? (f i)) : Real? (∑ i ∈ s, f i) := by
  classical
  induction s using Finset.induction_on with
  | empty => simpa using real_zero
  | insert a s ha ih => rw [Finset.sum_insert ha]; exact real_add (hf a) ih
theorem real_ne_top {x : EReal} (hx : Real? x) : x ≠ ⊤ := by obtain ⟨a, rfl⟩ := hx; exact EReal.coe_ne_top a
theorem real_ne_bot {x : EReal} (hx : Real? x) : x ≠ ⊥ := by obtain ⟨a, rfl⟩ := hx; exact EReal.coe_ne_bot a

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem real_two : Real? (Ideal.ofBits .f32 1073741824#32) := ⟨2, by
  simp [Ideal.ofBits, Ideal.ieee]
  rw [← EReal.coe_mul]; norm_num⟩

/-- The rows of positions widened to eight coordinates with `z`, and lengthened with `far`. -/
def padPos {n : Nat} (N : Nat) (z far : EReal) (p : Fin n → Fin 3 → EReal) : Fin N → Fin 8 → EReal := fun r e =>
  if h : r.val < n then (if h' : e.val < 3 then p ⟨r.val, h⟩ ⟨e.val, h'⟩ else z) else far

/-- A point's distances to all points, `⊤` to itself. -/
def dRow {n : Nat} (p : Fin n → Fin 3 → EReal) (r c : Fin n) : EReal := if c = r then ⊤ else dist2 (p r) (p c)

/-- The neighbours of a point: the stable order of the other points by distance. -/
def nbr {n : Nat} (hn : 16 ≤ n) (p : Fin n → Fin 3 → EReal) (r : Fin n) (k : Fin 16) : Fin n :=
  sortedFrom (fun a b => decide (dRow p r a < dRow p r b)) (k.castLE hn)

theorem dist2_pad {n N : Nat} (far : EReal) (p : Fin n → Fin 3 → EReal) (r c : Fin N) (hr : r.val < n) (hc : c.val < n) :
    dist2 (padPos N 0 far p r) (padPos N 0 far p c) = dist2 (p ⟨r.val, hr⟩) (p ⟨c.val, hc⟩) := by
  unfold dist2 padPos
  simp [Fin.sum_univ_eight, Fin.sum_univ_three, hr, hc]

theorem real_dist2 {K : Nat} (a b : Fin K → EReal) (ha : ∀ e, Real? (a e)) (hb : ∀ e, Real? (b e)) : Real? (dist2 a b) :=
  real_max (real_sub (real_add (real_sum _ _ fun e => real_mul (ha e) (ha e)) (real_sum _ _ fun e => real_mul (hb e) (hb e)))
    (real_mul real_two (real_sum _ _ fun e => real_mul (ha e) (hb e)))) real_zero

/-- The kernel's picks on a padded row are the point's neighbours. -/
theorem pick_nbr {n N : Nat} [NeZero N] (hn : 17 ≤ n) (hnN : n ≤ N) (far : EReal) (p : Fin n → Fin 3 → EReal)
    (hp : ∀ i e, Real? (p i e)) (r : Fin N) (hr : r.val < n) (k : Fin 16) :
    (pickN (fun c => padRow n (padPos N 0 far p) (padPos N 0 far p) r c) k.val).val
      = (nbr (by omega) p ⟨r.val, hr⟩ k).val := by
  unfold nbr
  refine (sorted_eq_pick hnN _ (fun c hc => by unfold padRow; rw [if_pos hc]) ?_ _ ?_ (by omega) k).symm
  · intro s hs
    have hcard : (Finset.univ.map (Fin.castLEEmb hnN)).card = n := by rw [Finset.card_map, Finset.card_univ, Fintype.card_fin]
    have h2 : (insert r s).card < n := lt_of_le_of_lt (Finset.card_insert_le _ _) (by omega)
    obtain ⟨c, hc, hcs⟩ := Finset.exists_mem_notMem_of_card_lt_card (lt_of_lt_of_eq h2 hcard.symm)
    obtain ⟨c', -, rfl⟩ := Finset.mem_map.mp hc
    refine ⟨_, fun h => hcs (Finset.mem_insert_of_mem h), ?_⟩
    have hc' : (Fin.castLEEmb hnN c').val < n := c'.isLt
    have hne : Fin.castLEEmb hnN c' ≠ r := fun h => hcs (Finset.mem_insert.mpr (Or.inl h))
    unfold padRow
    rw [if_neg (by omega), if_neg hne, dist2_pad far p _ _ hr hc']
    exact real_ne_top (real_dist2 _ _ (hp _) (hp _))
  · intro a b
    have e : ∀ a : Fin n, padRow n (padPos N 0 far p) (padPos N 0 far p) r (a.castLE hnN) = dRow p ⟨r.val, hr⟩ a := fun a => by
      have ha : (a.castLE hnN).val < n := a.isLt
      unfold padRow dRow
      rw [if_neg (show ¬ n ≤ (a.castLE hnN).val by omega), dist2_pad far p _ _ hr ha]
      by_cases h : a = ⟨r.val, hr⟩
      · rw [if_pos (show a.castLE hnN = r from Fin.ext (by rw [h]; rfl)), if_pos (show (a : Fin n) = ⟨r.val, hr⟩ from h)]
      · rw [if_neg (fun h' : a.castLE hnN = r => h (Fin.ext (congrArg (fun z : Fin N => z.val) h' : (a.castLE hnN).val = r.val))), if_neg h]; rfl
    rw [e, e]

theorem fold_max_arg (f : Fin 16 → EReal) (k : Fin 16) (h : ∀ j, f j ≤ f k) : Finset.fold max ⊥ f Finset.univ = f k :=
  le_antisymm ((Finset.fold_max_le _).mpr ⟨bot_le, fun j _ => h j⟩) ((Finset.le_fold_max _).mpr (Or.inr ⟨k, Finset.mem_univ _, le_rfl⟩))

/-- A neighbour's features joined with its position relative to the point. -/
def feat {D : Nat} (x : Fin D → EReal) (p q : Fin 3 → EReal) (i : Fin (D + 3)) : EReal :=
  if h : i.val < D then x ⟨i.val, h⟩ else p ⟨i.val - D, by omega⟩ - q ⟨i.val - D, by omega⟩

/-- What one neighbour contributes. -/
def msg {D : Nat} (x : Fin D → EReal) (p q : Fin 3 → EReal) (w : Fin (D + 3) → EReal) (b : EReal) : EReal :=
  ∑ i, feat x p q i * w i + b

theorem real_msg {D : Nat} (x : Fin D → EReal) (p q : Fin 3 → EReal) (w : Fin (D + 3) → EReal) (b : EReal)
    (hx : ∀ i, Real? (x i)) (hp : ∀ e, Real? (p e)) (hq : ∀ e, Real? (q e)) (hw : ∀ i, Real? (w i)) (hb : Real? b) :
    Real? (msg x p q w b) := by
  refine real_add (real_sum _ _ fun i => real_mul ?_ (hw i)) hb
  unfold feat; split
  · exact hx _
  · exact real_sub (hp _) (hq _)

/-- The neighbour's contribution, with the products of the two positions taken apart. -/
theorem msg_split {D : Nat} (x : Fin D → EReal) (p q : Fin 3 → EReal) (w : Fin (D + 3) → EReal) (b : EReal)
    (hx : ∀ i, Real? (x i)) (hp : ∀ e, Real? (p e)) (hq : ∀ e, Real? (q e)) (hw : ∀ i, Real? (w i)) (hb : Real? b) :
    msg x p q w b = (∑ i : Fin D, x i * w (i.castAdd 3) + ∑ e : Fin 3, p e * w (e.natAdd D))
      - ∑ e : Fin 3, q e * w (e.natAdd D) + b := by
  choose x' hx' using hx
  choose p' hp' using hp
  choose q' hq' using hq
  choose w' hw' using hw
  obtain ⟨b', rfl⟩ := hb
  unfold msg
  rw [Fin.sum_univ_add]
  have h1 : ∀ i : Fin D, feat x p q (i.castAdd 3) = x i := fun i => by
    unfold feat; rw [dif_pos (by simp)]; rfl
  have h2 : ∀ e : Fin 3, feat x p q (e.natAdd D) = p e - q e := fun e => by
    unfold feat
    rw [dif_neg (by simp)]
    have : (⟨(e.natAdd D).val - D, by simp⟩ : Fin 3) = e := Fin.ext (by simp)
    rw [this]
  simp only [h1, h2, hx', hp', hq', hw', ← EReal.coe_sub, ← EReal.coe_mul, sum_coe, ← EReal.coe_add, EReal.coe_eq_coe_iff]
  simp only [sub_mul, Finset.sum_sub_distrib]
  ring

/-- A layer's value at a point and a column: the maximum of the neighbours' contributions, cut at zero. -/
def convAt {n D H : Nat} (hn : 16 ≤ n) (x : Fin n → Fin D → EReal) (p : Fin n → Fin 3 → EReal) (w : Fin (D + 3) → Fin H → EReal)
    (b : Fin H → EReal) (r : Fin n) (d : Fin H) : EReal :=
  max (Finset.fold max ⊥ (fun k => msg (x (nbr hn p r k)) (p (nbr hn p r k)) (p r) (fun i => w i d) (b d)) Finset.univ) 0

theorem real_fold (f : Fin 16 → EReal) (hf : ∀ k, Real? (f k)) : Real? (Finset.fold max ⊥ f Finset.univ) := by
  obtain ⟨k, hk⟩ := Finite.exists_max f
  rw [fold_max_arg f k hk]; exact hf k

/-- A real shift may be taken out of the maximum. -/
theorem fold_shift (g : Fin 16 → EReal) (q b : EReal) (hg : ∀ k, Real? (g k)) (hq : Real? q) (hb : Real? b) :
    Finset.fold max ⊥ g Finset.univ - q + b = Finset.fold max ⊥ (fun k => g k - q + b) Finset.univ := by
  obtain ⟨k, hk⟩ := Finite.exists_max g
  rw [fold_max_arg g k hk, fold_max_arg (fun k => g k - q + b) k]
  intro j
  exact add_le_add_left (EReal.sub_le_sub (hk j) le_rfl) _

/-- The kernel's value of a layer's column is the maximum of the neighbours' contributions. -/
theorem conv_eq {D : Nat} (x : Fin 16 → Fin D → EReal) (p : Fin 16 → Fin 3 → EReal) (q : Fin 3 → EReal) (w : Fin (D + 3) → EReal) (b : EReal)
    (hx : ∀ k i, Real? (x k i)) (hp : ∀ k e, Real? (p k e)) (hq : ∀ e, Real? (q e)) (hw : ∀ i, Real? (w i)) (hb : Real? b) :
    Finset.fold max ⊥ (fun k => ∑ i : Fin D, x k i * w (i.castAdd 3) + ∑ e : Fin 3, p k e * w (e.natAdd D)) Finset.univ
        - ∑ e : Fin 3, q e * w (e.natAdd D) + b
      = Finset.fold max ⊥ (fun k => msg (x k) (p k) q w b) Finset.univ := by
  rw [fold_shift _ _ _ (fun k => real_add (real_sum _ _ fun i => real_mul (hx k i) (hw _)) (real_sum _ _ fun e => real_mul (hp k e) (hw _)))
    (real_sum _ _ fun e => real_mul (hq e) (hw _)) hb]
  exact congrArg (fun f => Finset.fold max ⊥ f Finset.univ) (funext fun k => (msg_split _ _ _ _ _ (hx k) (hp k) hq hw hb).symm)

/-- A product over eight padded coordinates is the product over the three. -/
theorem sum_pad (z : EReal) (p q : Fin 3 → EReal) :
    ∑ e : Fin 8, (if h : e.val < 3 then p ⟨e.val, h⟩ else z) * (if h : e.val < 3 then q ⟨e.val, h⟩ else 0) = ∑ e, p e * q e := by
  rw [Fin.sum_univ_eight, Fin.sum_univ_three]
  simp

/-- The kernel's value of a layer, from its padded arrays, is the layer's. -/
theorem conv_pad {n N D H : Nat} (hn : 16 ≤ n) (hnN : n ≤ N) (far : EReal) (x : Fin n → Fin D → EReal) (p : Fin n → Fin 3 → EReal) (w : Fin (D + 3) → Fin H → EReal)
    (b : Fin H → EReal) (hx : ∀ i e, Real? (x i e)) (hp : ∀ i e, Real? (p i e)) (hw : ∀ i e, Real? (w i e)) (hb : ∀ e, Real? (b e))
    (X : Fin N → Fin D → EReal) (P : Fin N → Fin 8 → EReal) (Wx : Fin D → Fin H → EReal) (Wp : Fin 8 → Fin H → EReal)
    (hX : ∀ r e, X (Fin.castLE hnN r) e = x r e) (hP : P = padPos N 0 far p) (hWx : ∀ i e, Wx i e = w (i.castAdd 3) e)
    (hWp : ∀ i e, Wp i e = if h : i.val < 3 then w (Fin.natAdd D ⟨i.val, h⟩) e else 0) (r : Fin n) (d : Fin H) :
    max (Finset.fold max ⊥ (fun k => (∑ e, X (Fin.castLE hnN (nbr hn p r k)) e * Wx e d) + ∑ e, P (Fin.castLE hnN (nbr hn p r k)) e * Wp e d) Finset.univ
      - (∑ e, P (Fin.castLE hnN r) e * Wp e d) + b d) 0 = convAt hn x p w b r d := by
  have hS : ∀ i : Fin n, ∑ e, P (Fin.castLE hnN i) e * Wp e d = ∑ e : Fin 3, p i e * w (e.natAdd D) d := fun i => by
    rw [← sum_pad 0 (p i) (fun e => w (e.natAdd D) d)]
    refine Finset.sum_congr rfl fun e _ => ?_
    rw [hP, hWp]
    unfold padPos
    rw [dif_pos (show (Fin.castLE hnN i).val < n from i.isLt)]
    rfl
  unfold convAt
  simp only [hS, hX, hWx]
  rw [conv_eq (fun k => x (nbr hn p r k)) (fun k => p (nbr hn p r k)) (p r) (fun i => w i d) (b d) (fun k i => hx _ _) (fun k i => hp _ _) (fun e => hp _ _)
    (fun i => hw _ _) (hb d)]

end Cert.Layer
end
-- ==== Proof.Ops.lean ====
/-
  Three host operations read at an index, at any sizes: rows of a table gathered by a matrix of row numbers, the
  positions a top-k selects, and the rows `take` reads.
-/
module

public import proofs.«01_k».proof.Proof.Layer
public import Idealize.ShloMosaic.Lib.Routing.Ops
public import Idealize.ShloMosaic.Lib.Routing.OpsPair
public import Idealize.ShloMosaic.Lib.Pipeline.ValueKit
public import Idealize.ShloMosaic.Lib.Pointwise.IndexVar

@[expose] public section

set_option maxRecDepth 16384

noncomputable section

namespace Cert.Ops

open Idealize.ShloMosaic Cert.Select Cert.Rows Cert.Layer

/-- The dimension numbers of `table[ind]` for a matrix `ind` of row numbers. -/
abbrev rowsDims (n R K B : Nat) (wf : GatherDims.WF ⟨2, ![n, B]⟩ ⟨3, ![R, K, 1]⟩ ⟨3, ![R, K, B]⟩ [2] [0] [] [0] [] 2 ![1, B]) :
    GatherDims ⟨2, ![n, B]⟩ ⟨3, ![R, K, 1]⟩ ⟨3, ![R, K, B]⟩ where
  offsetDims := [2]
  collapsedSliceDims := [0]
  operandBatchingDims := []
  startIndicesBatchingDims := []
  startIndexMap := [0]
  indexVectorDim := 2
  sliceSizes := ![1, B]
  wf := wf

theorem gather_rows {α : Type} {n R K B : Nat} (hn : n < 2 ^ 31)
    (wf : GatherDims.WF ⟨2, ![n, B]⟩ ⟨3, ![R, K, 1]⟩ ⟨3, ![R, K, B]⟩ [2] [0] [] [0] [] 2 ![1, B])
    (x : (⟨2, ![n, B]⟩ : Shape).Idx → α) (ind : IVec ⟨3, ![R, K, 1]⟩ 32) (r : Fin R) (k : Fin K) (y : Fin B) (b : Fin n)
    (hb : ind (ix3 r k 0) = BitVec.ofNat 32 b.val) :
    Host.gather (rowsDims n R K B wf) x ind (ix3 r k y) = x (ix2 b y) := by
  unfold Host.gather
  refine congrArg x (funext fun a => Fin.ext ?_)
  show (rowsDims n R K B wf).start (ix3 r k y) ind a + (rowsDims n R K B wf).batchCoord (ix3 r k y) a
      + (rowsDims n R K B wf).offCoord (ix3 r k y) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowsDims n R K B wf).startIndexMap from List.mem_singleton.mpr rfl)]
    have hsi : (rowsDims n R K B wf).siIdx (ix3 r k y) ⟨List.idxOf (0 : Fin 2) (rowsDims n R K B wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi, hb, StableHlo.Predicate.toInt_ofNat_small _ (by omega)]
    show min ((b.val : Int)).toNat (n - 1) = b.val
    have := b.isLt
    omega
  · have hm : (1 : Fin 2) ∉ (rowsDims n R K B wf).startIndexMap := by simp
    unfold GatherDims.start GatherDims.offCoord
    rw [dif_neg hm, dif_pos ((GatherDims.mem_sKept _ _).mpr ⟨by simp, by simp⟩), Nat.zero_add]
    rfl

/-- The positions a top-k selects from a row: the stable order of the row by the comparison. -/
theorem topK_ix {n R k : Nat} (hk : k ≤ n) (x : FVec Ideal ⟨2, ![R, n]⟩ .f32) (h : Shape.Slices (s := ⟨2, ![R, n]⟩) (fun _ => 0) ⟨2, ![R, k]⟩)
    (r : Fin R) (j : Fin k) :
    (Host.topK ⟨2, ![R, k]⟩ 1 (FloatOps.cmpfTotal .gt) x h).2 (ix2 r j)
      = BitVec.ofNat 32 (sortedFrom (fun a b : Fin n => decide (x (ix2 r b) < x (ix2 r a))) (j.castLE hk)).val := by
  have hR : ∀ a b : Fin n, (FloatOps.cmpfTotal (F := Ideal) .gt (x (ix2 r a)) (x (ix2 r b)) == 1#1) = decide (x (ix2 r b) < x (ix2 r a)) := fun a b => by
    show (BitVec.ofBool (decide (x (ix2 r b) < x (ix2 r a))) == 1#1) = _
    by_cases hh : x (ix2 r b) < x (ix2 r a) <;> simp [hh]
  have hd : (1 : Nat) < (⟨2, ![R, n]⟩ : Shape).rank := by show 1 < 2; decide
  unfold Host.topK Host.sort2
  simp only [dif_pos hd]
  rw [show sortedFrom (fun a b : Fin n => decide (x (ix2 r b) < x (ix2 r a))) (j.castLE hk)
      = sortedFrom (fun a b : Fin n => FloatOps.cmpfTotal (F := Ideal) .gt (x (ix2 r a)) (x (ix2 r b)) == 1#1) (j.castLE hk) from
      congrArg (fun f => sortedFrom f (j.castLE hk)) (funext fun a => funext fun b => (hR a b).symm)]
  have hal : ∀ a : Fin n, (ix2 r (j.castLE hk) : (⟨2, ![R, n]⟩ : Shape).Idx).along ⟨1, hd⟩ a = ix2 r a := fun a => by
    funext b; refine Fin.ext ?_
    match b with
    | ⟨0, _⟩ => rfl
    | ⟨1, _⟩ => rfl
  have hsl : ∀ (α : Type) (y : (⟨2, ![R, n]⟩ : Shape).Idx → α), extractStridedSlice ⟨2, ![R, k]⟩ (fun _ => 0) y h (ix2 r j) = y (ix2 r (j.castLE hk)) := fun α y => by
    pointwise
    rfl
  rw [hsl]
  have hj : (ix2 r (j.castLE hk) : (⟨2, ![R, n]⟩ : Shape).Idx) ⟨1, hd⟩ = j.castLE hk := rfl
  refine Eq.trans (b := iotaInDim ⟨2, ![R, n]⟩ 32 ⟨1, hd⟩ ((ix2 r (j.castLE hk) : (⟨2, ![R, n]⟩ : Shape).Idx).along ⟨1, hd⟩
    (sortedFrom (fun a b : Fin n => FloatOps.cmpfTotal (F := Ideal) .gt
      (x ((ix2 r (j.castLE hk) : (⟨2, ![R, n]⟩ : Shape).Idx).along ⟨1, hd⟩ a)) (x ((ix2 r (j.castLE hk) : (⟨2, ![R, n]⟩ : Shape).Idx).along ⟨1, hd⟩ b)) == 1#1)
      (j.castLE hk)))) rfl ?_
  simp only [hal]
  rfl

/-- A choice by the equality of two positions. -/
theorem select_pos {α : Type} (a b : Nat) (ha : a < 2 ^ 31) (hb : b < 2 ^ 31) (X Y : α) :
    Scalar.select (IntOp.cmpi .eq (BitVec.ofNat 32 a) (BitVec.ofNat 32 b)) X Y = if a = b then X else Y := by
  have e : (IntOp.cmpi .eq (BitVec.ofNat 32 a) (BitVec.ofNat 32 b) = 1#1) = (a = b) := by
    show (BitVec.ofBool (BitVec.ofNat 32 a == BitVec.ofNat 32 b) = 1#1) = _
    by_cases h : a = b
    · subst h; simp
    · have : ¬ BitVec.ofNat 32 a = BitVec.ofNat 32 b := fun e => h (by
        have := congrArg BitVec.toNat e
        rw [BitVec.toNat_ofNat, BitVec.toNat_ofNat] at this
        omega)
      rw [beq_eq_false_iff_ne.mpr this]; simp [h]
  unfold Scalar.select
  simp only [show (1 : BitVec 1) = 1#1 from rfl, e]

theorem select_zero {α : Type} (X Y : α) : Scalar.select (IntOp.cmpi .eq 0#32 0#32) X Y = X := rfl

/-- A real value's magnitude is below the infinite word's value. -/
theorem select_finite {α : Type} (x : EReal) (hx : Real? x) (X Y : α) :
    Scalar.select (FloatOps.cmpf (F := Ideal) (φ := .f32) .olt (FloatOps.hostAbsf (F := Ideal) (φ := .f32) x) (Ideal.ofBits .f32 2139095040#32)) X Y = X := by
  have e : FloatOps.cmpf (F := Ideal) (φ := .f32) .olt (FloatOps.hostAbsf (F := Ideal) (φ := .f32) x) (Ideal.ofBits .f32 2139095040#32) = 1#1 := by
    show BitVec.ofBool (decide (max x (-x) < Ideal.ofBits .f32 2139095040#32)) = 1#1
    rw [inf_word]
    obtain ⟨a, rfl⟩ := hx
    have : max (a : EReal) (-(a : EReal)) < ⊤ := max_lt (EReal.coe_lt_top a) (by rw [← EReal.coe_neg]; exact EReal.coe_lt_top _)
    simp [this]
  unfold Scalar.select
  rw [e]; rfl

/-- The rows `take` reads: a position within the table passes the bounds and is not moved. -/
theorem take_word {α : Type} (N : Nat) (hN : N < 2 ^ 31) (b : Fin N) (X Y : α) (u a : BitVec 32) (hu : u = BitVec.ofNat 32 (N - 1)) (w : BitVec 32) (hw : w = BitVec.ofNat 32 b.val) :
    Scalar.select (Finset.fold IntOp.andi (1#1) (fun _ : Fin 1 => IntOp.andi (IntOp.cmpi .sge (Scalar.select (IntOp.cmpi .slt w 0#32) (IntOp.addi w a) w) 0#32)
      (IntOp.cmpi .sle (Scalar.select (IntOp.cmpi .slt w 0#32) (IntOp.addi w a) w) u)) Finset.univ) X Y = X := by
  have hb := b.isLt
  have hwr : Scalar.select (IntOp.cmpi .slt w 0#32) (IntOp.addi w a) w = w := Routing.wrap_of_lt _ _ (by rw [hw, BitVec.toNat_ofNat]; omega)
  have h1 : IntOp.cmpi .sge w 0#32 = 1#1 := by
    show BitVec.ofBool ((0#32).sle w) = 1#1
    have : (0#32).sle w = true := by
      rw [hw, BitVec.sle, StableHlo.Predicate.toInt_ofNat_small b.val (by omega)]; simp
    rw [this]; rfl
  have h2 : IntOp.cmpi .sle w u = 1#1 := by
    show BitVec.ofBool (w.sle u) = 1#1
    have : w.sle u = true := by
      rw [hw, hu, BitVec.sle, StableHlo.Predicate.toInt_ofNat_small _ (by omega), StableHlo.Predicate.toInt_ofNat_small _ (by omega)]; simp; omega
    rw [this]; rfl
  rw [hwr, h1, h2]
  rfl

end Cert.Ops
end
-- ==== Proof.RefLayer.lean ====
/-
  The reference's two stages at any number of points, written over the host's operations and read at an index: the
  neighbours of every point, and the maximum over them of an affine map.
-/
module

public import proofs.«01_k».proof.Proof.Ops
public import Idealize.ShloMosaic.Lib.Routing.OpsPair
public import Idealize.ShloMosaic.Lib.Pointwise.IndexVar

@[expose] public section

set_option maxRecDepth 16384

noncomputable section

namespace Cert.RefLayer

open Idealize.ShloMosaic Cert.Select Cert.Rows Cert.Layer Cert.Ops

abbrev S0 : Shape := ⟨0, ![]⟩
abbrev S1 (a : Nat) : Shape := ⟨1, ![a]⟩
abbrev S2 (a b : Nat) : Shape := ⟨2, ![a, b]⟩
abbrev S3 (a b c : Nat) : Shape := ⟨3, ![a, b, c]⟩

/-- What the operations of the distances ask of the shapes. -/
structure DistFacts (n : Nat) : Prop where
  sum : (S2 n 3).ReducesTo [1] (S1 n)
  one : 0 < S0.numel
  col : (S1 n).BroadcastsInDim (S2 n 1) (![0] : Fin 1 → Fin 2)
  row : (S1 n).BroadcastsInDim (S2 1 n) (![1] : Fin 1 → Fin 2)
  cols : (S2 n 1).BroadcastsInDim (S2 n n) (![0, 1] : Fin 2 → Fin 2)
  rows : (S2 1 n).BroadcastsInDim (S2 n n) (![0, 1] : Fin 2 → Fin 2)
  turn : (S2 n 3).Transposes [1, 0] (S2 3 n)
  all : S0.BroadcastsInDim (S2 n n) (![] : Fin 0 → Fin 2)
  dot : DotDims.WF (S2 n 3) (S2 3 n) (S2 n n) [1] [0] [0] [1] [] []

variable {n : Nat}

abbrev dotDims (h : DistFacts n) : DotDims (S2 n 3) (S2 3 n) (S2 n n) where
  lhsContracting := [1]
  rhsContracting := [0]
  lhsNonContracting := [0]
  rhsNonContracting := [1]
  lhsBatch := []
  rhsBatch := []
  wf := h.dot

abbrev sqs (h : DistFacts n) (p : FVec Ideal (S2 n 3) .f32) : FVec Ideal (S1 n) .f32 :=
  Host.reduceAdd (mulf p p) (constant S0 .f32 0x00000000#32) h.sum h.one

abbrev same (h : DistFacts n) (b : IVec (S1 n) 32) : IVec (S2 n n) 1 :=
  cmpi .eq (broadcastInDim (S2 n n) ![0, 1] h.cols (broadcastInDim (S2 n 1) ![0] h.col b))
    (broadcastInDim (S2 n n) ![0, 1] h.rows (broadcastInDim (S2 1 n) ![1] h.row b))

abbrev word (h : DistFacts n) (w : BitVec 32) : FVec Ideal (S2 n n) .f32 := broadcastInDim (S2 n n) ![] h.all (constant S0 .f32 w)

/-- The negated distances of all pairs, with the points of other batches and the point itself infinitely far. -/
def negDist (h : DistFacts n) (p : FVec Ideal (S2 n 3) .f32) (b : IVec (S1 n) 32) : FVec Ideal (S2 n n) .f32 :=
  Host.negf (select (same h (iotaInDim (S1 n) 32 0)) (word h 0x7F800000#32) (select (same h b)
    (maximumf (subf (addf (broadcastInDim (S2 n n) ![0, 1] h.cols (broadcastInDim (S2 n 1) ![0] h.col (sqs h p)))
        (broadcastInDim (S2 n n) ![0, 1] h.rows (broadcastInDim (S2 1 n) ![1] h.row (sqs h p))))
      (mulf (word h 0x40000000#32) (Host.dotGeneral (dotDims h) none p (transpose (S2 3 n) [1, 0] p h.turn)))) (word h 0x00000000#32))
    (word h 0x7F800000#32)))

theorem negDist_at (hn : 1 < n) (hn' : n < 2 ^ 31) (h : DistFacts n) (p : FVec Ideal (S2 n 3) .f32) (b : IVec (S1 n) 32) (hb : ∀ i, b i = 0#32) (r c : Fin n) :
    negDist h p b (ix2 r c) = -dRow (fun r e => p (ix2 r e)) r c := by
  unfold negDist
  pointwise
  have hn1 : ¬ n = 1 := by omega
  repeat erw [dif_neg hn1]
  simp only [hb, select_zero]
  refine congrArg Neg.neg ((select_pos r.val c.val (by omega) (by omega) _ _).trans ?_)
  unfold dRow
  by_cases e : c = r
  · rw [if_pos e, if_pos (congrArg Fin.val e.symm)]; exact inf_word
  · rw [if_neg e, if_neg (fun e' => e (Fin.ext e'.symm))]; rfl

/-- The neighbours' words: the positions the top-k of the negated distances gives. -/
def near (h : DistFacts n) (ht : (S2 n n).Slices (fun _ => 0) (S2 n 16)) (p : FVec Ideal (S2 n 3) .f32) (b : IVec (S1 n) 32) : IVec (S2 n 16) 32 :=
  (Host.topK (S2 n 16) 1 (FloatOps.cmpfTotal .gt) (negDist h p b) ht).2

theorem near_at (hn : 16 ≤ n) (hn' : n < 2 ^ 31) (h : DistFacts n) (ht : (S2 n n).Slices (fun _ => 0) (S2 n 16)) (p : FVec Ideal (S2 n 3) .f32)
    (b : IVec (S1 n) 32) (hb : ∀ i, b i = 0#32) (r : Fin n) (k : Fin 16) :
    near h ht p b (ix2 r k) = BitVec.ofNat 32 (nbr hn (fun r e => p (ix2 r e)) r k).val := by
  refine (topK_ix hn (negDist h p b) _ r k).trans ?_
  unfold nbr
  simp only [negDist_at (by omega) hn' h p b hb, EReal.neg_lt_neg_iff]

/-- What the choice of rows by an array of words asks of the shapes. -/
structure PickFacts (n R K : Nat) : Prop where
  all : S0.BroadcastsInDim (S2 R K) (![] : Fin 0 → Fin 2)
  last : (S2 R K).BroadcastsInDim (S3 R K 1) (![0, 1] : Fin 2 → Fin 3)

/-- The words, with a negative one counted from the end. -/
def wrap {R K : Nat} (h : PickFacts n R K) (w : BitVec 32) (ind : IVec (S2 R K) 32) : IVec (S3 R K 1) 32 :=
  broadcastInDim (S3 R K 1) ![0, 1] h.last (select (cmpi .slt ind (broadcastInDim (S2 R K) ![] h.all (constantI S0 32 0#32)))
    (addi ind (broadcastInDim (S2 R K) ![] h.all (constantI S0 32 w))) ind)

theorem wrap_at {R K : Nat} (hR : 1 < R) (hK : 1 < K) (hn : n < 2 ^ 31) (h : PickFacts n R K) (w : BitVec 32) (ind : IVec (S2 R K) 32) (r : Fin R) (k : Fin K)
    (b : Fin n) (hb : ind (ix2 r k) = BitVec.ofNat 32 b.val) : wrap h w ind (ix3 r k 0) = BitVec.ofNat 32 b.val := by
  unfold wrap
  pointwise
  have hR1 : ¬ R = 1 := by omega
  have hK1 : ¬ K = 1 := by omega
  repeat erw [dif_neg hR1]
  repeat erw [dif_neg hK1]
  rw [hb]
  refine Routing.wrap_of_lt _ _ ?_
  rw [BitVec.toNat_ofNat]
  have := b.isLt
  omega

/-- What the operations of the maximum ask of the shapes. -/
structure ConvFacts (n : Nat) : Prop where
  pick : PickFacts n n 16
  gx : GatherDims.WF (S2 n 128) (S3 n 16 1) (S3 n 16 128) [2] [0] [] [0] [] 2 ![1, 128]
  gp : GatherDims.WF (S2 n 3) (S3 n 16 1) (S3 n 16 3) [2] [0] [] [0] [] 2 ![1, 3]
  own : (S2 n 3).BroadcastsInDim (S3 n 1 3) (![0, 2] : Fin 2 → Fin 3)
  owns : (S3 n 1 3).BroadcastsInDim (S3 n 16 3) (![0, 1, 2] : Fin 3 → Fin 3)
  cat : Shape.Concatenates [S3 n 16 128, S3 n 16 3] (S3 n 16 131) 2
  dot : DotDims.WF (S3 n 16 131) (S2 131 128) (S3 n 16 128) [2] [0] [0, 1] [1] [] []
  bias : (S1 128).BroadcastsInDim (S3 1 1 128) (![2] : Fin 1 → Fin 3)
  biases : (S3 1 1 128).BroadcastsInDim (S3 n 16 128) (![0, 1, 2] : Fin 3 → Fin 3)
  top : (S3 n 16 128).ReducesTo [1] (S2 n 128)
  red : (S3 n 16 128).Reduces [1] (S2 n 128)
  one : 0 < S0.numel
  all : S0.BroadcastsInDim (S2 n 128) (![] : Fin 0 → Fin 2)

abbrev mixDims (h : ConvFacts n) : DotDims (S3 n 16 131) (S2 131 128) (S3 n 16 128) where
  lhsContracting := [2]
  rhsContracting := [0]
  lhsNonContracting := [0, 1]
  rhsNonContracting := [1]
  lhsBatch := []
  rhsBatch := []
  wf := h.dot

variable (h : ConvFacts n) (u : BitVec 32) (x : FVec Ideal (S2 n 128) .f32) (p : FVec Ideal (S2 n 3) .f32) (ind : IVec (S2 n 16) 32)
  (w : FVec Ideal (S2 131 128) .f32) (b : FVec Ideal (S1 128) .f32)

/-- The neighbours' features joined with their relative positions. -/
def joined : FVec Ideal (S3 n 16 131) .f32 :=
  concatenate (S3 n 16 131) 2 [⟨S3 n 16 128, Host.gather (rowsDims n n 16 128 h.gx) x (wrap h.pick u ind)⟩,
    ⟨S3 n 16 3, (subf (Host.gather (rowsDims n n 16 3 h.gp) p (wrap h.pick u ind))
      (broadcastInDim (S3 n 16 3) ![0, 1, 2] h.owns (broadcastInDim (S3 n 1 3) ![0, 2] h.own p)) : FVec Ideal (S3 n 16 3) .f32)⟩] h.cat

/-- What each neighbour contributes. -/
def msgs : FVec Ideal (S3 n 16 128) .f32 :=
  addf (Host.dotGeneral (mixDims h) none (joined h u x p ind) w)
    (broadcastInDim (S3 n 16 128) ![0, 1, 2] h.biases (broadcastInDim (S3 1 1 128) ![2] h.bias b))

def most : FVec Ideal (S2 n 128) .f32 :=
  Host.reduce FloatOps.maximumf (msgs h u x p ind w b) (constant S0 .f32 0xFF800000#32) h.top h.one

/-- The layer over the host's operations. -/
def layer : FVec Ideal (S2 n 128) .f32 :=
  maximumf (select (cmpf .olt (Host.absf (most h u x p ind w b)) (broadcastInDim (S2 n 128) ![] h.all (constant S0 .f32 0x7F800000#32)))
    (most h u x p ind w b) (broadcastInDim (S2 n 128) ![] h.all (constant S0 .f32 0x00000000#32)))
    (broadcastInDim (S2 n 128) ![] h.all (constant S0 .f32 0x00000000#32))

variable (hn : 16 ≤ n) (hn' : n < 2 ^ 31) (hi : ∀ r k, ind (ix2 r k) = BitVec.ofNat 32 (nbr hn (fun r e => p (ix2 r e)) r k).val)
include hn hn' hi

theorem joined_at (r : Fin n) (k : Fin 16) (i : Fin 131) :
    joined h u x p ind (ix3 r k i) = feat (D := 128) (fun i => x (ix2 (nbr hn (fun r e => p (ix2 r e)) r k) i))
      (fun e => p (ix2 (nbr hn (fun r e => p (ix2 r e)) r k) e)) (fun e => p (ix2 r e)) i := by
  have hw : wrap h.pick u ind (ix3 r k 0) = _ := wrap_at (by omega) (by omega) hn' h.pick u ind r k _ (hi r k)
  have hx : ∀ i, Host.gather (rowsDims n n 16 128 h.gx) x (wrap h.pick u ind) (ix3 r k i) = x (ix2 (nbr hn (fun r e => p (ix2 r e)) r k) i) :=
    fun i => gather_rows hn' _ x _ r k i _ hw
  have hp : ∀ e, Host.gather (rowsDims n n 16 3 h.gp) p (wrap h.pick u ind) (ix3 r k e) = p (ix2 (nbr hn (fun r e => p (ix2 r e)) r k) e) :=
    fun e => gather_rows hn' _ p _ r k e _ hw
  unfold joined feat
  pointwise
  have hn1 : ¬ n = 1 := by omega
  simp only [hx, hp]
  split
  · rfl
  · repeat erw [dif_neg hn1]

theorem msgs_at (r : Fin n) (k : Fin 16) (d : Fin 128) :
    msgs h u x p ind w b (ix3 r k d) = msg (D := 128) (fun i => x (ix2 (nbr hn (fun r e => p (ix2 r e)) r k) i))
      (fun e => p (ix2 (nbr hn (fun r e => p (ix2 r e)) r k) e)) (fun e => p (ix2 r e)) (fun i => w (ix2 i d)) (b (ix1 d)) := by
  unfold msgs msg
  pointwise
  simp only [joined_at h u x p ind hn hn' hi r k]

/-- The layer at an index is its value there. -/
theorem layer_at (hx : ∀ i, Real? (x i)) (hp : ∀ i, Real? (p i)) (hw : ∀ i, Real? (w i)) (hb : ∀ i, Real? (b i)) (r : Fin n) (d : Fin 128) :
    layer h u x p ind w b (ix2 r d)
      = convAt (D := 128) hn (fun r i => x (ix2 r i)) (fun r e => p (ix2 r e)) (fun i d => w (ix2 i d)) (fun d => b (ix1 d)) r d := by
  have h52 : most h u x p ind w b (ix2 r d) = Finset.fold max ⊥ (fun k => msg (D := 128) (fun i => x (ix2 (nbr hn (fun r e => p (ix2 r e)) r k) i))
      (fun e => p (ix2 (nbr hn (fun r e => p (ix2 r e)) r k) e)) (fun e => p (ix2 r e)) (fun i => w (ix2 i d)) (b (ix1 d))) Finset.univ := by
    unfold most
    rw [Host.reduce_eq_fold_single _ _ _ _ h.red]
    have hbot : (constant S0 .f32 0xFF800000#32 : FVec Ideal S0 .f32) (Shape.Idx.first h.one) = (⊥ : EReal) := by
      show Ideal.ofBits .f32 0xFF800000#32 = ⊥
      simp [Ideal.ofBits, Ideal.ieee]
    rw [hbot]
    refine congrArg (fun f : Fin 16 → EReal => Finset.fold max ⊥ f Finset.univ)
      (funext fun k => (congrArg (msgs h u x p ind w b) ?_).trans (msgs_at h u x p ind w b hn hn' hi r k d))
    funext a; refine Fin.ext ?_
    match a with | ⟨0, _⟩ => rfl | ⟨1, _⟩ => rfl | ⟨2, _⟩ => rfl
  have hfin : Real? (most h u x p ind w b (ix2 r d)) := by
    rw [h52]
    exact real_fold _ fun k => real_msg _ _ _ _ _ (fun _ => hx _) (fun _ => hp _) (fun _ => hp _) (fun _ => hw _) (hb _)
  unfold convAt
  rw [← h52]
  unfold layer
  pointwise
  generalize most h u x p ind w b (ix2 r d) = y at hfin ⊢
  refine congrArg (fun z : EReal => max z 0) ?_
  obtain ⟨a, rfl⟩ := hfin
  refine if_pos ?_
  show max (a : EReal) (-(a : EReal)) < Ideal.ofBits .f32 2139095040#32
  rw [inf_word]
  exact max_lt (EReal.coe_lt_top a) (by rw [← EReal.coe_neg]; exact EReal.coe_lt_top _)

end Cert.RefLayer
end
-- ==== Proof.KLayer.lean ====
/-
  What the kernel's regions compute, at any sizes: the neighbours' words, the two products, the decoder's mixed features,
  and the maximum over the neighbours' rows; and what a layer made of them holds.
-/
module

public import proofs.«01_k».proof.Proof.RefLayer

@[expose] public section

set_option maxRecDepth 16384

noncomputable section

namespace Cert.KLayer

open Idealize.ShloMosaic Cert.Select Cert.Rows Cert.Layer Cert.RefLayer

/-- The picks of every row. -/
def knnOf (n : Nat) {N : Nat} [NeZero N] (P : FVec Ideal (S2 N 8) .f32) (Q : FVec Ideal (S2 8 N) .f32) : IVec (S2 N 16) 32 := fun j =>
  BitVec.ofNat 32 (pickN (fun c => padRow n (fun r e => P (ix2 r e)) (fun r e => Q (ix2 e r)) (j 0) c) (j 1).val).val

/-- The product of the padded positions and their weights. -/
def pwOf {N : Nat} (P : FVec Ideal (S2 N 8) .f32) (Wp : FVec Ideal (S2 8 128) .f32) : FVec Ideal (S2 N 128) .f32 := fun j =>
  ∑ e : Fin 8, P (ix2 (j 0) e) * Wp (ix2 e (j 1))

/-- The product of the features and their weights, and the positions' product. -/
def gOf {N : Nat} (X : FVec Ideal (S2 N 128) .f32) (P : FVec Ideal (S2 N 8) .f32) (Wx : FVec Ideal (S2 128 128) .f32)
    (Wp : FVec Ideal (S2 8 128) .f32) : FVec Ideal (S2 N 128) .f32 := fun j =>
  (∑ e : Fin 128, X (ix2 (j 0) e) * Wx (ix2 e (j 1))) + ∑ e : Fin 8, P (ix2 (j 0) e) * Wp (ix2 e (j 1))

/-- The features with the weighted sum of three arrays' rows added. -/
def mixOf {N : Nat} (X R0 R1 R2 : FVec Ideal (S2 N 128) .f32) (W : FVec Ideal (S2 N 16) .f32) : FVec Ideal (S2 N 128) .f32 := fun j =>
  X (ix2 (j 0) (j 1)) + (W (ix2 (j 0) 0) * R0 (ix2 (j 0) (j 1)) + W (ix2 (j 0) 1) * R1 (ix2 (j 0) (j 1)) + W (ix2 (j 0) 2) * R2 (ix2 (j 0) (j 1)))

/-- The maximum over a point's sixteen rows, less the point's own product, with the bias, cut at zero. -/
def convOf {M : Nat} (R : FVec Ideal (S3 M 16 128) .f32) (Pw : FVec Ideal (S2 M 128) .f32) (B : FVec Ideal (S2 1 128) .f32) :
    FVec Ideal (S2 M 128) .f32 := fun j =>
  max (Finset.fold max ⊥ (fun k : Fin 16 => R (ix3 (j 0) k (j 1))) Finset.univ - Pw (ix2 (j 0) (j 1)) + B (ix2 0 (j 1))) 0

theorem fold_insert' {ι : Type} [DecidableEq ι] (f : ι → EReal) (a : ι) (s : Finset ι) :
    Finset.fold max ⊥ f (insert a s) = max (Finset.fold max ⊥ f s) (f a) := by
  rw [Finset.fold_insert_idem, max_comm]

theorem fold16 (f : Fin 16 → EReal) : Finset.fold max ⊥ f Finset.univ
    = max (max (max (max (max (max (max (max (max (max (max (max (max (max (max (f 0) (f 1)) (f 2)) (f 3)) (f 4)) (f 5)) (f 6)) (f 7))
      (f 8)) (f 9)) (f 10)) (f 11)) (f 12)) (f 13)) (f 14)) (f 15) := by
  rw [show (Finset.univ : Finset (Fin 16))
    = insert 15 (insert 14 (insert 13 (insert 12 (insert 11 (insert 10 (insert 9 (insert 8 (insert 7 (insert 6 (insert 5
      (insert 4 (insert 3 (insert 2 (insert 1 {0})))))))))))))) from (Finset.eq_univ_iff_forall.mpr (by decide)).symm]
  rw [fold_insert', fold_insert', fold_insert', fold_insert', fold_insert', fold_insert', fold_insert', fold_insert',
    fold_insert', fold_insert', fold_insert', fold_insert', fold_insert', fold_insert', fold_insert', Finset.fold_singleton]
  rw [max_eq_left (bot_le : ⊥ ≤ f 0)]

/-- What the picks on a block of `C` columns ask of the shapes. -/
structure Picks (C : Nat) : Prop where
  hi : (SC C).Iotas .tc 32 [1]
  hr : (SC C).Reduces [1] Rows.S1
  hs : Rows.S1.ShapeCasts S11
  hb : S11.Broadcasts (SC C)

section
variable {C : Nat} (h : Picks C) (d : FVec Ideal (SC C) .f32) (k : Nat)

/-- The columns' positions. -/
abbrev It : IVec (SC C) 32 := iota .tc (SC C) 32 [1] h.hi
/-- The rows after `k` picks, their minima, the minima's positions, the next picks, and where these stand. -/
abbrev Dk : FVec Ideal (SC C) .f32 := dropN h.hi h.hr h.hs h.hb d k
abbrev Mk : FVec Ideal S11 .f32 := minV h.hr h.hs (Dk h d k)
abbrev Ck : IVec (SC C) 32 := candV h.hi h.hr h.hs h.hb (Dk h d k)
abbrev Pk : IVec Rows.S1 32 := pickV h.hi h.hr h.hs h.hb (Dk h d k)
abbrev Hk : IVec (SC C) 1 := hitV h.hi h.hr h.hs h.hb (Dk h d k)
/-- The column of the `k`-th picks. -/
abbrev Cl : IVec S11 32 := shapeCast S11 (Pk h d k) h.hs

/-- The column of the `k`-th picks, at the block's index it is stored to. -/
theorem pick_at [NeZero C] (hC : C ≤ 2147483647) (x : S11.Idx) (y : (S2 256 16).Idx) (h0 : (y 0).val = (x 0).val) (h1 : (y 1).val = k + (x 1).val) :
    Cl h d k x = BitVec.ofNat 32 (pickN (fun c => d (ix2 (y 0) c)) (y 1).val).val := by
  have hx : (x 1).val < 1 := (x 1).isLt
  have e0 : y 0 = x 0 := Fin.ext h0
  have e1 : (y 1).val = k := by omega
  rw [e1, e0, eq_ix2 x]
  exact col_apply _ _ _ _ hC d k (x 0) (x 1)

/-- A masked distance of a block is the padded row's. -/
theorem row_of [NeZero C] (n i : Nat) (hn : n < 100000) (hC : C < 100000) (hi : i < 1000) (P : FVec Ideal (S2 C 8) .f32) (Q : FVec Ideal (S2 8 C) .f32)
    (x0 : FVec Ideal (S2 256 8) .f32) (x1 : FVec Ideal (S2 8 C) .f32) (r : Fin 256) (q c : Fin C) (hq : q.val = i * 256 + r.val)
    (h0 : ∀ e, x0 (ix2 r e) = P (ix2 q e)) (h1 : ∀ e, x1 (ix2 e c) = Q (ix2 e c)) :
    Scalar.select (IntOp.cmpi .sge (BitVec.ofNat 32 c.val) (BitVec.ofNat 32 n)) (Ideal.ofBits .f32 2139095040#32)
      (Scalar.select (IntOp.cmpi .eq (BitVec.ofNat 32 c.val) (IntOp.addi (BitVec.ofNat 32 r.val) (Scalar.muli (BitVec.ofNat 32 i) 256#32)))
        (Ideal.ofBits .f32 2139095040#32) (dist2 (fun e => x0 (ix2 r e)) (fun e => x1 (ix2 e c))))
      = padRow n (fun r e => P (ix2 r e)) (fun r e => Q (ix2 e r)) q c := by
  have hc := c.isLt
  rw [mask_row n c.val r.val i hn (by omega) r.isLt hi]
  unfold padRow
  by_cases h : n ≤ c.val
  · rw [if_pos h, if_pos h]
  · rw [if_neg h, if_neg h]
    by_cases e : c = q
    · rw [if_pos e, if_pos (by rw [e, hq])]
    · rw [if_neg e, if_neg (fun e' => e (Fin.ext (by omega)))]
      simp only [h0, h1]
end

section
variable {n N M : Nat} (hn : 17 ≤ n) (hN : n ≤ N) (hM : n ≤ M) (far : EReal)
  (x : Fin n → Fin 128 → EReal) (p : FVec Ideal (S2 n 3) .f32) (w : FVec Ideal (S2 131 128) .f32) (b : FVec Ideal (S1 128) .f32)

/-- The region's words are the neighbours. -/
theorem knn_word [NeZero N] (hp : ∀ i, Real? (p i)) (P : FVec Ideal (S2 N 8) .f32) (Q : FVec Ideal (S2 8 N) .f32)
    (hP : ∀ r e, P (ix2 r e) = padPos N 0 far (fun r e => p (ix2 r e)) r e) (hQ : ∀ r e, Q (ix2 e r) = padPos N 0 far (fun r e => p (ix2 r e)) r e)
    (r : Fin n) (k : Fin 16) : knnOf n P Q (ix2 (Fin.castLE hN r) k) = BitVec.ofNat 32 (nbr (by omega) (fun r e => p (ix2 r e)) r k).val := by
  unfold knnOf
  rw [show (fun r e => P (ix2 r e)) = padPos N 0 far (fun r e => p (ix2 r e)) from funext fun r => funext fun e => hP r e,
    show (fun r e => Q (ix2 e r)) = padPos N 0 far (fun r e => p (ix2 r e)) from funext fun r => funext fun e => hQ r e]
  exact congrArg (BitVec.ofNat 32) (pick_nbr (N := N) hn hN far _ (fun i e => hp _) (Fin.castLE hN r) r.isLt k)

/-- A layer made of the two products and the maximum is the layer. -/
theorem layer_out (hx : ∀ r d, Real? (x r d)) (hp : ∀ i, Real? (p i)) (hw : ∀ i, Real? (w i)) (hb : ∀ i, Real? (b i))
    (X : FVec Ideal (S2 N 128) .f32) (P : FVec Ideal (S2 N 8) .f32) (Wx : FVec Ideal (S2 128 128) .f32) (Wp : FVec Ideal (S2 8 128) .f32)
    (hX : ∀ r i, X (ix2 (Fin.castLE hN r) i) = x r i) (hP : ∀ r e, P (ix2 r e) = padPos N 0 far (fun r e => p (ix2 r e)) r e)
    (hWx : ∀ (i d : Fin 128), Wx (ix2 i d) = w (ix2 (i.castAdd 3 : Fin 131) d))
    (hWp : ∀ (i : Fin 8) (d : Fin 128), Wp (ix2 i d) = if h : i.val < 3 then w (ix2 (Fin.natAdd 128 ⟨i.val, h⟩ : Fin 131) d) else (0 : EReal))
    (R : FVec Ideal (S3 M 16 128) .f32) (Pw : FVec Ideal (S2 M 128) .f32) (B : FVec Ideal (S2 1 128) .f32)
    (hR : ∀ r k d, R (ix3 (Fin.castLE hM r) k d) = gOf X P Wx Wp (ix2 (Fin.castLE hN (nbr (by omega) (fun r e => p (ix2 r e)) r k)) d))
    (hO : ∀ r d, Pw (ix2 (Fin.castLE hM r) d) = pwOf P Wp (ix2 (Fin.castLE hN r) d))
    (hB : ∀ d, B (ix2 0 d) = b (ix1 d)) (r : Fin n) (d : Fin 128) :
    convOf R Pw B (ix2 (Fin.castLE hM r) d)
      = convAt (D := 128) (by omega) x (fun r e => p (ix2 r e)) (fun i d => w (ix2 i d)) (fun d => b (ix1 d)) r d := by
  rw [← conv_pad (D := 128) (n := n) (N := N) (by omega) hN far x (fun r e => p (ix2 r e)) (fun i d => w (ix2 i d)) (fun d => b (ix1 d))
    hx (fun _ _ => hp _) (fun _ _ => hw _) (fun _ => hb _)
    (fun r e => X (ix2 r e)) (fun r e => P (ix2 r e)) (fun r e => Wx (ix2 r e)) (fun r e => Wp (ix2 r e))
    hX (funext fun r => funext fun e => hP r e) hWx hWp r d]
  rw [← hB d]
  have hR' : (fun k : Fin 16 => R (ix3 (Fin.castLE hM r) k d)) = _ := funext fun k => hR r k d
  show max (Finset.fold max ⊥ (fun k : Fin 16 => R (ix3 (Fin.castLE hM r) k d)) Finset.univ - Pw (ix2 (Fin.castLE hM r) d) + B (ix2 0 d)) 0 = _
  rw [hR', hO r d]
  rfl
end

theorem of_int_zero : FloatOps.sitofp (F := Ideal) .f32 0#32 = (0 : EReal) := by
  show (((0#32).toInt : ℝ) : EReal) = 0
  simp

end Cert.KLayer
end
-- ==== Proof.KHost.lean ====
/-
  The host's operations between the kernel's regions, at any sizes, and what each gives at an index: padded positions
  and rows, the two parts of a weight matrix, and rows taken from a table.
-/
module

public import proofs.«01_k».proof.Proof.KLayer
public import Idealize.ShloMosaic.Lib.KernelVsHost

@[expose] public section

set_option maxRecDepth 16384

noncomputable section

namespace Cert.KHost

open Idealize.ShloMosaic Cert.Rows Cert.Layer Cert.Ops Cert.RefLayer Cert.KLayer

section
variable {α : Type} {n N a A q s : Nat} (x : (S2 n a).Idx → α) (v : S0.Idx → α)
  (h : (S2 n a).Pads (![0, 0] : Fin 2 → Nat) ![q, s] ![0, 0] (S2 N A)) (hu : 0 < S0.numel) (r : Fin N) (e : Fin A)

/-- A padded array inside the array it pads. -/
theorem pad_in (r' : Fin n) (e' : Fin a) (hr : r.val = r'.val) (he : e.val = e'.val) :
    pad (S2 N A) ![0, 0] ![q, s] ![0, 0] x v h hu (ix2 r e) = x (ix2 r' e') :=
  pad_apply_of_inside _ _ _ x v h hu _ _ fun b => by
    match b with
    | ⟨0, _⟩ => show r.val = 0 + r'.val * (0 + 1); omega
    | ⟨1, _⟩ => show e.val = 0 + e'.val * (0 + 1); omega

/-- A padded array beyond its rows. -/
theorem pad_below (hr : n ≤ r.val) : pad (S2 N A) ![0, 0] ![q, s] ![0, 0] x v h hu (ix2 r e) = v (Shape.Idx.first hu) :=
  pad_apply_of_not_inside _ _ _ x v h hu _ (0 : Fin 2) fun hc => by
    have h2 : (r.val - 0) / (0 + 1) < n := hc.2.2
    omega

/-- A padded array beyond its columns. -/
theorem pad_right (he : a ≤ e.val) : pad (S2 N A) ![0, 0] ![q, s] ![0, 0] x v h hu (ix2 r e) = v (Shape.Idx.first hu) :=
  pad_apply_of_not_inside _ _ _ x v h hu _ (1 : Fin 2) fun hc => by
    have h2 : (e.val - 0) / (0 + 1) < a := hc.2.2
    omega
end

/-- A block of rows padded below, inside the array it pads. -/
theorem pad3_in {α : Type} {n N q : Nat} (x : (S3 n 16 128).Idx → α) (v : S0.Idx → α)
    (h : (S3 n 16 128).Pads (![0, 0, 0] : Fin 3 → Nat) ![q, 0, 0] ![0, 0, 0] (S3 N 16 128)) (hu : 0 < S0.numel)
    (r : Fin N) (r' : Fin n) (hr : r.val = r'.val) (k : Fin 16) (d : Fin 128) :
    pad (S3 N 16 128) ![0, 0, 0] ![q, 0, 0] ![0, 0, 0] x v h hu (ix3 r k d) = x (ix3 r' k d) :=
  pad_apply_of_inside _ _ _ x v h hu _ _ fun b => by
    match b with
    | ⟨0, _⟩ => show r.val = 0 + r'.val * (0 + 1); omega
    | ⟨1, _⟩ => show k.val = 0 + k.val * (0 + 1); omega
    | ⟨2, _⟩ => show d.val = 0 + d.val * (0 + 1); omega

abbrev far : EReal := Ideal.ofBits .f32 1315859240#32

/-- What the padding of positions asks of the shapes. -/
structure PosFacts (n N q : Nat) : Prop where
  wide : (S2 n 3).Pads (![0, 0] : Fin 2 → Nat) ![0, 5] ![0, 0] (S2 n 8)
  long : (S2 n 8).Pads (![0, 0] : Fin 2 → Nat) ![q, 0] ![0, 0] (S2 N 8)
  one : 0 < S0.numel

/-- The positions with five zero columns, and rows far away below. -/
def pos8 {n N q : Nat} (h : PosFacts n N q) (p : FVec Ideal (S2 n 3) .f32) : FVec Ideal (S2 N 8) .f32 :=
  pad (S2 N 8) ![0, 0] ![q, 0] ![0, 0] (pad (S2 n 8) ![0, 0] ![0, 5] ![0, 0] p (sitofp .f32 (constantI S0 32 0#32)) h.wide h.one)
    (id (constant S0 .f32 0x4E6E6B28#32)) h.long h.one

theorem pos8_at {n N q : Nat} (h : PosFacts n N q) (p : FVec Ideal (S2 n 3) .f32) (r : Fin N) (e : Fin 8) :
    pos8 h p (ix2 r e) = padPos N 0 far (fun r e => p (ix2 r e)) r e := by
  unfold pos8 padPos
  by_cases hr : r.val < n
  · rw [dif_pos hr, pad_in _ _ h.long h.one r e ⟨r.val, hr⟩ e rfl rfl]
    by_cases he : e.val < 3
    · rw [dif_pos he, pad_in p _ h.wide h.one _ e ⟨r.val, hr⟩ ⟨e.val, he⟩ rfl rfl]
    · rw [dif_neg he, pad_right p _ h.wide h.one _ e (by omega)]
      exact of_int_zero
  · rw [dif_neg hr, pad_below _ _ h.long h.one r e (by omega)]
    rfl

/-- The last three rows of a weight matrix, with five zero rows below. -/
def wp8 (h : (S2 131 128).Slices (![128, 0] : Fin 2 → Nat) (S2 3 128)) (h' : (S2 3 128).Pads (![0, 0] : Fin 2 → Nat) ![5, 0] ![0, 0] (S2 8 128))
    (hu : 0 < S0.numel) (w : FVec Ideal (S2 131 128) .f32) : FVec Ideal (S2 8 128) .f32 :=
  pad (S2 8 128) ![0, 0] ![5, 0] ![0, 0] (extractStridedSlice (S2 3 128) ![128, 0] w h) (sitofp .f32 (constantI S0 32 0#32)) h' hu

theorem wp8_at (h : (S2 131 128).Slices (![128, 0] : Fin 2 → Nat) (S2 3 128)) (h' : (S2 3 128).Pads (![0, 0] : Fin 2 → Nat) ![5, 0] ![0, 0] (S2 8 128))
    (hu : 0 < S0.numel) (w : FVec Ideal (S2 131 128) .f32) (i : Fin 8) (d : Fin 128) :
    wp8 h h' hu w (ix2 i d) = if h : i.val < 3 then w (ix2 (Fin.natAdd 128 ⟨i.val, h⟩ : Fin 131) d) else (0 : EReal) := by
  unfold wp8
  by_cases hi : i.val < 3
  · rw [dif_pos hi, pad_in _ _ h' hu i d ⟨i.val, hi⟩ d rfl rfl]
    pointwise
    rfl
  · rw [dif_neg hi, pad_below _ _ h' hu i d (by omega)]
    exact of_int_zero

/-- A word within the table passes both bounds. -/
theorem bounds {n : Nat} (hn : n < 2 ^ 31) (b : Fin n) :
    IntOp.andi (IntOp.cmpi .sge (BitVec.ofNat 32 b.val) 0#32) (IntOp.cmpi .sle (BitVec.ofNat 32 b.val) (BitVec.ofNat 32 (n - 1))) = 1#1 := by
  have hb := b.isLt
  have h1 : IntOp.cmpi .sge (BitVec.ofNat 32 b.val) 0#32 = 1#1 := by
    show BitVec.ofBool ((0#32).sle (BitVec.ofNat 32 b.val)) = 1#1
    have : (0#32).sle (BitVec.ofNat 32 b.val) = true := by
      rw [BitVec.sle, StableHlo.Predicate.toInt_ofNat_small b.val (by omega)]; simp
    rw [this]; rfl
  have h2 : IntOp.cmpi .sle (BitVec.ofNat 32 b.val) (BitVec.ofNat 32 (n - 1)) = 1#1 := by
    show BitVec.ofBool ((BitVec.ofNat 32 b.val).sle (BitVec.ofNat 32 (n - 1))) = 1#1
    have : (BitVec.ofNat 32 b.val).sle (BitVec.ofNat 32 (n - 1)) = true := by
      rw [BitVec.sle, StableHlo.Predicate.toInt_ofNat_small _ (by omega), StableHlo.Predicate.toInt_ofNat_small _ (by omega)]
      exact decide_eq_true (by omega)
    rw [this]; rfl
  rw [h1, h2]
  rfl

theorem ones : Finset.fold IntOp.andi (1#1) (fun _ : Fin 1 => 1#1) Finset.univ = 1#1 := by
  rw [Finset.univ_unique, Finset.fold_singleton]
  rfl

/-- The conjunction along a column of ones. -/
theorem all_ones {R : Nat} (x : IVec (S2 R 1) 1) (r : Fin R) (hx : ∀ t, x (ix2 r t) = 1#1) (h : (S2 R 1).ReducesTo [1] (S1 R)) (h' : (S2 R 1).Reduces [1] (S1 R))
    (hu : 0 < S0.numel) : Host.reduce IntOp.andi x (constantI S0 1 1#1) h hu (ix1 r) = 1#1 := by
  rw [Host.reduce_eq_fold_single _ _ _ _ h']
  have hc : constantI S0 1 1#1 (Shape.Idx.first hu) = 1#1 := rfl
  rw [hc]
  refine Eq.trans (congrArg (fun f : Fin 1 → BitVec 1 => Finset.fold IntOp.andi (1#1) f Finset.univ) (funext fun t => ((congrArg x ?_).trans (hx t) : _ = (1#1)))) ?_
  · funext a; refine Fin.ext ?_
    match a with | ⟨0, _⟩ => rfl | ⟨1, _⟩ => rfl
  · exact ones

/-- What the choice of a table's rows by words asks of the shapes. -/
structure TakeFacts (n R : Nat) : Prop where
  all : S0.BroadcastsInDim (S1 R) (![] : Fin 0 → Fin 1)
  col : (S1 R).BroadcastsInDim (S2 R 1) (![0] : Fin 1 → Fin 2)
  alls : S0.BroadcastsInDim (S2 R 1) (![] : Fin 0 → Fin 2)
  up : (S1 1).BroadcastsInDim (S2 1 1) (![1] : Fin 1 → Fin 2)
  ups : (S2 1 1).BroadcastsInDim (S2 R 1) (![0, 1] : Fin 2 → Fin 2)
  red : (S2 R 1).ReducesTo [1] (S1 R)
  reds : (S2 R 1).Reduces [1] (S1 R)
  one : 0 < S0.numel
  rows : (S1 R).BroadcastsInDim (S2 R 128) (![0] : Fin 1 → Fin 2)
  each : S0.BroadcastsInDim (S2 R 128) (![] : Fin 0 → Fin 2)
  wf : GatherDims.WF (S2 n 128) (S2 R 1) (S2 R 128) [1] [0] [] [0] [] 1 ![1, 128]

abbrev rowDims {n R : Nat} (h : TakeFacts n R) : GatherDims (S2 n 128) (S2 R 1) (S2 R 128) where
  offsetDims := [1]
  collapsedSliceDims := [0]
  operandBatchingDims := []
  startIndicesBatchingDims := []
  startIndexMap := [0]
  indexVectorDim := 1
  sliceSizes := ![1, 128]
  wf := h.wf

section
variable {n R : Nat} (h : TakeFacts n R) (u l : BitVec 32) (x : FVec Ideal (S2 n 128) .f32) (w : IVec (S1 R) 32)

/-- The words as a column, with a negative one counted from the end. -/
def wrap1 : IVec (S2 R 1) 32 :=
  broadcastInDim (S2 R 1) ![0] h.col (select (cmpi .slt w (broadcastInDim (S1 R) ![] h.all (constantI S0 32 0#32)))
    (addi w (broadcastInDim (S1 R) ![] h.all (constantI S0 32 u))) w)

/-- The rows that the words name; a row that none names is filled. -/
def takeRows : FVec Ideal (S2 R 128) .f32 :=
  select (broadcastInDim (S2 R 128) ![0] h.rows (Host.reduce IntOp.andi
      (andi (cmpi .sge (wrap1 h u w) (broadcastInDim (S2 R 1) ![] h.alls (constantI S0 32 0#32)))
        (cmpi .sle (wrap1 h u w) (broadcastInDim (S2 R 1) ![0, 1] h.ups (broadcastInDim (S2 1 1) ![1] h.up (constantI (S1 1) 32 l)))))
      (constantI S0 1 1#1) h.red h.one))
    (Host.gather (rowDims h) x (wrap1 h u w)) (broadcastInDim (S2 R 128) ![] h.each (constant S0 .f32 0x7FC00000#32))

variable (hR : 1 < R) (hn : n < 2 ^ 31) (hl : l = BitVec.ofNat 32 (n - 1)) (r : Fin R) (d : Fin 128) (b : Fin n) (hw : w (ix1 r) = BitVec.ofNat 32 b.val)
include hR hn hw

theorem wrap1_at : wrap1 h u w (ix2 r 0) = BitVec.ofNat 32 b.val := by
  unfold wrap1
  pointwise
  have hR1 : ¬ R = 1 := by omega
  repeat erw [dif_neg hR1]
  rw [hw]
  refine Routing.wrap_of_lt _ _ ?_
  rw [BitVec.toNat_ofNat]
  have := b.isLt
  omega

include hl

theorem takeRows_at : takeRows h u l x w (ix2 r d) = x (ix2 b d) := by
  have hb := b.isLt
  have h0 := wrap1_at h u w hR hn r b hw
  have hR1 : ¬ R = 1 := by omega
  have hg : Host.gather (rowDims h) x (wrap1 h u w) (ix2 r d) = x (ix2 b d) := Routing.gather_row _ rfl rfl rfl rfl rfl _ _ _ _ _ h0 hn
  unfold takeRows
  generalize wrap1 h u w = z at h0 hg
  have hm : ∀ t, andi (cmpi .sge z (broadcastInDim (S2 R 1) ![] h.alls (constantI S0 32 0#32)))
        (cmpi .sle z (broadcastInDim (S2 R 1) ![0, 1] h.ups (broadcastInDim (S2 1 1) ![1] h.up (constantI (S1 1) 32 l)))) (ix2 r t) = 1#1 := fun t => by
    have ht : t = 0 := Fin.ext (by omega)
    subst ht
    pointwise
    rw [h0, hl]
    exact bounds hn b
  generalize andi (cmpi .sge z (broadcastInDim (S2 R 1) ![] h.alls (constantI S0 32 0#32)))
        (cmpi .sle z (broadcastInDim (S2 R 1) ![0, 1] h.ups (broadcastInDim (S2 1 1) ![1] h.up (constantI (S1 1) 32 l)))) = k at hm
  have hf := all_ones k r hm h.red h.reds h.one
  generalize Host.reduce IntOp.andi k _ h.red h.one = y at hf
  generalize Host.gather (rowDims h) x z = g at hg
  have hy : broadcastInDim (S2 R 128) ![0] h.rows y (ix2 r d) = y (ix1 r) := broadcastInDim_apply _ _ _ _ _ fun a => by
    match a with
    | ⟨0, _⟩ => exact (if_neg hR1).symm
  generalize broadcastInDim (S2 R 128) ![0] h.rows y = k' at hy
  generalize broadcastInDim (S2 R 128) ![] h.each (constant S0 .f32 0x7FC00000#32 : FVec Ideal S0 .f32) = f
  refine (show _ = Scalar.select (k' (ix2 r d)) (g (ix2 r d)) (f (ix2 r d)) from rfl).trans ?_
  rw [hy, hf, hg]
  rfl
end

/-- What the rows of every point's sixteen neighbours ask of the shapes. -/
structure NbrFacts (N n R M q : Nat) : Prop where
  take : TakeFacts N R
  flat : (S2 n 16).ShapeCasts (S1 R)
  fold : (S2 R 128).ShapeCasts (S3 n 16 128)
  long : (S3 n 16 128).Pads (![0, 0, 0] : Fin 3 → Nat) ![q, 0, 0] ![0, 0, 0] (S3 M 16 128)
  one : 0 < S0.numel

/-- The rows of a table that every point's sixteen words name, with zero rows below. -/
def nbrRows {N n R M q : Nat} (h : NbrFacts N n R M q) (u l : BitVec 32) (x : FVec Ideal (S2 N 128) .f32) (w : IVec (S2 n 16) 32) : FVec Ideal (S3 M 16 128) .f32 :=
  pad (S3 M 16 128) ![0, 0, 0] ![q, 0, 0] ![0, 0, 0] (shapeCast (S3 n 16 128) (takeRows h.take u l x (shapeCast (S1 R) w h.flat)) h.fold)
    (id (constant S0 .f32 0x00000000#32)) h.long h.one

theorem nbrRows_at {N n R M q : Nat} (h : NbrFacts N n R M q) (u l : BitVec 32) (x : FVec Ideal (S2 N 128) .f32) (w : IVec (S2 n 16) 32)
    (hn : 1 < n) (hR : R = n * 16) (hN : N < 2 ^ 31) (hl : l = BitVec.ofNat 32 (N - 1)) (r : Fin n) (r' : Fin M) (hr : r'.val = r.val) (k : Fin 16) (d : Fin 128) (b : Fin N)
    (hw : w (ix2 r k) = BitVec.ofNat 32 b.val) : nbrRows h u l x w (ix3 r' k d) = x (ix2 b d) := by
  have hk := k.isLt
  have hrn := r.isLt
  have hlt : r.val * 16 + k.val < R := by omega
  unfold nbrRows
  rw [pad3_in _ _ h.long h.one r' r hr k d, shapeCast_apply _ h.fold (ix3 r k d) (ix2 ⟨r.val * 16 + k.val, hlt⟩ d) (by
    rw [Shape.rowMajor_val_two, Shape.rowMajor_val_three]; rfl)]
  refine takeRows_at h.take u l x _ (by omega) hN hl _ d b ?_
  rw [shapeCast_apply _ h.flat (ix1 ⟨r.val * 16 + k.val, hlt⟩) (ix2 r k) (by
    rw [Shape.rowMajor_val_two, Shape.rowMajor_val_one]; rfl), hw]

/-- Zero rows below. -/
abbrev padRows {n N a q : Nat} (h : (S2 n a).Pads (![0, 0] : Fin 2 → Nat) ![q, 0] ![0, 0] (S2 N a)) (hu : 0 < S0.numel) (x : FVec Ideal (S2 n a) .f32) :
    FVec Ideal (S2 N a) .f32 := pad (S2 N a) ![0, 0] ![q, 0] ![0, 0] x (id (constant S0 .f32 0x00000000#32)) h hu

/-- The weights of three rows, in sixteen columns. -/
abbrev pad16 {n : Nat} (h : (S2 n 3).Pads (![0, 0] : Fin 2 → Nat) ![0, 13] ![0, 0] (S2 n 16)) (hu : 0 < S0.numel) (x : FVec Ideal (S2 n 3) .f32) :
    FVec Ideal (S2 n 16) .f32 := pad (S2 n 16) ![0, 0] ![0, 13] ![0, 0] x (sitofp .f32 (constantI S0 32 0#32)) h hu

/-- The first rows. -/
abbrev top {α : Type} {N n a : Nat} (h : (S2 N a).Slices (![0, 0] : Fin 2 → Nat) (S2 n a)) (x : (S2 N a).Idx → α) : (S2 n a).Idx → α :=
  extractStridedSlice (S2 n a) ![0, 0] x h

/-- One column of an array of words. -/
abbrev column {n : Nat} (o : Nat) (h : (S2 n 3).Slices (![0, o] : Fin 2 → Nat) (S2 n 1)) (h' : (S2 n 1).ShapeCasts (S1 n)) (j : IVec (S2 n 3) 32) : IVec (S1 n) 32 :=
  shapeCast (S1 n) (extractStridedSlice (S2 n 1) ![0, o] j h) h'

end Cert.KHost
end
-- ==== Proof.KFacts.lean ====
/-
  The shapes of the kernel's program, at its sizes.
-/
module

public import proofs.«01_k».proof.Proof.KHost

@[expose] public section

set_option maxRecDepth 16384

noncomputable section

namespace Cert.KFacts

open Idealize.ShloMosaic Cert.Rows Cert.Layer Cert.Ops Cert.RefLayer Cert.KLayer Cert.KHost

theorem one : 0 < S0.numel := by decide
theorem P0 : PosFacts 10000 10240 240 := ⟨by decide, by decide, by decide⟩
theorem P1 : PosFacts 2500 2560 60 := ⟨by decide, by decide, by decide⟩
theorem P2 : PosFacts 625 768 143 := ⟨by decide, by decide, by decide⟩
theorem N0 : NbrFacts 10240 10000 160000 10112 112 :=
  ⟨⟨by decide, by decide, by decide, by decide, by decide, by decide, by decide, by decide, by decide, by decide, by decide⟩, by decide, by decide, by decide, by decide⟩
theorem N1 : NbrFacts 2560 2500 40000 2560 60 :=
  ⟨⟨by decide, by decide, by decide, by decide, by decide, by decide, by decide, by decide, by decide, by decide, by decide⟩, by decide, by decide, by decide, by decide⟩
theorem N2 : NbrFacts 768 625 10000 640 15 :=
  ⟨⟨by decide, by decide, by decide, by decide, by decide, by decide, by decide, by decide, by decide, by decide, by decide⟩, by decide, by decide, by decide, by decide⟩
theorem T1 : TakeFacts 10000 2500 := ⟨by decide, by decide, by decide, by decide, by decide, by decide, by decide, by decide, by decide, by decide, by decide⟩
theorem T2 : TakeFacts 2500 625 := ⟨by decide, by decide, by decide, by decide, by decide, by decide, by decide, by decide, by decide, by decide, by decide⟩
theorem T3 : TakeFacts 625 2500 := ⟨by decide, by decide, by decide, by decide, by decide, by decide, by decide, by decide, by decide, by decide, by decide⟩
theorem T4 : TakeFacts 2500 10000 := ⟨by decide, by decide, by decide, by decide, by decide, by decide, by decide, by decide, by decide, by decide, by decide⟩

/-- The two parts of a weight matrix, and a bias as a row. -/
theorem hx : (S2 131 128).Slices (![0, 0] : Fin 2 → Nat) (S2 128 128) := by decide
theorem hp : (S2 131 128).Slices (![128, 0] : Fin 2 → Nat) (S2 3 128) := by decide
theorem hp' : (S2 3 128).Pads (![0, 0] : Fin 2 → Nat) ![5, 0] ![0, 0] (S2 8 128) := by decide
theorem hb : (S1 128).ShapeCasts (S2 1 128) := by decide

/-- The padded positions turned. -/
theorem t0 : (S2 10240 8).Transposes [1, 0] (S2 8 10240) := by decide
theorem t1 : (S2 2560 8).Transposes [1, 0] (S2 8 2560) := by decide
theorem t2 : (S2 768 8).Transposes [1, 0] (S2 8 768) := by decide

/-- The rows kept of a padded array. -/
theorem s0 : (S2 10240 16).Slices (![0, 0] : Fin 2 → Nat) (S2 10000 16) := by decide
theorem s1 : (S2 2560 16).Slices (![0, 0] : Fin 2 → Nat) (S2 2500 16) := by decide
theorem s2 : (S2 768 16).Slices (![0, 0] : Fin 2 → Nat) (S2 625 16) := by decide
theorem o0 : (S2 10240 128).Slices (![0, 0] : Fin 2 → Nat) (S2 10112 128) := by decide
theorem o2 : (S2 768 128).Slices (![0, 0] : Fin 2 → Nat) (S2 640 128) := by decide
theorem r0 : (S2 10112 128).Slices (![0, 0] : Fin 2 → Nat) (S2 10000 128) := by decide
theorem r1 : (S2 2560 128).Slices (![0, 0] : Fin 2 → Nat) (S2 2500 128) := by decide
theorem r2 : (S2 640 128).Slices (![0, 0] : Fin 2 → Nat) (S2 625 128) := by decide

/-- The rows added below an array. -/
theorem f0 : (S2 10000 128).Pads (![0, 0] : Fin 2 → Nat) ![240, 0] ![0, 0] (S2 10240 128) := by decide
theorem f1 : (S2 2500 128).Pads (![0, 0] : Fin 2 → Nat) ![60, 0] ![0, 0] (S2 2560 128) := by decide
theorem f2 : (S2 625 128).Pads (![0, 0] : Fin 2 → Nat) ![143, 0] ![0, 0] (S2 768 128) := by decide
theorem w0 : (S2 10000 3).Pads (![0, 0] : Fin 2 → Nat) ![0, 13] ![0, 0] (S2 10000 16) := by decide
theorem w0' : (S2 10000 16).Pads (![0, 0] : Fin 2 → Nat) ![240, 0] ![0, 0] (S2 10240 16) := by decide
theorem w1 : (S2 2500 3).Pads (![0, 0] : Fin 2 → Nat) ![0, 13] ![0, 0] (S2 2500 16) := by decide
theorem w1' : (S2 2500 16).Pads (![0, 0] : Fin 2 → Nat) ![60, 0] ![0, 0] (S2 2560 16) := by decide

/-- The columns of the words of three rows. -/
theorem c00 : (S2 10000 3).Slices (![0, 0] : Fin 2 → Nat) (S2 10000 1) := by decide
theorem c01 : (S2 10000 3).Slices (![0, 1] : Fin 2 → Nat) (S2 10000 1) := by decide
theorem c02 : (S2 10000 3).Slices (![0, 2] : Fin 2 → Nat) (S2 10000 1) := by decide
theorem c0 : (S2 10000 1).ShapeCasts (S1 10000) := by decide
theorem c10 : (S2 2500 3).Slices (![0, 0] : Fin 2 → Nat) (S2 2500 1) := by decide
theorem c11 : (S2 2500 3).Slices (![0, 1] : Fin 2 → Nat) (S2 2500 1) := by decide
theorem c12 : (S2 2500 3).Slices (![0, 2] : Fin 2 → Nat) (S2 2500 1) := by decide
theorem c1 : (S2 2500 1).ShapeCasts (S1 2500) := by decide

end Cert.KFacts
end
-- ==== Proof.Host1.lean ====
/-
  What the encoder's regions read: the host's operations before each, from the arrays the regions before leave.
-/
module

public import proofs.«01_k».proof.Proof.KFacts
public import proofs.«01_k».proof.Proof.Gen.KernelIdeal.Frame.Fold0
public import Idealize.ShloMosaic.Lib.StableHlo.ReadAt

@[expose] public section

set_option maxRecDepth 16384

noncomputable section

namespace Cert.Host1

open Idealize.ShloMosaic Idealize.ShloMosaic.TcCoe Idealize.SL.Sem
open Cert.KernelIdeal Cert.KernelIdeal.Gen Cert.KHost Cert.KFacts

variable (m : (ℓ : Loc nD τ sig) → Buf (Elt Ideal) ℓ) (ρ : Dev nD → PrngReg) (c : Dev nD)

theorem in5 : V5 m ρ c main_v1 = pos8 P0 (m ((c : Thread nD τ).loc main_arg1))
    ∧ V5 m ρ c main_v2 = transpose (RefLayer.S2 8 10240) [1, 0] (pos8 P0 (m ((c : Thread nD τ).loc main_arg1))) t0 := by
  refine ⟨?_, ?_⟩
  all_goals
    after_reads_simp
    try simp -implicitDefEqProofs only [StableHlo.TRef.toBuf, StableHlo.TRef.ofBuf, cast_cast, cast_eq]
    try rfl

theorem in14 : V14 m ρ c main_v4 = top s0 (V6 m ρ c main_v3) ∧ V14 m ρ c main_v5 = top hx (V6 m ρ c main_arg11)
    ∧ V14 m ρ c main_v7 = wp8 hp hp' one (V6 m ρ c main_arg11) ∧ V14 m ρ c main_v8 = padRows f0 one (V6 m ρ c main_arg0)
    ∧ V14 m ρ c main_v10 = pos8 P0 (V6 m ρ c main_arg1) := by
  refine ⟨?_, ?_, ?_, ?_, ?_⟩
  all_goals
    after_reads_simp
    try simp -implicitDefEqProofs only [StableHlo.TRef.toBuf, StableHlo.TRef.ofBuf, cast_cast, cast_eq]
    try rfl

theorem in20 : V20 m ρ c main_v15 = nbrRows N0 10240#32 10239#32 (V15 m ρ c main_v11_0) (V15 m ρ c main_v4)
    ∧ V20 m ρ c main_v16 = top o0 (V15 m ρ c main_v11_1) ∧ V20 m ρ c main_v17 = shapeCast (RefLayer.S2 1 128) (V15 m ρ c main_arg12) hb := by
  refine ⟨?_, ?_, ?_⟩
  all_goals
    after_reads_simp
    try simp -implicitDefEqProofs only [StableHlo.TRef.toBuf, StableHlo.TRef.ofBuf, cast_cast, cast_eq]
    try rfl

theorem in28 : V28 m ρ c main_v19 = top r0 (V21 m ρ c main_v18)
    ∧ V28 m ρ c main_v20 = takeRows T1 10000#32 9999#32 (top r0 (V21 m ρ c main_v18)) (V21 m ρ c main_arg3)
    ∧ V28 m ρ c main_v22 = pos8 P1 (V21 m ρ c main_arg4)
    ∧ V28 m ρ c main_v23 = transpose (RefLayer.S2 8 2560) [1, 0] (pos8 P1 (V21 m ρ c main_arg4)) t1 := by
  refine ⟨?_, ?_, ?_, ?_⟩
  all_goals
    after_reads_simp
    try simp -implicitDefEqProofs only [StableHlo.TRef.toBuf, StableHlo.TRef.ofBuf, cast_cast, cast_eq]
    try rfl

theorem in37 : V37 m ρ c main_v25 = top s1 (V29 m ρ c main_v24) ∧ V37 m ρ c main_v26 = top hx (V29 m ρ c main_arg13)
    ∧ V37 m ρ c main_v28 = wp8 hp hp' one (V29 m ρ c main_arg13) ∧ V37 m ρ c main_v29 = padRows f1 one (V29 m ρ c main_v20)
    ∧ V37 m ρ c main_v31 = pos8 P1 (V29 m ρ c main_arg4) := by
  refine ⟨?_, ?_, ?_, ?_, ?_⟩
  all_goals
    after_reads_simp
    try simp -implicitDefEqProofs only [StableHlo.TRef.toBuf, StableHlo.TRef.ofBuf, cast_cast, cast_eq]
    try rfl

theorem in43 : V43 m ρ c main_v36 = nbrRows N1 2560#32 2559#32 (V38 m ρ c main_v32_0) (V38 m ρ c main_v25)
    ∧ V43 m ρ c main_v32_1 = V38 m ρ c main_v32_1 ∧ V43 m ρ c main_v37 = shapeCast (RefLayer.S2 1 128) (V38 m ρ c main_arg14) hb := by
  refine ⟨?_, ?_, ?_⟩
  all_goals
    after_reads_simp
    try simp -implicitDefEqProofs only [StableHlo.TRef.toBuf, StableHlo.TRef.ofBuf, cast_cast, cast_eq]
    try rfl

theorem in51 : V51 m ρ c main_v39 = top r1 (V44 m ρ c main_v38)
    ∧ V51 m ρ c main_v40 = takeRows T2 2500#32 2499#32 (top r1 (V44 m ρ c main_v38)) (V44 m ρ c main_arg5)
    ∧ V51 m ρ c main_v42 = pos8 P2 (V44 m ρ c main_arg6)
    ∧ V51 m ρ c main_v43 = transpose (RefLayer.S2 8 768) [1, 0] (pos8 P2 (V44 m ρ c main_arg6)) t2 := by
  refine ⟨?_, ?_, ?_, ?_⟩
  all_goals
    after_reads_simp
    try simp -implicitDefEqProofs only [StableHlo.TRef.toBuf, StableHlo.TRef.ofBuf, cast_cast, cast_eq]
    try rfl

theorem in60 : V60 m ρ c main_v45 = top s2 (V52 m ρ c main_v44) ∧ V60 m ρ c main_v46 = top hx (V52 m ρ c main_arg15)
    ∧ V60 m ρ c main_v48 = wp8 hp hp' one (V52 m ρ c main_arg15) ∧ V60 m ρ c main_v49 = padRows f2 one (V52 m ρ c main_v40)
    ∧ V60 m ρ c main_v51 = pos8 P2 (V52 m ρ c main_arg6) := by
  refine ⟨?_, ?_, ?_, ?_, ?_⟩
  all_goals
    after_reads_simp
    try simp -implicitDefEqProofs only [StableHlo.TRef.toBuf, StableHlo.TRef.ofBuf, cast_cast, cast_eq]
    try rfl

theorem in66 : V66 m ρ c main_v56 = nbrRows N2 768#32 767#32 (V61 m ρ c main_v52_0) (V61 m ρ c main_v45)
    ∧ V66 m ρ c main_v57 = top o2 (V61 m ρ c main_v52_1) ∧ V66 m ρ c main_v58 = shapeCast (RefLayer.S2 1 128) (V61 m ρ c main_arg16) hb := by
  refine ⟨?_, ?_, ?_⟩
  all_goals
    after_reads_simp
    try simp -implicitDefEqProofs only [StableHlo.TRef.toBuf, StableHlo.TRef.ofBuf, cast_cast, cast_eq]
    try rfl

end Cert.Host1
end
-- ==== Proof.Host2.lean ====
/-
  What the decoder's regions read, and the program's result.
-/
module

public import proofs.«01_k».proof.Proof.KFacts
public import proofs.«01_k».proof.Proof.Gen.KernelIdeal.Frame.Fold0
public import Idealize.ShloMosaic.Lib.StableHlo.ReadAt

@[expose] public section

set_option maxRecDepth 16384

noncomputable section

namespace Cert.Host2

open Idealize.ShloMosaic Idealize.ShloMosaic.TcCoe Idealize.SL.Sem
open Cert.KernelIdeal Cert.KernelIdeal.Gen Cert.KHost Cert.KFacts

variable (m : (ℓ : Loc nD τ sig) → Buf (Elt Ideal) ℓ) (ρ : Dev nD → PrngReg) (c : Dev nD)

theorem in91 : V91 m ρ c main_v70 = top hx (V67 m ρ c main_arg17) ∧ V91 m ρ c main_v72 = wp8 hp hp' one (V67 m ρ c main_arg17)
    ∧ V91 m ρ c main_v74 = padRows w1' one (pad16 w1 one (V67 m ρ c main_arg8)) ∧ V91 m ρ c main_v75 = padRows f1 one (V67 m ρ c main_v39)
    ∧ V91 m ρ c main_v76 = padRows f1 one (takeRows T3 625#32 624#32 (top r2 (V67 m ρ c main_v59)) (column 0 c10 c1 (V67 m ρ c main_arg7)))
    ∧ V91 m ρ c main_v77 = padRows f1 one (takeRows T3 625#32 624#32 (top r2 (V67 m ρ c main_v59)) (column 1 c11 c1 (V67 m ρ c main_arg7)))
    ∧ V91 m ρ c main_v78 = padRows f1 one (takeRows T3 625#32 624#32 (top r2 (V67 m ρ c main_v59)) (column 2 c12 c1 (V67 m ρ c main_arg7)))
    ∧ V91 m ρ c main_v80 = pos8 P1 (V67 m ρ c main_arg4) := by
  refine ⟨?_, ?_, ?_, ?_, ?_, ?_, ?_, ?_⟩
  all_goals
    after_reads_simp
    try simp -implicitDefEqProofs only [StableHlo.TRef.toBuf, StableHlo.TRef.ofBuf, cast_cast, cast_eq]
    try rfl

theorem in97 : V97 m ρ c main_v85 = nbrRows N1 2560#32 2559#32 (V92 m ρ c main_v81_0) (V92 m ρ c main_v25)
    ∧ V97 m ρ c main_v81_1 = V92 m ρ c main_v81_1 ∧ V97 m ρ c main_v86 = shapeCast (RefLayer.S2 1 128) (V92 m ρ c main_arg18) hb := by
  refine ⟨?_, ?_, ?_⟩
  all_goals
    after_reads_simp
    try simp -implicitDefEqProofs only [StableHlo.TRef.toBuf, StableHlo.TRef.ofBuf, cast_cast, cast_eq]
    try rfl

theorem in122 : V122 m ρ c main_v98 = top hx (V98 m ρ c main_arg19) ∧ V122 m ρ c main_v100 = wp8 hp hp' one (V98 m ρ c main_arg19)
    ∧ V122 m ρ c main_v102 = padRows w0' one (pad16 w0 one (V98 m ρ c main_arg10)) ∧ V122 m ρ c main_v103 = padRows f0 one (V98 m ρ c main_v19)
    ∧ V122 m ρ c main_v104 = padRows f0 one (takeRows T4 2500#32 2499#32 (top r1 (V98 m ρ c main_v87)) (column 0 c00 c0 (V98 m ρ c main_arg9)))
    ∧ V122 m ρ c main_v105 = padRows f0 one (takeRows T4 2500#32 2499#32 (top r1 (V98 m ρ c main_v87)) (column 1 c01 c0 (V98 m ρ c main_arg9)))
    ∧ V122 m ρ c main_v106 = padRows f0 one (takeRows T4 2500#32 2499#32 (top r1 (V98 m ρ c main_v87)) (column 2 c02 c0 (V98 m ρ c main_arg9)))
    ∧ V122 m ρ c main_v108 = pos8 P0 (V98 m ρ c main_arg1) := by
  refine ⟨?_, ?_, ?_, ?_, ?_, ?_, ?_, ?_⟩
  all_goals
    after_reads_simp
    try simp -implicitDefEqProofs only [StableHlo.TRef.toBuf, StableHlo.TRef.ofBuf, cast_cast, cast_eq]
    try rfl

theorem in128 : V128 m ρ c main_v113 = nbrRows N0 10240#32 10239#32 (V123 m ρ c main_v109_0) (V123 m ρ c main_v4)
    ∧ V128 m ρ c main_v114 = top o0 (V123 m ρ c main_v109_1) ∧ V128 m ρ c main_v115 = shapeCast (RefLayer.S2 1 128) (V123 m ρ c main_arg20) hb := by
  refine ⟨?_, ?_, ?_⟩
  all_goals
    after_reads_simp
    try simp -implicitDefEqProofs only [StableHlo.TRef.toBuf, StableHlo.TRef.ofBuf, cast_cast, cast_eq]
    try rfl

theorem in130 : W130 m ρ c (Proc.devRef .tc main_v117) = top r0 (V129 m ρ c main_v116) := by
  after_reads_simp
  try simp -implicitDefEqProofs only [StableHlo.TRef.toBuf, StableHlo.TRef.ofBuf, cast_cast, cast_eq]
  try rfl

end Cert.Host2
end
-- ==== Proof.Keep.lean ====
/-
  The arrays that stay as the encoder left them until the decoder reads them.
-/
module

public import proofs.«01_k».proof.Proof.KFacts
public import proofs.«01_k».proof.Proof.Gen.KernelIdeal.Frame.Fold0
public import Idealize.ShloMosaic.Lib.StableHlo.ReadAt

@[expose] public section

set_option maxRecDepth 16384

noncomputable section

namespace Cert.Keep

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem from20 : V29 m ρ c main_v20 = V28 m ρ c main_v20 := W29_of_ne m ρ c main_v20 (by decide)
theorem from40 : V52 m ρ c main_v40 = V51 m ρ c main_v40 := W52_of_ne m ρ c main_v40 (by decide)
theorem words0 : V15 m ρ c main_v4 = V14 m ρ c main_v4 := W15_of_ne m ρ c main_v4 (by decide)
theorem words1 : V38 m ρ c main_v25 = V37 m ρ c main_v25 := W38_of_ne m ρ c main_v25 (by decide)
theorem words2 : V61 m ρ c main_v45 = V60 m ρ c main_v45 := W61_of_ne m ρ c main_v45 (by decide)

theorem from39 : V67 m ρ c main_v39 = V51 m ρ c main_v39 := by
  refine (W67_of_ne m ρ c main_v39 (by decide)).trans ?_
  after_reads_simp
  refine (W61_of_ne m ρ c main_v39 (by decide)).trans ?_
  after_reads_simp
  refine (W52_of_ne m ρ c main_v39 (by decide)).trans ?_
  after_reads_simp

/-- Kept from the second level's products to the first decoder layer's. -/
theorem across (b : Ref sig .tc) (hb : b = main_v4 ∨ b = main_v19 ∨ b = main_v25) : V92 m ρ c b = V38 m ρ c b := by
  rcases hb with rfl | rfl | rfl
  all_goals
    refine (W92_of_ne m ρ c _ (by decide)).trans ?_
    after_reads_simp
    refine (W67_of_ne m ρ c _ (by decide)).trans ?_
    after_reads_simp
    refine (W61_of_ne m ρ c _ (by decide)).trans ?_
    after_reads_simp
    refine (W52_of_ne m ρ c _ (by decide)).trans ?_
    after_reads_simp
    refine (W44_of_ne m ρ c _ (by decide)).trans ?_
    after_reads_simp

theorem from19 : V98 m ρ c main_v19 = V28 m ρ c main_v19 := by
  refine (W98_of_ne m ρ c main_v19 (by decide)).trans ?_
  have h := across m ρ c main_v19 (Or.inr (Or.inl rfl))
  refine Eq.trans ?_ (h.trans ?_)
  · after_reads_simp
  · refine (W38_of_ne m ρ c main_v19 (by decide)).trans ?_
    after_reads_simp
    exact W29_of_ne m ρ c main_v19 (by decide)

theorem from4 : V123 m ρ c main_v4 = V15 m ρ c main_v4 := by
  refine (W123_of_ne m ρ c main_v4 (by decide)).trans ?_
  after_reads_simp
  refine (W98_of_ne m ρ c main_v4 (by decide)).trans ?_
  have h := across m ρ c main_v4 (Or.inl rfl)
  refine Eq.trans ?_ (h.trans ?_)
  · after_reads_simp
  · refine (W38_of_ne m ρ c main_v4 (by decide)).trans ?_
    after_reads_simp
    refine (W29_of_ne m ρ c main_v4 (by decide)).trans ?_
    after_reads_simp
    refine (W21_of_ne m ρ c main_v4 (by decide)).trans ?_
    after_reads_simp

end Cert.Keep
end
-- ==== Proof.Net.lean ====
/-
  The network as mathematics: its three encoder layers and two decoder layers over the arrays it is given.
-/
module

public import proofs.«01_k».proof.Proof.RefLayer

@[expose] public section

set_option maxRecDepth 16384

noncomputable section

namespace Cert.Net

open Idealize.ShloMosaic Cert.Select Cert.Rows Cert.Layer Cert.Ops Cert.RefLayer

/-- The arrays the network is given. -/
structure Args where
  x : FVec Ideal (S2 10000 128) .f32
  p0 : FVec Ideal (S2 10000 3) .f32
  bt : IVec (S1 10000) 32
  i1 : IVec (S1 2500) 32
  p1 : FVec Ideal (S2 2500 3) .f32
  i2 : IVec (S1 625) 32
  p2 : FVec Ideal (S2 625 3) .f32
  j0 : IVec (S2 2500 3) 32
  w0 : FVec Ideal (S2 2500 3) .f32
  j1 : IVec (S2 10000 3) 32
  w1 : FVec Ideal (S2 10000 3) .f32
  We0 : FVec Ideal (S2 131 128) .f32
  be0 : FVec Ideal (S1 128) .f32
  We1 : FVec Ideal (S2 131 128) .f32
  be1 : FVec Ideal (S1 128) .f32
  We2 : FVec Ideal (S2 131 128) .f32
  be2 : FVec Ideal (S1 128) .f32
  Wd0 : FVec Ideal (S2 131 128) .f32
  bd0 : FVec Ideal (S1 128) .f32
  Wd1 : FVec Ideal (S2 131 128) .f32
  bd1 : FVec Ideal (S1 128) .f32

/-- The float arrays hold real numbers, the integer ones positions. -/
structure Args.Ok (a : Args) : Prop where
  x : ∀ i, Real? (a.x i)
  p0 : ∀ i, Real? (a.p0 i)
  p1 : ∀ i, Real? (a.p1 i)
  p2 : ∀ i, Real? (a.p2 i)
  w0 : ∀ i, Real? (a.w0 i)
  w1 : ∀ i, Real? (a.w1 i)
  We0 : ∀ i, Real? (a.We0 i)
  be0 : ∀ i, Real? (a.be0 i)
  We1 : ∀ i, Real? (a.We1 i)
  be1 : ∀ i, Real? (a.be1 i)
  We2 : ∀ i, Real? (a.We2 i)
  be2 : ∀ i, Real? (a.be2 i)
  Wd0 : ∀ i, Real? (a.Wd0 i)
  bd0 : ∀ i, Real? (a.bd0 i)
  Wd1 : ∀ i, Real? (a.Wd1 i)
  bd1 : ∀ i, Real? (a.bd1 i)
  bt : ∀ i, a.bt i = 0#32
  i1 : ∀ i, (a.i1 i).toNat < 10000
  i2 : ∀ i, (a.i2 i).toNat < 2500
  j0 : ∀ i, (a.j0 i).toNat < 625
  j1 : ∀ i, (a.j1 i).toNat < 2500

/-- The position a word names. -/
def row (n : Nat) [NeZero n] (w : BitVec 32) : Fin n := Fin.ofNat n w.toNat

theorem row_word {n : Nat} [NeZero n] {w : BitVec 32} (h : w.toNat < n) : w = BitVec.ofNat 32 (row n w).val := by
  unfold row
  rw [Fin.val_ofNat, Nat.mod_eq_of_lt h, BitVec.ofNat_toNat, BitVec.setWidth_eq]

/-- A layer over the network's arrays. -/
def lay {n : Nat} (hn : 16 ≤ n) (x : Fin n → Fin 128 → EReal) (p : FVec Ideal (S2 n 3) .f32) (w : FVec Ideal (S2 131 128) .f32) (b : FVec Ideal (S1 128) .f32)
    (r : Fin n) (d : Fin 128) : EReal :=
  convAt (D := 128) hn x (fun r e => p (ix2 r e)) (fun i d => w (ix2 i d)) (fun d => b (ix1 d)) r d

theorem real_lay {n : Nat} (hn : 16 ≤ n) (x : Fin n → Fin 128 → EReal) (p : FVec Ideal (S2 n 3) .f32) (w : FVec Ideal (S2 131 128) .f32) (b : FVec Ideal (S1 128) .f32)
    (hx : ∀ r d, Real? (x r d)) (hp : ∀ i, Real? (p i)) (hw : ∀ i, Real? (w i)) (hb : ∀ i, Real? (b i)) (r : Fin n) (d : Fin 128) :
    Real? (lay hn x p w b r d) :=
  real_max (real_fold _ fun k => real_msg _ _ _ _ _ (fun _ => hx _ _) (fun _ => hp _) (fun _ => hp _) (fun _ => hw _) (hb _)) real_zero

/-- A point's own features and the weighted sum of three coarser points' features. -/
def mix {n c : Nat} [NeZero c] (y : Fin n → Fin 128 → EReal) (x : Fin c → Fin 128 → EReal) (j : IVec (S2 n 3) 32) (w : FVec Ideal (S2 n 3) .f32)
    (r : Fin n) (d : Fin 128) : EReal := y r d + ∑ e : Fin 3, x (row c (j (ix2 r e))) d * w (ix2 r e)

theorem real_mix {n c : Nat} [NeZero c] (y : Fin n → Fin 128 → EReal) (x : Fin c → Fin 128 → EReal) (j : IVec (S2 n 3) 32) (w : FVec Ideal (S2 n 3) .f32)
    (hy : ∀ r d, Real? (y r d)) (hx : ∀ r d, Real? (x r d)) (hw : ∀ i, Real? (w i)) (r : Fin n) (d : Fin 128) : Real? (mix y x j w r d) :=
  real_add (hy _ _) (real_sum _ _ fun _ => real_mul (hx _ _) (hw _))

variable (a : Args)

def x0 (r : Fin 10000) (d : Fin 128) : EReal := a.x (ix2 r d)
/-- The first encoder layer. -/
def e0 : Fin 10000 → Fin 128 → EReal := lay (by omega) (x0 a) a.p0 a.We0 a.be0
def x1 (r : Fin 2500) (d : Fin 128) : EReal := e0 a (row 10000 (a.i1 (ix1 r))) d
/-- The second encoder layer. -/
def e1 : Fin 2500 → Fin 128 → EReal := lay (by omega) (x1 a) a.p1 a.We1 a.be1
def x2 (r : Fin 625) (d : Fin 128) : EReal := e1 a (row 2500 (a.i2 (ix1 r))) d
/-- The third encoder layer. -/
def e2 : Fin 625 → Fin 128 → EReal := lay (by omega) (x2 a) a.p2 a.We2 a.be2
def m0 : Fin 2500 → Fin 128 → EReal := mix (e1 a) (e2 a) a.j0 a.w0
/-- The first decoder layer. -/
def d0 : Fin 2500 → Fin 128 → EReal := lay (by omega) (m0 a) a.p1 a.Wd0 a.bd0
def m1 : Fin 10000 → Fin 128 → EReal := mix (e0 a) (d0 a) a.j1 a.w1
/-- The second decoder layer: the network's output. -/
def d1 : Fin 10000 → Fin 128 → EReal := lay (by omega) (m1 a) a.p0 a.Wd1 a.bd1

variable {a} (h : a.Ok)
include h

theorem real_e0 (r : Fin 10000) (d : Fin 128) : Real? (e0 a r d) := real_lay _ _ _ _ _ (fun _ _ => h.x _) h.p0 h.We0 h.be0 r d
theorem real_e1 (r : Fin 2500) (d : Fin 128) : Real? (e1 a r d) := real_lay _ _ _ _ _ (fun _ _ => real_e0 h _ _) h.p1 h.We1 h.be1 r d
theorem real_e2 (r : Fin 625) (d : Fin 128) : Real? (e2 a r d) := real_lay _ _ _ _ _ (fun _ _ => real_e1 h _ _) h.p2 h.We2 h.be2 r d
theorem real_m0 (r : Fin 2500) (d : Fin 128) : Real? (m0 a r d) := real_mix _ _ _ _ (real_e1 h) (real_e2 h) h.w0 r d
theorem real_d0 (r : Fin 2500) (d : Fin 128) : Real? (d0 a r d) := real_lay _ _ _ _ _ (real_m0 h) h.p1 h.Wd0 h.bd0 r d
theorem real_m1 (r : Fin 10000) (d : Fin 128) : Real? (m1 a r d) := real_mix _ _ _ _ (real_e0 h) (real_d0 h) h.w1 r d

end Cert.Net
end
-- ==== Proof.KLevel.lean ====
/-
  A layer as the kernel's program makes it, at any sizes: the neighbours' words, the features with the coarser rows added,
  and the maximum over the neighbours' rows, from the host's operations and the regions' values.
-/
module

public import proofs.«01_k».proof.Proof.KHost
public import proofs.«01_k».proof.Proof.Net

@[expose] public section

set_option maxRecDepth 16384

noncomputable section

namespace Cert.KLevel

open Idealize.ShloMosaic Cert.Rows Cert.Layer Cert.Ops Cert.RefLayer Cert.KLayer Cert.KHost Cert.Net

/-- A slice from the start, at an index. -/
theorem slice_at {α : Type} {n N a : Nat} (hN : n ≤ N) (x : (S2 N a).Idx → α) (h : (S2 N a).Slices (![0, 0] : Fin 2 → Nat) (S2 n a)) (r : Fin n) (e : Fin a) :
    extractStridedSlice (S2 n a) ![0, 0] x h (ix2 r e) = x (ix2 (Fin.castLE hN r) e) := by
  refine congrArg x (funext fun i => Fin.ext ?_)
  match i with
  | ⟨0, _⟩ => exact Nat.zero_add _
  | ⟨1, _⟩ => exact Nat.zero_add _

/-- A column of words, at an index. -/
theorem column_at {n : Nat} (j : IVec (S2 n 3) 32) (o : Nat) (e : Fin 3) (he : o = e.val) (h : (S2 n 3).Slices (![0, o] : Fin 2 → Nat) (S2 n 1)) (h' : (S2 n 1).ShapeCasts (S1 n)) (r : Fin n) :
    shapeCast (S1 n) (extractStridedSlice (S2 n 1) ![0, o] j h) h' (ix1 r) = j (ix2 r e) := by
  rw [shapeCast_apply _ h' (ix1 r) (ix2 r 0) (by rw [Shape.rowMajor_val_two, Shape.rowMajor_val_one]; show r.val * 1 + 0 = r.val; omega)]
  refine congrArg j (funext fun i => Fin.ext ?_)
  match i with
  | ⟨0, _⟩ => exact Nat.zero_add _
  | ⟨1, _⟩ => exact (Nat.add_zero _).trans he

variable {n N M R q q' : Nat} [NeZero N]

/-- The neighbours' words, as the program keeps them. -/
theorem words_at (hn : 17 ≤ n) (hN : n ≤ N) (PF : PosFacts n N q) (p : FVec Ideal (S2 n 3) .f32) (hp : ∀ i, Real? (p i))
    (ht : (S2 N 8).Transposes [1, 0] (S2 8 N)) (hs : (S2 N 16).Slices (![0, 0] : Fin 2 → Nat) (S2 n 16)) (r : Fin n) (k : Fin 16) :
    extractStridedSlice (S2 n 16) ![0, 0] (knnOf n (pos8 PF p) (transpose (S2 8 N) [1, 0] (pos8 PF p) ht)) hs (ix2 r k)
      = BitVec.ofNat 32 (nbr (by omega) (fun r e => p (ix2 r e)) r k).val := by
  refine (slice_at hN _ hs r k).trans (knn_word (M := n) hn hN far p hp _ _ (pos8_at PF p) (fun r e => ?_) r k)
  rw [← pos8_at PF p r e]
  pointwise

/-- The layer made of the two regions and the rows taken between them is the layer. -/
theorem level (hn : 17 ≤ n) (hN : n ≤ N) (hM : n ≤ M) (hN' : N < 2 ^ 31) (PF : PosFacts n N q) (NF : NbrFacts N n R M q') (hR : R = n * 16)
    (h1 : (S2 131 128).Slices (![0, 0] : Fin 2 → Nat) (S2 128 128))
    (h2 : (S2 131 128).Slices (![128, 0] : Fin 2 → Nat) (S2 3 128)) (h3 : (S2 3 128).Pads (![0, 0] : Fin 2 → Nat) ![5, 0] ![0, 0] (S2 8 128))
    (hu : 0 < S0.numel) (h5 : (S1 128).ShapeCasts (S2 1 128)) (u l : BitVec 32) (hl : l = BitVec.ofNat 32 (N - 1))
    (x : Fin n → Fin 128 → EReal) (p : FVec Ideal (S2 n 3) .f32) (w : FVec Ideal (S2 131 128) .f32) (b : FVec Ideal (S1 128) .f32)
    (hx : ∀ r d, Real? (x r d)) (hp : ∀ i, Real? (p i)) (hw : ∀ i, Real? (w i)) (hb : ∀ i, Real? (b i))
    (X : FVec Ideal (S2 N 128) .f32) (hX : ∀ r i, X (ix2 (Fin.castLE hN r) i) = x r i)
    (I : IVec (S2 n 16) 32) (hI : ∀ r k, I (ix2 r k) = BitVec.ofNat 32 (nbr (by omega) (fun r e => p (ix2 r e)) r k).val)
    (O : FVec Ideal (S2 M 128) .f32) (hO : ∀ r d, O (ix2 (Fin.castLE hM r) d) = pwOf (pos8 PF p) (wp8 h2 h3 hu w) (ix2 (Fin.castLE hN r) d))
    (r : Fin n) (d : Fin 128) :
    convOf (nbrRows NF u l (gOf X (pos8 PF p) (extractStridedSlice (S2 128 128) ![0, 0] w h1) (wp8 h2 h3 hu w)) I) O (shapeCast (S2 1 128) b h5)
      (ix2 (Fin.castLE hM r) d) = lay (by omega) x p w b r d := by
  refine layer_out hn hN hM far x p w b hx hp hw hb X (pos8 PF p) (extractStridedSlice (S2 128 128) ![0, 0] w h1) (wp8 h2 h3 hu w) hX (pos8_at PF p)
    (fun i d => ?_) (wp8_at h2 h3 hu w) _ O _ (fun r k d => ?_) hO (fun d => ?_) r d
  · refine congrArg w (funext fun i => Fin.ext ?_)
    match i with
    | ⟨0, _⟩ => exact Nat.zero_add _
    | ⟨1, _⟩ => exact Nat.zero_add _
  · refine nbrRows_at NF u l _ I (by omega) hR hN' hl r _ rfl k d _ ?_
    rw [hI]
    rfl
  · rw [shapeCast_apply _ h5 (ix2 0 d) (ix1 d) (by rw [Shape.rowMajor_val_two, Shape.rowMajor_val_one]; show d.val = 0 * 128 + d.val; omega)]

/-- Rows taken from a table by words in range, padded below. -/
theorem taken_at {c : Nat} [NeZero c] (T : TakeFacts c n) (hn : 17 ≤ n) (hN : n ≤ N) (hc : c < 2 ^ 31) (u l : BitVec 32) (hl : l = BitVec.ofNat 32 (c - 1))
    (y : FVec Ideal (S2 c 128) .f32) (f : Fin c → Fin 128 → EReal) (hy : ∀ r d, y (ix2 r d) = f r d) (w : IVec (S1 n) 32) (hw : ∀ r, (w (ix1 r)).toNat < c)
    (v : S0.Idx → EReal) (h : (S2 n 128).Pads (![0, 0] : Fin 2 → Nat) ![q, 0] ![0, 0] (S2 N 128)) (hu : 0 < S0.numel) (r : Fin n) (d : Fin 128) :
    pad (S2 N 128) ![0, 0] ![q, 0] ![0, 0] (takeRows T u l y w) v h hu (ix2 (Fin.castLE hN r) d) = f (row c (w (ix1 r))) d := by
  rw [pad_in _ v h hu _ d r d rfl rfl, takeRows_at T u l y w (by omega) hc hl r d _ (row_word (hw r)), hy]

/-- The features with the weighted sum of three taken rows. -/
theorem mixed_at {c : Nat} [NeZero c] (T : TakeFacts c n) (hn : 17 ≤ n) (hN : n ≤ N) (hc : c < 2 ^ 31) (u l : BitVec 32) (hl : l = BitVec.ofNat 32 (c - 1))
    (y : FVec Ideal (S2 c 128) .f32) (f : Fin c → Fin 128 → EReal) (hy : ∀ r d, y (ix2 r d) = f r d)
    (z : FVec Ideal (S2 n 128) .f32) (g : Fin n → Fin 128 → EReal) (hz : ∀ r d, z (ix2 r d) = g r d)
    (j : IVec (S2 n 3) 32) (hj : ∀ i, (j i).toNat < c) (w : FVec Ideal (S2 n 3) .f32)
    (a0 : (S2 n 3).Slices (![0, 0] : Fin 2 → Nat) (S2 n 1)) (a1 : (S2 n 3).Slices (![0, 1] : Fin 2 → Nat) (S2 n 1))
    (a2 : (S2 n 3).Slices (![0, 2] : Fin 2 → Nat) (S2 n 1)) (hf : (S2 n 1).ShapeCasts (S1 n)) (v : S0.Idx → EReal)
    (h : (S2 n 128).Pads (![0, 0] : Fin 2 → Nat) ![q, 0] ![0, 0] (S2 N 128)) (hu : 0 < S0.numel)
    (hw : (S2 n 3).Pads (![0, 0] : Fin 2 → Nat) ![0, 13] ![0, 0] (S2 n 16)) (hw' : (S2 n 16).Pads (![0, 0] : Fin 2 → Nat) ![q, 0] ![0, 0] (S2 N 16)) (v' : S0.Idx → EReal)
    (r : Fin n) (d : Fin 128) :
    mixOf (pad (S2 N 128) ![0, 0] ![q, 0] ![0, 0] z v h hu)
      (pad (S2 N 128) ![0, 0] ![q, 0] ![0, 0] (takeRows T u l y (shapeCast (S1 n) (extractStridedSlice (S2 n 1) ![0, 0] j a0) hf)) v h hu)
      (pad (S2 N 128) ![0, 0] ![q, 0] ![0, 0] (takeRows T u l y (shapeCast (S1 n) (extractStridedSlice (S2 n 1) ![0, 1] j a1) hf)) v h hu)
      (pad (S2 N 128) ![0, 0] ![q, 0] ![0, 0] (takeRows T u l y (shapeCast (S1 n) (extractStridedSlice (S2 n 1) ![0, 2] j a2) hf)) v h hu)
      (pad (S2 N 16) ![0, 0] ![q, 0] ![0, 0] (pad (S2 n 16) ![0, 0] ![0, 13] ![0, 0] w v' hw hu) v hw' hu) (ix2 (Fin.castLE hN r) d) = mix g f j w r d := by
  have c0 : ∀ r, shapeCast (S1 n) (extractStridedSlice (S2 n 1) ![0, 0] j a0) hf (ix1 r) = j (ix2 r 0) := column_at j 0 0 rfl a0 hf
  have c1 : ∀ r, shapeCast (S1 n) (extractStridedSlice (S2 n 1) ![0, 1] j a1) hf (ix1 r) = j (ix2 r 1) := column_at j 1 1 rfl a1 hf
  have c2 : ∀ r, shapeCast (S1 n) (extractStridedSlice (S2 n 1) ![0, 2] j a2) hf (ix1 r) = j (ix2 r 2) := column_at j 2 2 rfl a2 hf
  have t0 := taken_at T hn hN hc u l hl y f hy (shapeCast (S1 n) (extractStridedSlice (S2 n 1) ![0, 0] j a0) hf) (fun r => by rw [c0]; exact hj _) v h hu r d
  have t1 := taken_at T hn hN hc u l hl y f hy (shapeCast (S1 n) (extractStridedSlice (S2 n 1) ![0, 1] j a1) hf) (fun r => by rw [c1]; exact hj _) v h hu r d
  have t2 := taken_at T hn hN hc u l hl y f hy (shapeCast (S1 n) (extractStridedSlice (S2 n 1) ![0, 2] j a2) hf) (fun r => by rw [c2]; exact hj _) v h hu r d
  rw [c0] at t0
  rw [c1] at t1
  rw [c2] at t2
  have tz := (pad_in z v h hu (Fin.castLE hN r) d r d rfl rfl).trans (hz r d)
  have tw : ∀ (e : Fin 3) (e' : Fin 16), e'.val = e.val →
      pad (S2 N 16) ![0, 0] ![q, 0] ![0, 0] (pad (S2 n 16) ![0, 0] ![0, 13] ![0, 0] w v' hw hu) v hw' hu (ix2 (Fin.castLE hN r) e') = w (ix2 r e) := fun e e' he =>
    (pad_in _ v hw' hu (Fin.castLE hN r) e' r e' rfl rfl).trans (pad_in w v' hw hu r e' r e rfl he)
  unfold mix
  rw [Fin.sum_univ_three, mul_comm _ (w (ix2 r 0)), mul_comm _ (w (ix2 r 1)), mul_comm _ (w (ix2 r 2)), ← t0, ← t1, ← t2, ← tz, ← tw 0 0 rfl, ← tw 1 1 rfl, ← tw 2 2 rfl]
  rfl

end Cert.KLevel
end
-- ==== Proof.Knn0.lean ====
/-
  The first level's nearest-neighbour search: what its result array holds, for any contents of the two arrays it reads.
-/
module

public import proofs.«01_k».proof.Proof.Gen.KernelIdeal.Frame.Region0
public import proofs.«01_k».proof.Proof.KLayer
public import Idealize.ShloMosaic.Lib.Pipeline.ValueKit

@[expose] public section

set_option maxRecDepth 16384

noncomputable section

namespace Cert.Knn0

open Idealize.ShloMosaic Idealize.ShloMosaic.TcCoe Idealize.SL.Sem
open Idealize.ShloMosaic.Pipeline (Dat)
open Cert.KernelIdeal Cert.KernelIdeal.Gen Cert.Select Cert.Rows Cert.KLayer

abbrev H : Picks 10240 := ⟨iota_S256x10240_d1_w32, reduces_S256x10240_S256, shapeCasts_S256_S256x1, broadcasts_S256x1_S256x10240⟩

variable (d : FVec Ideal S256x10240 .f32) (k : Nat)

theorem p13 : k0_pay13 (It H) (Dk H d k) (Pk H d k) = Dk H d (k + 3) := rfl
theorem p14 : k0_pay14 (It H) (Dk H d k) (Pk H d k) = Ck H d (k + 3) := rfl
theorem p23 : k0_pay23 (It H) (Dk H d k) (Ck H d k) = Dk H d (k + 3) := rfl
theorem p24 : k0_pay24 (It H) (Dk H d k) (Ck H d k) = Mk H d (k + 3) := rfl
theorem p30 : k0_pay30 (It H) (Dk H d k) (Mk H d k) = Dk H d (k + 2) := rfl
theorem p33 : k0_pay33 (It H) (Dk H d k) (Mk H d k) = Hk H d (k + 2) := rfl
theorem p40 : k0_pay40 (It H) (Dk H d k) (Hk H d k) = Dk H d (k + 3) := rfl
theorem p41 : k0_pay41 (It H) (Dk H d k) (Hk H d k) = Pk H d (k + 3) := rfl
theorem p49 : k0_pay49 (It H) (Dk H d k) (Pk H d k) = Dk H d (k + 3) := rfl

theorem cl_at (x : S256x1.Idx) (y : S256x16.Idx) (h0 : (y 0).val = (x 0).val) (h1 : (y 1).val = k + (x 1).val) :
    Cl H d k x = BitVec.ofNat 32 (pickN (fun c => d (ix2 (y 0) c)) (y 1).val).val := pick_at H d k (by norm_num) x y h0 h1

/-- The picks of a block are those of its distances. -/
theorem out_apply (i : grid0.Coords) (x0 : Vec Ideal S256x8 .f32) (x1 : Vec Ideal S8x10240 .f32) (y : S256x16.Idx) :
    out0_2 i x0 x1 y = BitVec.ofNat 32 (pickN (fun c => k0_pay4 i x0 x1 (ix2 (y 0) c)) (y 1).val).val := by
  have e52 : k0_pay52 (F := Ideal) i x0 x1 = It H := rfl
  have e53 : k0_pay53 (F := Ideal) i x0 x1 = Dk H (k0_pay4 i x0 x1) 0 := by unfold k0_pay53; frame_out; rfl
  have e54 : k0_pay54 (F := Ideal) i x0 x1 = Pk H (k0_pay4 i x0 x1) 0 := by unfold k0_pay54; frame_out; rfl
  have e6 : k0_pay6 (F := Ideal) i (View.ld x0 r0_0) (View.ld x1 r0_1) = Cl H (k0_pay4 i x0 x1) 0 := by frame_out; rfl
  generalize k0_pay4 (F := Ideal) i x0 x1 = d at e53 e54 e6 ⊢
  unfold out0_2
  simp only [k0_pay63, k0_pay62, k0_pay61, k0_pay60, k0_pay59, k0_pay58, k0_pay57, k0_pay56, k0_pay55, e6, e52, e53, e54, p13, p14, p23, p24, p30, p33, p40, p41, p49]
  refine Eq.trans (congrFun (show _ = View.canon (Val := Elt Ideal) (e := .i32) [⟨r0_17, Cl H d 15⟩, ⟨r0_16, Cl H d 14⟩, ⟨r0_15, Cl H d 13⟩, ⟨r0_14, Cl H d 12⟩, ⟨r0_13, Cl H d 11⟩, ⟨r0_12, Cl H d 10⟩, ⟨r0_11, Cl H d 9⟩, ⟨r0_10, Cl H d 8⟩, ⟨r0_9, Cl H d 7⟩, ⟨r0_8, Cl H d 6⟩, ⟨r0_7, Cl H d 5⟩, ⟨r0_6, Cl H d 4⟩, ⟨r0_5, Cl H d 3⟩, ⟨r0_4, Cl H d 2⟩, ⟨r0_3, Cl H d 1⟩, ⟨r0_2, Cl H d 0⟩] from rfl) y) ?_
  canon_tiles x h
  all_goals exact cl_at d _ x y h0 (by omega)

theorem idx : ∀ t : Fin cfg0.N, win0_0.index t = ![t.val, 0] ∧ win0_1.index t = ![0, 0] ∧ win0_2.index t = ![t.val, 0]
    ∧ (grid0.coords t 0).val = t.val ∧ t.val < 40 :=
  (by decide +kernel : ∀ t : Fin grid0.N, _)

variable (V : (c : Dev nD) → (b : Ref sig .tc) → Buf (Elt Ideal) ((c : Thread nD τ).loc b))

theorem final (c : Dev nD) : (dat0 V c).arrAt 2 cfg0.N = knnOf 10000 (V c main_v1) (V c main_v2) := by
  refine (dat0 V c).arrAt_eq_of_covers 2 _ (by decide +kernel) fun t _ y => ?_
  blk_simp
  rw [after0_2, out_apply]
  unfold knnOf
  obtain ⟨i0, i1, i2, hc, ht⟩ := idx t
  have e : ((win0_2.blk t).view.emb y 1).val = (y 1).val := by blk_simp [i2]
  rw [e]
  refine congrArg (fun g => BitVec.ofNat 32 (pickN g (y 1).val).val) (funext fun q => ?_)
  refine Eq.trans ?_ (row_of 10000 (grid0.coords t 0).val (by decide) (by decide) (by omega) (V c main_v1) (V c main_v2) (iblk0 V c 0 t) (iblk0 V c 1 t) (y 0)
    ((win0_2.blk t).view.emb y 0) q (by rw [hc]; blk_simp [i2]) (fun e => by blk_ext [iblk0, i0, i2]) (fun e => by blk_ext [iblk0, i1]))
  unfold dist2
  pointwise [k0_pay4]

end Cert.Knn0
end
-- ==== Proof.Knn1.lean ====
/-
  The second level's nearest-neighbour search: what its result array holds, for any contents of the two arrays it reads.
-/
module

public import proofs.«01_k».proof.Proof.Gen.KernelIdeal.Frame.Region3
public import proofs.«01_k».proof.Proof.KLayer
public import Idealize.ShloMosaic.Lib.Pipeline.ValueKit

@[expose] public section

set_option maxRecDepth 16384

noncomputable section

namespace Cert.Knn1

open Idealize.ShloMosaic Idealize.ShloMosaic.TcCoe Idealize.SL.Sem
open Idealize.ShloMosaic.Pipeline (Dat)
open Cert.KernelIdeal Cert.KernelIdeal.Gen Cert.Select Cert.Rows Cert.KLayer

abbrev H : Picks 2560 := ⟨iota_S256x2560_d1_w32, reduces_S256x2560_S256, shapeCasts_S256_S256x1, broadcasts_S256x1_S256x2560⟩

variable (d : FVec Ideal S256x2560 .f32) (k : Nat)

theorem p13 : k3_pay13 (It H) (Dk H d k) (Pk H d k) = Dk H d (k + 3) := rfl
theorem p14 : k3_pay14 (It H) (Dk H d k) (Pk H d k) = Ck H d (k + 3) := rfl
theorem p23 : k3_pay23 (It H) (Dk H d k) (Ck H d k) = Dk H d (k + 3) := rfl
theorem p24 : k3_pay24 (It H) (Dk H d k) (Ck H d k) = Mk H d (k + 3) := rfl
theorem p30 : k3_pay30 (It H) (Dk H d k) (Mk H d k) = Dk H d (k + 2) := rfl
theorem p33 : k3_pay33 (It H) (Dk H d k) (Mk H d k) = Hk H d (k + 2) := rfl
theorem p40 : k3_pay40 (It H) (Dk H d k) (Hk H d k) = Dk H d (k + 3) := rfl
theorem p41 : k3_pay41 (It H) (Dk H d k) (Hk H d k) = Pk H d (k + 3) := rfl
theorem p49 : k3_pay49 (It H) (Dk H d k) (Pk H d k) = Dk H d (k + 3) := rfl

theorem cl_at (x : S256x1.Idx) (y : S256x16.Idx) (h0 : (y 0).val = (x 0).val) (h1 : (y 1).val = k + (x 1).val) :
    Cl H d k x = BitVec.ofNat 32 (pickN (fun c => d (ix2 (y 0) c)) (y 1).val).val := pick_at H d k (by norm_num) x y h0 h1

/-- The picks of a block are those of its distances. -/
theorem out_apply (i : grid3.Coords) (x0 : Vec Ideal S256x8 .f32) (x1 : Vec Ideal S8x2560 .f32) (y : S256x16.Idx) :
    out3_2 i x0 x1 y = BitVec.ofNat 32 (pickN (fun c => k3_pay4 i x0 x1 (ix2 (y 0) c)) (y 1).val).val := by
  have e52 : k3_pay52 (F := Ideal) i x0 x1 = It H := rfl
  have e53 : k3_pay53 (F := Ideal) i x0 x1 = Dk H (k3_pay4 i x0 x1) 0 := by unfold k3_pay53; frame_out; rfl
  have e54 : k3_pay54 (F := Ideal) i x0 x1 = Pk H (k3_pay4 i x0 x1) 0 := by unfold k3_pay54; frame_out; rfl
  have e6 : k3_pay6 (F := Ideal) i (View.ld x0 r3_0) (View.ld x1 r3_1) = Cl H (k3_pay4 i x0 x1) 0 := by frame_out; rfl
  generalize k3_pay4 (F := Ideal) i x0 x1 = d at e53 e54 e6 ⊢
  unfold out3_2
  simp only [k3_pay63, k3_pay62, k3_pay61, k3_pay60, k3_pay59, k3_pay58, k3_pay57, k3_pay56, k3_pay55, e6, e52, e53, e54, p13, p14, p23, p24, p30, p33, p40, p41, p49]
  refine Eq.trans (congrFun (show _ = View.canon (Val := Elt Ideal) (e := .i32) [⟨r3_17, Cl H d 15⟩, ⟨r3_16, Cl H d 14⟩, ⟨r3_15, Cl H d 13⟩, ⟨r3_14, Cl H d 12⟩, ⟨r3_13, Cl H d 11⟩, ⟨r3_12, Cl H d 10⟩, ⟨r3_11, Cl H d 9⟩, ⟨r3_10, Cl H d 8⟩, ⟨r3_9, Cl H d 7⟩, ⟨r3_8, Cl H d 6⟩, ⟨r3_7, Cl H d 5⟩, ⟨r3_6, Cl H d 4⟩, ⟨r3_5, Cl H d 3⟩, ⟨r3_4, Cl H d 2⟩, ⟨r3_3, Cl H d 1⟩, ⟨r3_2, Cl H d 0⟩] from rfl) y) ?_
  canon_tiles x h
  all_goals exact cl_at d _ x y h0 (by omega)

theorem idx : ∀ t : Fin cfg3.N, win3_0.index t = ![t.val, 0] ∧ win3_1.index t = ![0, 0] ∧ win3_2.index t = ![t.val, 0]
    ∧ (grid3.coords t 0).val = t.val ∧ t.val < 10 :=
  (by decide +kernel : ∀ t : Fin grid3.N, _)

variable (V : (c : Dev nD) → (b : Ref sig .tc) → Buf (Elt Ideal) ((c : Thread nD τ).loc b))

set_option maxHeartbeats 1000000 in
theorem final (c : Dev nD) : (dat3 V c).arrAt 2 cfg3.N = knnOf 2500 (V c main_v22) (V c main_v23) := by
  refine (dat3 V c).arrAt_eq_of_covers 2 _ (by decide +kernel) fun t _ y => ?_
  blk_simp
  rw [after3_2, out_apply]
  unfold knnOf
  obtain ⟨i0, i1, i2, hc, ht⟩ := idx t
  have e : ((win3_2.blk t).view.emb y 1).val = (y 1).val := by blk_simp [i2]
  rw [e]
  refine congrArg (fun g => BitVec.ofNat 32 (pickN g (y 1).val).val) (funext fun q => ?_)
  refine Eq.trans ?_ (row_of 2500 (grid3.coords t 0).val (by decide) (by decide) (by omega) (V c main_v22) (V c main_v23) (iblk3 V c 0 t) (iblk3 V c 1 t) (y 0)
    ((win3_2.blk t).view.emb y 0) q (by rw [hc]; blk_simp [i2]) (fun e => by blk_ext [iblk3, i0, i2]) (fun e => by blk_ext [iblk3, i1]))
  unfold dist2
  pointwise [k3_pay4]

end Cert.Knn1
end
-- ==== Proof.Knn2.lean ====
/-
  The third level's nearest-neighbour search: what its result array holds, for any contents of the two arrays it reads.
-/
module

public import proofs.«01_k».proof.Proof.Gen.KernelIdeal.Frame.Region6
public import proofs.«01_k».proof.Proof.KLayer
public import Idealize.ShloMosaic.Lib.Pipeline.ValueKit

@[expose] public section

set_option maxRecDepth 16384

noncomputable section

namespace Cert.Knn2

open Idealize.ShloMosaic Idealize.ShloMosaic.TcCoe Idealize.SL.Sem
open Idealize.ShloMosaic.Pipeline (Dat)
open Cert.KernelIdeal Cert.KernelIdeal.Gen Cert.Select Cert.Rows Cert.KLayer

abbrev H : Picks 768 := ⟨iota_S256x768_d1_w32, reduces_S256x768_S256, shapeCasts_S256_S256x1, broadcasts_S256x1_S256x768⟩

variable (d : FVec Ideal S256x768 .f32) (k : Nat)

theorem p13 : k6_pay13 (It H) (Dk H d k) (Pk H d k) = Dk H d (k + 3) := rfl
theorem p14 : k6_pay14 (It H) (Dk H d k) (Pk H d k) = Ck H d (k + 3) := rfl
theorem p23 : k6_pay23 (It H) (Dk H d k) (Ck H d k) = Dk H d (k + 3) := rfl
theorem p24 : k6_pay24 (It H) (Dk H d k) (Ck H d k) = Mk H d (k + 3) := rfl
theorem p30 : k6_pay30 (It H) (Dk H d k) (Mk H d k) = Dk H d (k + 2) := rfl
theorem p33 : k6_pay33 (It H) (Dk H d k) (Mk H d k) = Hk H d (k + 2) := rfl
theorem p40 : k6_pay40 (It H) (Dk H d k) (Hk H d k) = Dk H d (k + 3) := rfl
theorem p41 : k6_pay41 (It H) (Dk H d k) (Hk H d k) = Pk H d (k + 3) := rfl
theorem p49 : k6_pay49 (It H) (Dk H d k) (Pk H d k) = Dk H d (k + 3) := rfl

theorem cl_at (x : S256x1.Idx) (y : S256x16.Idx) (h0 : (y 0).val = (x 0).val) (h1 : (y 1).val = k + (x 1).val) :
    Cl H d k x = BitVec.ofNat 32 (pickN (fun c => d (ix2 (y 0) c)) (y 1).val).val := pick_at H d k (by norm_num) x y h0 h1

/-- The picks of a block are those of its distances. -/
theorem out_apply (i : grid6.Coords) (x0 : Vec Ideal S256x8 .f32) (x1 : Vec Ideal S8x768 .f32) (y : S256x16.Idx) :
    out6_2 i x0 x1 y = BitVec.ofNat 32 (pickN (fun c => k6_pay4 i x0 x1 (ix2 (y 0) c)) (y 1).val).val := by
  have e52 : k6_pay52 (F := Ideal) i x0 x1 = It H := rfl
  have e53 : k6_pay53 (F := Ideal) i x0 x1 = Dk H (k6_pay4 i x0 x1) 0 := by unfold k6_pay53; frame_out; rfl
  have e54 : k6_pay54 (F := Ideal) i x0 x1 = Pk H (k6_pay4 i x0 x1) 0 := by unfold k6_pay54; frame_out; rfl
  have e6 : k6_pay6 (F := Ideal) i (View.ld x0 r6_0) (View.ld x1 r6_1) = Cl H (k6_pay4 i x0 x1) 0 := by frame_out; rfl
  generalize k6_pay4 (F := Ideal) i x0 x1 = d at e53 e54 e6 ⊢
  unfold out6_2
  simp only [k6_pay63, k6_pay62, k6_pay61, k6_pay60, k6_pay59, k6_pay58, k6_pay57, k6_pay56, k6_pay55, e6, e52, e53, e54, p13, p14, p23, p24, p30, p33, p40, p41, p49]
  refine Eq.trans (congrFun (show _ = View.canon (Val := Elt Ideal) (e := .i32) [⟨r6_17, Cl H d 15⟩, ⟨r6_16, Cl H d 14⟩, ⟨r6_15, Cl H d 13⟩, ⟨r6_14, Cl H d 12⟩, ⟨r6_13, Cl H d 11⟩, ⟨r6_12, Cl H d 10⟩, ⟨r6_11, Cl H d 9⟩, ⟨r6_10, Cl H d 8⟩, ⟨r6_9, Cl H d 7⟩, ⟨r6_8, Cl H d 6⟩, ⟨r6_7, Cl H d 5⟩, ⟨r6_6, Cl H d 4⟩, ⟨r6_5, Cl H d 3⟩, ⟨r6_4, Cl H d 2⟩, ⟨r6_3, Cl H d 1⟩, ⟨r6_2, Cl H d 0⟩] from rfl) y) ?_
  canon_tiles x h
  all_goals exact cl_at d _ x y h0 (by omega)

theorem idx : ∀ t : Fin cfg6.N, win6_0.index t = ![t.val, 0] ∧ win6_1.index t = ![0, 0] ∧ win6_2.index t = ![t.val, 0]
    ∧ (grid6.coords t 0).val = t.val ∧ t.val < 3 :=
  (by decide +kernel : ∀ t : Fin grid6.N, _)

variable (V : (c : Dev nD) → (b : Ref sig .tc) → Buf (Elt Ideal) ((c : Thread nD τ).loc b))

theorem final (c : Dev nD) : (dat6 V c).arrAt 2 cfg6.N = knnOf 625 (V c main_v42) (V c main_v43) := by
  refine (dat6 V c).arrAt_eq_of_covers 2 _ (by decide +kernel) fun t _ y => ?_
  blk_simp
  rw [after6_2, out_apply]
  unfold knnOf
  obtain ⟨i0, i1, i2, hc, ht⟩ := idx t
  have e : ((win6_2.blk t).view.emb y 1).val = (y 1).val := by blk_simp [i2]
  rw [e]
  refine congrArg (fun g => BitVec.ofNat 32 (pickN g (y 1).val).val) (funext fun q => ?_)
  refine Eq.trans ?_ (row_of 625 (grid6.coords t 0).val (by decide) (by decide) (by omega) (V c main_v42) (V c main_v43) (iblk6 V c 0 t) (iblk6 V c 1 t) (y 0)
    ((win6_2.blk t).view.emb y 0) q (by rw [hc]; blk_simp [i2]) (fun e => by blk_ext [iblk6, i0, i2]) (fun e => by blk_ext [iblk6, i1]))
  unfold dist2
  pointwise [k6_pay4]

end Cert.Knn2
end
-- ==== Proof.Enc.lean ====
/-
  The encoder's products: what the arrays of these three regions hold, for any contents of the arrays they read.
-/
module

public import proofs.«01_k».proof.Proof.Gen.KernelIdeal.Frame.Region1
public import proofs.«01_k».proof.Proof.Gen.KernelIdeal.Frame.Region4
public import proofs.«01_k».proof.Proof.Gen.KernelIdeal.Frame.Region7
public import proofs.«01_k».proof.Proof.KLayer
public import Idealize.ShloMosaic.Lib.Pipeline.ValueKit

@[expose] public section

set_option maxRecDepth 16384

noncomputable section

namespace Cert.Enc

open Idealize.ShloMosaic Idealize.ShloMosaic.TcCoe Idealize.SL.Sem
open Idealize.ShloMosaic.Pipeline (Dat)
open Cert.KernelIdeal Cert.KernelIdeal.Gen Cert.KLayer

theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![t.val, 0] ∧ t.val < 40 :=
  (by decide +kernel : ∀ t : Fin grid1.N, _)

theorem idx4 : ∀ t : Fin cfg4.N, win4_0.index t = ![t.val, 0] ∧ win4_1.index t = ![t.val, 0] ∧ win4_2.index t = ![0, 0]
    ∧ win4_3.index t = ![0, 0] ∧ win4_4.index t = ![t.val, 0] ∧ win4_5.index t = ![t.val, 0] ∧ t.val < 10 :=
  (by decide +kernel : ∀ t : Fin grid4.N, _)

theorem idx7 : ∀ t : Fin cfg7.N, win7_0.index t = ![t.val, 0] ∧ win7_1.index t = ![t.val, 0] ∧ win7_2.index t = ![0, 0]
    ∧ win7_3.index t = ![0, 0] ∧ win7_4.index t = ![t.val, 0] ∧ win7_5.index t = ![t.val, 0] ∧ t.val < 3 :=
  (by decide +kernel : ∀ t : Fin grid7.N, _)

variable (V : (c : Dev nD) → (b : Ref sig .tc) → Buf (Elt Ideal) ((c : Thread nD τ).loc b)) (c : Dev nD)

theorem g1 : (dat1 V c).arrAt 4 cfg1.N = gOf (V c main_v8) (V c main_v10) (V c main_v5) (V c main_v7) := by
  refine (dat1 V c).arrAt_eq_of_covers 4 _ (by decide +kernel) fun t _ y => ?_
  blk_simp
  rw [after1_4]; frame_out
  unfold gOf
  pointwise [k1_pay2, k1_pay1]
  blk_point [iblk1, idx1 t]

theorem pw1 : (dat1 V c).arrAt 5 cfg1.N = pwOf (V c main_v10) (V c main_v7) := by
  refine (dat1 V c).arrAt_eq_of_covers 5 _ (by decide +kernel) fun t _ y => ?_
  blk_simp
  rw [after1_5]; frame_out
  unfold pwOf
  pointwise [k1_pay1]
  blk_point [iblk1, idx1 t]

theorem g4 : (dat4 V c).arrAt 4 cfg4.N = gOf (V c main_v29) (V c main_v31) (V c main_v26) (V c main_v28) := by
  refine (dat4 V c).arrAt_eq_of_covers 4 _ (by decide +kernel) fun t _ y => ?_
  blk_simp
  rw [after4_4]; frame_out
  unfold gOf
  pointwise [k4_pay2, k4_pay1]
  blk_point [iblk4, idx4 t]

theorem pw4 : (dat4 V c).arrAt 5 cfg4.N = pwOf (V c main_v31) (V c main_v28) := by
  refine (dat4 V c).arrAt_eq_of_covers 5 _ (by decide +kernel) fun t _ y => ?_
  blk_simp
  rw [after4_5]; frame_out
  unfold pwOf
  pointwise [k4_pay1]
  blk_point [iblk4, idx4 t]

theorem g7 : (dat7 V c).arrAt 4 cfg7.N = gOf (V c main_v49) (V c main_v51) (V c main_v46) (V c main_v48) := by
  refine (dat7 V c).arrAt_eq_of_covers 4 _ (by decide +kernel) fun t _ y => ?_
  blk_simp
  rw [after7_4]; frame_out
  unfold gOf
  pointwise [k7_pay2, k7_pay1]
  blk_point [iblk7, idx7 t]

theorem pw7 : (dat7 V c).arrAt 5 cfg7.N = pwOf (V c main_v51) (V c main_v48) := by
  refine (dat7 V c).arrAt_eq_of_covers 5 _ (by decide +kernel) fun t _ y => ?_
  blk_simp
  rw [after7_5]; frame_out
  unfold pwOf
  pointwise [k7_pay1]
  blk_point [iblk7, idx7 t]

end Cert.Enc
end
-- ==== Proof.Dec9.lean ====
/-
  The decoder's products: what the arrays of these two regions hold, for any contents of the arrays they read.
-/
module

public import proofs.«01_k».proof.Proof.Gen.KernelIdeal.Frame.Region9
public import proofs.«01_k».proof.Proof.KLayer
public import Idealize.ShloMosaic.Lib.Pipeline.ValueKit

@[expose] public section

set_option maxRecDepth 16384

noncomputable section

namespace Cert.Dec9

open Idealize.ShloMosaic Idealize.ShloMosaic.TcCoe Idealize.SL.Sem
open Idealize.ShloMosaic.Pipeline (Dat)
open Cert.KernelIdeal Cert.KernelIdeal.Gen Cert.KLayer

/-- The product of the padded positions and their weights, at this region's sizes. -/
def pwL (P : FVec Ideal S2560x8 .f32) (Wp : FVec Ideal S8x128 .f32) : FVec Ideal S2560x128 .f32 := fun j =>
  ∑ e : Fin 8, P (ix2 (j 0) e) * Wp (ix2 e (j 1))

/-- The mixed features' product with their weights, and the positions' product, at this region's sizes. -/
def gL (X R0 R1 R2 : FVec Ideal S2560x128 .f32) (W : FVec Ideal S2560x16 .f32) (P : FVec Ideal S2560x8 .f32) (Wx : FVec Ideal S128x128 .f32)
    (Wp : FVec Ideal S8x128 .f32) : FVec Ideal S2560x128 .f32 := fun j =>
  (∑ e : Fin 128, (X (ix2 (j 0) e) + (W (ix2 (j 0) 0) * R0 (ix2 (j 0) e) + W (ix2 (j 0) 1) * R1 (ix2 (j 0) e) + W (ix2 (j 0) 2) * R2 (ix2 (j 0) e))) * Wx (ix2 e (j 1)))
    + ∑ e : Fin 8, P (ix2 (j 0) e) * Wp (ix2 e (j 1))

theorem idx9 : ∀ t : Fin cfg9.N, win9_0.index t = ![t.val, 0] ∧ win9_1.index t = ![t.val, 0] ∧ win9_2.index t = ![t.val, 0]
    ∧ win9_3.index t = ![t.val, 0] ∧ win9_4.index t = ![t.val, 0] ∧ win9_5.index t = ![t.val, 0] ∧ win9_6.index t = ![0, 0]
    ∧ win9_7.index t = ![0, 0] ∧ win9_8.index t = ![t.val, 0] ∧ win9_9.index t = ![t.val, 0] ∧ t.val < 10 :=
  (by decide +kernel : ∀ t : Fin grid9.N, _)

variable (V : (c : Dev nD) → (b : Ref sig .tc) → Buf (Elt Ideal) ((c : Thread nD τ).loc b)) (c : Dev nD)

theorem gl : (dat9 V c).arrAt 8 cfg9.N = gL (V c main_v75) (V c main_v76) (V c main_v77) (V c main_v78) (V c main_v74) (V c main_v80) (V c main_v70) (V c main_v72) := by
  refine (dat9 V c).arrAt_eq_of_covers 8 _ (by decide +kernel) fun t _ y => ?_
  blk_simp
  rw [after9_8]; frame_out
  unfold gL
  pointwise [k9_pay3, k9_pay2, k9_pay1]
  blk_point [iblk9, idx9 t]

theorem pl : (dat9 V c).arrAt 9 cfg9.N = pwL (V c main_v80) (V c main_v72) := by
  refine (dat9 V c).arrAt_eq_of_covers 9 _ (by decide +kernel) fun t _ y => ?_
  blk_simp
  rw [after9_9]; frame_out
  unfold pwL
  pointwise [k9_pay2]
  blk_point [iblk9, idx9 t]

theorem g9 : (dat9 V c).arrAt 8 cfg9.N
    = gOf (mixOf (V c main_v75) (V c main_v76) (V c main_v77) (V c main_v78) (V c main_v74)) (V c main_v80) (V c main_v70) (V c main_v72) := gl V c

theorem pw9 : (dat9 V c).arrAt 9 cfg9.N = pwOf (V c main_v80) (V c main_v72) := pl V c

end Cert.Dec9
end
-- ==== Proof.Dec11.lean ====
/-
  The decoder's products: what the arrays of these two regions hold, for any contents of the arrays they read.
-/
module

public import proofs.«01_k».proof.Proof.Gen.KernelIdeal.Frame.Region11
public import proofs.«01_k».proof.Proof.KLayer
public import Idealize.ShloMosaic.Lib.Pipeline.ValueKit

@[expose] public section

set_option maxRecDepth 16384

noncomputable section

namespace Cert.Dec11

open Idealize.ShloMosaic Idealize.ShloMosaic.TcCoe Idealize.SL.Sem
open Idealize.ShloMosaic.Pipeline (Dat)
open Cert.KernelIdeal Cert.KernelIdeal.Gen Cert.KLayer

/-- The product of the padded positions and their weights, at this region's sizes. -/
def pwL (P : FVec Ideal S10240x8 .f32) (Wp : FVec Ideal S8x128 .f32) : FVec Ideal S10240x128 .f32 := fun j =>
  ∑ e : Fin 8, P (ix2 (j 0) e) * Wp (ix2 e (j 1))

/-- The mixed features' product with their weights, and the positions' product, at this region's sizes. -/
def gL (X R0 R1 R2 : FVec Ideal S10240x128 .f32) (W : FVec Ideal S10240x16 .f32) (P : FVec Ideal S10240x8 .f32) (Wx : FVec Ideal S128x128 .f32)
    (Wp : FVec Ideal S8x128 .f32) : FVec Ideal S10240x128 .f32 := fun j =>
  (∑ e : Fin 128, (X (ix2 (j 0) e) + (W (ix2 (j 0) 0) * R0 (ix2 (j 0) e) + W (ix2 (j 0) 1) * R1 (ix2 (j 0) e) + W (ix2 (j 0) 2) * R2 (ix2 (j 0) e))) * Wx (ix2 e (j 1)))
    + ∑ e : Fin 8, P (ix2 (j 0) e) * Wp (ix2 e (j 1))

theorem idx11 : ∀ t : Fin cfg11.N, win11_0.index t = ![t.val, 0] ∧ win11_1.index t = ![t.val, 0] ∧ win11_2.index t = ![t.val, 0]
    ∧ win11_3.index t = ![t.val, 0] ∧ win11_4.index t = ![t.val, 0] ∧ win11_5.index t = ![t.val, 0] ∧ win11_6.index t = ![0, 0]
    ∧ win11_7.index t = ![0, 0] ∧ win11_8.index t = ![t.val, 0] ∧ win11_9.index t = ![t.val, 0] ∧ t.val < 40 :=
  (by decide +kernel : ∀ t : Fin grid11.N, _)

variable (V : (c : Dev nD) → (b : Ref sig .tc) → Buf (Elt Ideal) ((c : Thread nD τ).loc b)) (c : Dev nD)

theorem gl : (dat11 V c).arrAt 8 cfg11.N = gL (V c main_v103) (V c main_v104) (V c main_v105) (V c main_v106) (V c main_v102) (V c main_v108) (V c main_v98) (V c main_v100) := by
  refine (dat11 V c).arrAt_eq_of_covers 8 _ (by decide +kernel) fun t _ y => ?_
  blk_simp
  rw [after11_8]; frame_out
  unfold gL
  pointwise [k11_pay3, k11_pay2, k11_pay1]
  blk_point [iblk11, idx11 t]

theorem pl : (dat11 V c).arrAt 9 cfg11.N = pwL (V c main_v108) (V c main_v100) := by
  refine (dat11 V c).arrAt_eq_of_covers 9 _ (by decide +kernel) fun t _ y => ?_
  blk_simp
  rw [after11_9]; frame_out
  unfold pwL
  pointwise [k11_pay2]
  blk_point [iblk11, idx11 t]

theorem g11 : (dat11 V c).arrAt 8 cfg11.N
    = gOf (mixOf (V c main_v103) (V c main_v104) (V c main_v105) (V c main_v106) (V c main_v102)) (V c main_v108) (V c main_v98) (V c main_v100) := gl V c

theorem pw11 : (dat11 V c).arrAt 9 cfg11.N = pwOf (V c main_v108) (V c main_v100) := pl V c

end Cert.Dec11
end
-- ==== Proof.Conv.lean ====
/-
  The maxima over the neighbours' rows: what the arrays of the first two encoder layers' regions hold, for any contents of the arrays they
  read.
-/
module

public import proofs.«01_k».proof.Proof.Gen.KernelIdeal.Frame.Region2
public import proofs.«01_k».proof.Proof.Gen.KernelIdeal.Frame.Region5
public import proofs.«01_k».proof.Proof.KLayer
public import Idealize.ShloMosaic.Lib.Pipeline.ValueKit

@[expose] public section

set_option maxRecDepth 16384

noncomputable section

namespace Cert.Conv

open Idealize.ShloMosaic Idealize.ShloMosaic.TcCoe Idealize.SL.Sem
open Idealize.ShloMosaic.Pipeline (Dat)
open Cert.KernelIdeal Cert.KernelIdeal.Gen Cert.KLayer

theorem idx2 : ∀ t : Fin cfg2.N, win2_0.index t = ![t.val, 0, 0] ∧ win2_1.index t = ![t.val, 0] ∧ win2_2.index t = ![0, 0]
    ∧ win2_3.index t = ![t.val, 0] ∧ t.val < 79 :=
  (by decide +kernel : ∀ t : Fin grid2.N, _)

theorem idx5 : ∀ t : Fin cfg5.N, win5_0.index t = ![t.val, 0, 0] ∧ win5_1.index t = ![t.val, 0] ∧ win5_2.index t = ![0, 0]
    ∧ win5_3.index t = ![t.val, 0] ∧ t.val < 20 :=
  (by decide +kernel : ∀ t : Fin grid5.N, _)

variable (V : (c : Dev nD) → (b : Ref sig .tc) → Buf (Elt Ideal) ((c : Thread nD τ).loc b)) (c : Dev nD)

set_option maxHeartbeats 1000000 in
theorem row2 (t : Fin cfg2.N) (y : S128x128.Idx) (k : Fin 16) :
    iblk2 V c 0 t (ix3 (y 0) k (y 1)) = V c main_v15 (ix3 ((win2_3.blk t).view.emb y 0) k ((win2_3.blk t).view.emb y 1)) := by
  blk_ext [iblk2, idx2 t]

set_option maxHeartbeats 1000000 in
theorem own2 (t : Fin cfg2.N) (y : S128x128.Idx) :
    iblk2 V c 1 t (ix2 (y 0) (y 1)) = V c main_v16 (ix2 ((win2_3.blk t).view.emb y 0) ((win2_3.blk t).view.emb y 1)) := by
  blk_ext [iblk2, idx2 t]

theorem bias2 (t : Fin cfg2.N) (y : S128x128.Idx) :
    iblk2 V c 2 t (ix2 0 (y 1)) = V c main_v17 (ix2 0 ((win2_3.blk t).view.emb y 1)) := by
  blk_ext [iblk2, idx2 t]

set_option maxHeartbeats 1000000 in
theorem m2 : (dat2 V c).arrAt 3 cfg2.N = convOf (V c main_v15) (V c main_v16) (V c main_v17) := by
  refine (dat2 V c).arrAt_eq_of_covers 3 _ (by decide +kernel) fun t _ y => ?_
  blk_simp
  rw [after2_3]; frame_out
  unfold convOf
  simp only [← row2 V c t y, ← own2 V c t y, ← bias2 V c t y]
  rw [fold16]
  pointwise [k2_pay1, k2_pay2]
  done

set_option maxHeartbeats 1000000 in
theorem row5 (t : Fin cfg5.N) (y : S128x128.Idx) (k : Fin 16) :
    iblk5 V c 0 t (ix3 (y 0) k (y 1)) = V c main_v36 (ix3 ((win5_3.blk t).view.emb y 0) k ((win5_3.blk t).view.emb y 1)) := by
  blk_ext [iblk5, idx5 t]

set_option maxHeartbeats 1000000 in
theorem own5 (t : Fin cfg5.N) (y : S128x128.Idx) :
    iblk5 V c 1 t (ix2 (y 0) (y 1)) = V c main_v32_1 (ix2 ((win5_3.blk t).view.emb y 0) ((win5_3.blk t).view.emb y 1)) := by
  blk_ext [iblk5, idx5 t]

theorem bias5 (t : Fin cfg5.N) (y : S128x128.Idx) :
    iblk5 V c 2 t (ix2 0 (y 1)) = V c main_v37 (ix2 0 ((win5_3.blk t).view.emb y 1)) := by
  blk_ext [iblk5, idx5 t]

set_option maxHeartbeats 1000000 in
theorem m5 : (dat5 V c).arrAt 3 cfg5.N = convOf (V c main_v36) (V c main_v32_1) (V c main_v37) := by
  refine (dat5 V c).arrAt_eq_of_covers 3 _ (by decide +kernel) fun t _ y => ?_
  blk_simp
  rw [after5_3]; frame_out
  unfold convOf
  simp only [← row5 V c t y, ← own5 V c t y, ← bias5 V c t y]
  rw [fold16]
  pointwise [k5_pay1, k5_pay2]
  done

end Cert.Conv
end
-- ==== Proof.ConvD.lean ====
/-
  The maxima over the neighbours' rows: what the arrays of the two decoder layers' regions hold, for any contents of the arrays they
  read.
-/
module

public import proofs.«01_k».proof.Proof.Gen.KernelIdeal.Frame.Region10
public import proofs.«01_k».proof.Proof.Gen.KernelIdeal.Frame.Region12
public import proofs.«01_k».proof.Proof.KLayer
public import Idealize.ShloMosaic.Lib.Pipeline.ValueKit

@[expose] public section

set_option maxRecDepth 16384

noncomputable section

namespace Cert.ConvD

open Idealize.ShloMosaic Idealize.ShloMosaic.TcCoe Idealize.SL.Sem
open Idealize.ShloMosaic.Pipeline (Dat)
open Cert.KernelIdeal Cert.KernelIdeal.Gen Cert.KLayer

theorem idx10 : ∀ t : Fin cfg10.N, win10_0.index t = ![t.val, 0, 0] ∧ win10_1.index t = ![t.val, 0] ∧ win10_2.index t = ![0, 0]
    ∧ win10_3.index t = ![t.val, 0] ∧ t.val < 20 :=
  (by decide +kernel : ∀ t : Fin grid10.N, _)

theorem idx12 : ∀ t : Fin cfg12.N, win12_0.index t = ![t.val, 0, 0] ∧ win12_1.index t = ![t.val, 0] ∧ win12_2.index t = ![0, 0]
    ∧ win12_3.index t = ![t.val, 0] ∧ t.val < 79 :=
  (by decide +kernel : ∀ t : Fin grid12.N, _)

variable (V : (c : Dev nD) → (b : Ref sig .tc) → Buf (Elt Ideal) ((c : Thread nD τ).loc b)) (c : Dev nD)

set_option maxHeartbeats 1000000 in
theorem row10 (t : Fin cfg10.N) (y : S128x128.Idx) (k : Fin 16) :
    iblk10 V c 0 t (ix3 (y 0) k (y 1)) = V c main_v85 (ix3 ((win10_3.blk t).view.emb y 0) k ((win10_3.blk t).view.emb y 1)) := by
  blk_ext [iblk10, idx10 t]

set_option maxHeartbeats 1000000 in
theorem own10 (t : Fin cfg10.N) (y : S128x128.Idx) :
    iblk10 V c 1 t (ix2 (y 0) (y 1)) = V c main_v81_1 (ix2 ((win10_3.blk t).view.emb y 0) ((win10_3.blk t).view.emb y 1)) := by
  blk_ext [iblk10, idx10 t]

theorem bias10 (t : Fin cfg10.N) (y : S128x128.Idx) :
    iblk10 V c 2 t (ix2 0 (y 1)) = V c main_v86 (ix2 0 ((win10_3.blk t).view.emb y 1)) := by
  blk_ext [iblk10, idx10 t]

set_option maxHeartbeats 1000000 in
theorem m10 : (dat10 V c).arrAt 3 cfg10.N = convOf (V c main_v85) (V c main_v81_1) (V c main_v86) := by
  refine (dat10 V c).arrAt_eq_of_covers 3 _ (by decide +kernel) fun t _ y => ?_
  blk_simp
  rw [after10_3]; frame_out
  unfold convOf
  simp only [← row10 V c t y, ← own10 V c t y, ← bias10 V c t y]
  rw [fold16]
  pointwise [k10_pay1, k10_pay2]
  done

set_option maxHeartbeats 1000000 in
theorem row12 (t : Fin cfg12.N) (y : S128x128.Idx) (k : Fin 16) :
    iblk12 V c 0 t (ix3 (y 0) k (y 1)) = V c main_v113 (ix3 ((win12_3.blk t).view.emb y 0) k ((win12_3.blk t).view.emb y 1)) := by
  blk_ext [iblk12, idx12 t]

set_option maxHeartbeats 1000000 in
theorem own12 (t : Fin cfg12.N) (y : S128x128.Idx) :
    iblk12 V c 1 t (ix2 (y 0) (y 1)) = V c main_v114 (ix2 ((win12_3.blk t).view.emb y 0) ((win12_3.blk t).view.emb y 1)) := by
  blk_ext [iblk12, idx12 t]

theorem bias12 (t : Fin cfg12.N) (y : S128x128.Idx) :
    iblk12 V c 2 t (ix2 0 (y 1)) = V c main_v115 (ix2 0 ((win12_3.blk t).view.emb y 1)) := by
  blk_ext [iblk12, idx12 t]

set_option maxHeartbeats 1000000 in
theorem m12 : (dat12 V c).arrAt 3 cfg12.N = convOf (V c main_v113) (V c main_v114) (V c main_v115) := by
  refine (dat12 V c).arrAt_eq_of_covers 3 _ (by decide +kernel) fun t _ y => ?_
  blk_simp
  rw [after12_3]; frame_out
  unfold convOf
  simp only [← row12 V c t y, ← own12 V c t y, ← bias12 V c t y]
  rw [fold16]
  pointwise [k12_pay1, k12_pay2]
  done

end Cert.ConvD
end
-- ==== Proof.ConvM.lean ====
/-
  The maxima over the neighbours' rows: what the array of the third encoder layer's region holds, for any contents of the arrays they
  read.
-/
module

public import proofs.«01_k».proof.Proof.Gen.KernelIdeal.Frame.Region8
public import proofs.«01_k».proof.Proof.KLayer
public import Idealize.ShloMosaic.Lib.Pipeline.ValueKit

@[expose] public section

set_option maxRecDepth 16384

noncomputable section

namespace Cert.ConvM

open Idealize.ShloMosaic Idealize.ShloMosaic.TcCoe Idealize.SL.Sem
open Idealize.ShloMosaic.Pipeline (Dat)
open Cert.KernelIdeal Cert.KernelIdeal.Gen Cert.KLayer

theorem idx8 : ∀ t : Fin cfg8.N, win8_0.index t = ![t.val, 0, 0] ∧ win8_1.index t = ![t.val, 0] ∧ win8_2.index t = ![0, 0]
    ∧ win8_3.index t = ![t.val, 0] ∧ t.val < 5 :=
  (by decide +kernel : ∀ t : Fin grid8.N, _)

variable (V : (c : Dev nD) → (b : Ref sig .tc) → Buf (Elt Ideal) ((c : Thread nD τ).loc b)) (c : Dev nD)

set_option maxHeartbeats 1000000 in
theorem row8 (t : Fin cfg8.N) (y : S128x128.Idx) (k : Fin 16) :
    iblk8 V c 0 t (ix3 (y 0) k (y 1)) = V c main_v56 (ix3 ((win8_3.blk t).view.emb y 0) k ((win8_3.blk t).view.emb y 1)) := by
  blk_ext [iblk8, idx8 t]

set_option maxHeartbeats 1000000 in
theorem own8 (t : Fin cfg8.N) (y : S128x128.Idx) :
    iblk8 V c 1 t (ix2 (y 0) (y 1)) = V c main_v57 (ix2 ((win8_3.blk t).view.emb y 0) ((win8_3.blk t).view.emb y 1)) := by
  blk_ext [iblk8, idx8 t]

theorem bias8 (t : Fin cfg8.N) (y : S128x128.Idx) :
    iblk8 V c 2 t (ix2 0 (y 1)) = V c main_v58 (ix2 0 ((win8_3.blk t).view.emb y 1)) := by
  blk_ext [iblk8, idx8 t]

set_option maxHeartbeats 1000000 in
theorem m8 : (dat8 V c).arrAt 3 cfg8.N = convOf (V c main_v56) (V c main_v57) (V c main_v58) := by
  refine (dat8 V c).arrAt_eq_of_covers 3 _ (by decide +kernel) fun t _ y => ?_
  blk_simp
  rw [after8_3]; frame_out
  unfold convOf
  simp only [← row8 V c t y, ← own8 V c t y, ← bias8 V c t y]
  rw [fold16]
  pointwise [k8_pay1, k8_pay2]
  done

end Cert.ConvM
end
-- ==== Proof.KNet.lean ====
/-
  The kernel's program from its first region to its result: each layer's array holds the network's layer.
-/
module

public import proofs.«01_k».proof.Proof.Host1
public import proofs.«01_k».proof.Proof.Host2
public import proofs.«01_k».proof.Proof.Keep
public import proofs.«01_k».proof.Proof.KLevel
public import proofs.«01_k».proof.Proof.Knn0
public import proofs.«01_k».proof.Proof.Knn1
public import proofs.«01_k».proof.Proof.Knn2
public import proofs.«01_k».proof.Proof.Enc
public import proofs.«01_k».proof.Proof.Dec9
public import proofs.«01_k».proof.Proof.Dec11
public import proofs.«01_k».proof.Proof.Conv
public import proofs.«01_k».proof.Proof.ConvD
public import proofs.«01_k».proof.Proof.ConvM

@[expose] public section

set_option maxRecDepth 16384

noncomputable section

namespace Cert.KNet

open Idealize.ShloMosaic Idealize.ShloMosaic.TcCoe Idealize.SL.Sem
open Cert.KernelIdeal Cert.KernelIdeal.Gen Cert.KLayer Cert.KHost Cert.KFacts Cert.KLevel Cert.Net Cert.Layer

variable (m : (ℓ : Loc nD τ sig) → Buf (Elt Ideal) ℓ) (ρ : Dev nD → PrngReg) (c : Dev nD)

/-- The arrays the program is launched with. -/
abbrev A : Args where
  x := m ((c : Thread nD τ).loc main_arg0)
  p0 := m ((c : Thread nD τ).loc main_arg1)
  bt := m ((c : Thread nD τ).loc main_arg2)
  i1 := m ((c : Thread nD τ).loc main_arg3)
  p1 := m ((c : Thread nD τ).loc main_arg4)
  i2 := m ((c : Thread nD τ).loc main_arg5)
  p2 := m ((c : Thread nD τ).loc main_arg6)
  j0 := m ((c : Thread nD τ).loc main_arg7)
  w0 := m ((c : Thread nD τ).loc main_arg8)
  j1 := m ((c : Thread nD τ).loc main_arg9)
  w1 := m ((c : Thread nD τ).loc main_arg10)
  We0 := m ((c : Thread nD τ).loc main_arg11)
  be0 := m ((c : Thread nD τ).loc main_arg12)
  We1 := m ((c : Thread nD τ).loc main_arg13)
  be1 := m ((c : Thread nD τ).loc main_arg14)
  We2 := m ((c : Thread nD τ).loc main_arg15)
  be2 := m ((c : Thread nD τ).loc main_arg16)
  Wd0 := m ((c : Thread nD τ).loc main_arg17)
  bd0 := m ((c : Thread nD τ).loc main_arg18)
  Wd1 := m ((c : Thread nD τ).loc main_arg19)
  bd1 := m ((c : Thread nD τ).loc main_arg20)

/-- The words of the three levels, as arrays. -/
theorem words0 : V14 m ρ c main_v4 = top s0 (knnOf 10000 (pos8 P0 (A m c).p0) (transpose (RefLayer.S2 8 10240) [1, 0] (pos8 P0 (A m c).p0) t0)) := by
  have e : V6 m ρ c main_v3 = knnOf 10000 (V5 m ρ c main_v1) (V5 m ρ c main_v2) := (W6_arr m ρ c 2).trans (Knn0.final (V5 m ρ) c)
  rw [(Host1.in14 m ρ c).1, e, (Host1.in5 m ρ c).1, (Host1.in5 m ρ c).2]

theorem words1 : V37 m ρ c main_v25 = top s1 (knnOf 2500 (pos8 P1 (A m c).p1) (transpose (RefLayer.S2 8 2560) [1, 0] (pos8 P1 (A m c).p1) t1)) := by
  have e : V29 m ρ c main_v24 = knnOf 2500 (V28 m ρ c main_v22) (V28 m ρ c main_v23) := (W29_arr m ρ c 2).trans (Knn1.final (V28 m ρ) c)
  have a : V21 m ρ c main_arg4 = (A m c).p1 := W21_args m ρ c main_arg4 (by decide)
  rw [(Host1.in37 m ρ c).1, e, (Host1.in28 m ρ c).2.2.1, (Host1.in28 m ρ c).2.2.2, a]

theorem words2 : V60 m ρ c main_v45 = top s2 (knnOf 625 (pos8 P2 (A m c).p2) (transpose (RefLayer.S2 8 768) [1, 0] (pos8 P2 (A m c).p2) t2)) := by
  have e : V52 m ρ c main_v44 = knnOf 625 (V51 m ρ c main_v42) (V51 m ρ c main_v43) := (W52_arr m ρ c 2).trans (Knn2.final (V51 m ρ) c)
  have a : V44 m ρ c main_arg6 = (A m c).p2 := W44_args m ρ c main_arg6 (by decide)
  rw [(Host1.in60 m ρ c).1, e, (Host1.in51 m ρ c).2.2.1, (Host1.in51 m ρ c).2.2.2, a]

/-- The encoder layers' arrays, from the arrays they are given. -/
theorem enc0 : V21 m ρ c main_v18 = convOf (nbrRows N0 10240#32 10239#32 (gOf (padRows f0 one (A m c).x) (pos8 P0 (A m c).p0) (top hx (A m c).We0) (wp8 hp hp' one (A m c).We0))
      (V14 m ρ c main_v4)) (top o0 (pwOf (pos8 P0 (A m c).p0) (wp8 hp hp' one (A m c).We0))) (shapeCast (RefLayer.S2 1 128) (A m c).be0 hb) := by
  obtain ⟨a1, a2, a3⟩ := Host1.in20 m ρ c
  obtain ⟨-, b2, b3, b4, b5⟩ := Host1.in14 m ρ c
  have e : V21 m ρ c main_v18 = convOf (V20 m ρ c main_v15) (V20 m ρ c main_v16) (V20 m ρ c main_v17) := (W21_arr m ρ c 3).trans (Conv.m2 (V20 m ρ) c)
  have g : V15 m ρ c main_v11_0 = gOf (V14 m ρ c main_v8) (V14 m ρ c main_v10) (V14 m ρ c main_v5) (V14 m ρ c main_v7) := (W15_arr m ρ c 4).trans (Enc.g1 (V14 m ρ) c)
  have p : V15 m ρ c main_v11_1 = pwOf (V14 m ρ c main_v10) (V14 m ρ c main_v7) := (W15_arr m ρ c 5).trans (Enc.pw1 (V14 m ρ) c)
  have a : V15 m ρ c main_arg12 = (A m c).be0 := W15_args m ρ c main_arg12 (by decide)
  have w : V6 m ρ c main_arg11 = (A m c).We0 := W6_args m ρ c main_arg11 (by decide)
  have x : V6 m ρ c main_arg0 = (A m c).x := W6_args m ρ c main_arg0 (by decide)
  have q : V6 m ρ c main_arg1 = (A m c).p0 := W6_args m ρ c main_arg1 (by decide)
  rw [e, a1, a2, a3, g, p, Keep.words0, b2, b3, b4, b5, a, w, x, q]

theorem enc1 : V44 m ρ c main_v38 = convOf (nbrRows N1 2560#32 2559#32 (gOf (padRows f1 one (V28 m ρ c main_v20)) (pos8 P1 (A m c).p1) (top hx (A m c).We1) (wp8 hp hp' one (A m c).We1))
      (V37 m ρ c main_v25)) (pwOf (pos8 P1 (A m c).p1) (wp8 hp hp' one (A m c).We1)) (shapeCast (RefLayer.S2 1 128) (A m c).be1 hb) := by
  obtain ⟨a1, a2, a3⟩ := Host1.in43 m ρ c
  obtain ⟨-, b2, b3, b4, b5⟩ := Host1.in37 m ρ c
  have e : V44 m ρ c main_v38 = convOf (V43 m ρ c main_v36) (V43 m ρ c main_v32_1) (V43 m ρ c main_v37) := (W44_arr m ρ c 3).trans (Conv.m5 (V43 m ρ) c)
  have g : V38 m ρ c main_v32_0 = gOf (V37 m ρ c main_v29) (V37 m ρ c main_v31) (V37 m ρ c main_v26) (V37 m ρ c main_v28) := (W38_arr m ρ c 4).trans (Enc.g4 (V37 m ρ) c)
  have p : V38 m ρ c main_v32_1 = pwOf (V37 m ρ c main_v31) (V37 m ρ c main_v28) := (W38_arr m ρ c 5).trans (Enc.pw4 (V37 m ρ) c)
  have a : V38 m ρ c main_arg14 = (A m c).be1 := W38_args m ρ c main_arg14 (by decide)
  have w : V29 m ρ c main_arg13 = (A m c).We1 := W29_args m ρ c main_arg13 (by decide)
  have q : V29 m ρ c main_arg4 = (A m c).p1 := W29_args m ρ c main_arg4 (by decide)
  rw [e, a1, a2, a3, g, p, Keep.words1, b2, b3, b4, b5, a, w, Keep.from20, q]

theorem enc2 : V67 m ρ c main_v59 = convOf (nbrRows N2 768#32 767#32 (gOf (padRows f2 one (V51 m ρ c main_v40)) (pos8 P2 (A m c).p2) (top hx (A m c).We2) (wp8 hp hp' one (A m c).We2))
      (V60 m ρ c main_v45)) (top o2 (pwOf (pos8 P2 (A m c).p2) (wp8 hp hp' one (A m c).We2))) (shapeCast (RefLayer.S2 1 128) (A m c).be2 hb) := by
  obtain ⟨a1, a2, a3⟩ := Host1.in66 m ρ c
  obtain ⟨-, b2, b3, b4, b5⟩ := Host1.in60 m ρ c
  have e : V67 m ρ c main_v59 = convOf (V66 m ρ c main_v56) (V66 m ρ c main_v57) (V66 m ρ c main_v58) := (W67_arr m ρ c 3).trans (ConvM.m8 (V66 m ρ) c)
  have g : V61 m ρ c main_v52_0 = gOf (V60 m ρ c main_v49) (V60 m ρ c main_v51) (V60 m ρ c main_v46) (V60 m ρ c main_v48) := (W61_arr m ρ c 4).trans (Enc.g7 (V60 m ρ) c)
  have p : V61 m ρ c main_v52_1 = pwOf (V60 m ρ c main_v51) (V60 m ρ c main_v48) := (W61_arr m ρ c 5).trans (Enc.pw7 (V60 m ρ) c)
  have a : V61 m ρ c main_arg16 = (A m c).be2 := W61_args m ρ c main_arg16 (by decide)
  have w : V52 m ρ c main_arg15 = (A m c).We2 := W52_args m ρ c main_arg15 (by decide)
  have q : V52 m ρ c main_arg6 = (A m c).p2 := W52_args m ρ c main_arg6 (by decide)
  rw [e, a1, a2, a3, g, p, Keep.words2, b2, b3, b4, b5, a, w, Keep.from40, q]

/-- The features the decoder layers are given: an encoder layer's, with the weighted sum of three coarser rows. -/
abbrev in0 : FVec Ideal (RefLayer.S2 2560 128) .f32 :=
  mixOf (padRows f1 one (V51 m ρ c main_v39))
    (padRows f1 one (takeRows T3 625#32 624#32 (top r2 (V67 m ρ c main_v59)) (column 0 c10 c1 (A m c).j0)))
    (padRows f1 one (takeRows T3 625#32 624#32 (top r2 (V67 m ρ c main_v59)) (column 1 c11 c1 (A m c).j0)))
    (padRows f1 one (takeRows T3 625#32 624#32 (top r2 (V67 m ρ c main_v59)) (column 2 c12 c1 (A m c).j0)))
    (padRows w1' one (pad16 w1 one (A m c).w0))

abbrev in1 : FVec Ideal (RefLayer.S2 10240 128) .f32 :=
  mixOf (padRows f0 one (V28 m ρ c main_v19))
    (padRows f0 one (takeRows T4 2500#32 2499#32 (top r1 (V98 m ρ c main_v87)) (column 0 c00 c0 (A m c).j1)))
    (padRows f0 one (takeRows T4 2500#32 2499#32 (top r1 (V98 m ρ c main_v87)) (column 1 c01 c0 (A m c).j1)))
    (padRows f0 one (takeRows T4 2500#32 2499#32 (top r1 (V98 m ρ c main_v87)) (column 2 c02 c0 (A m c).j1)))
    (padRows w0' one (pad16 w0 one (A m c).w1))

theorem dec0 : V98 m ρ c main_v87 = convOf (nbrRows N1 2560#32 2559#32 (gOf (in0 m ρ c) (pos8 P1 (A m c).p1) (top hx (A m c).Wd0) (wp8 hp hp' one (A m c).Wd0))
      (V37 m ρ c main_v25)) (pwOf (pos8 P1 (A m c).p1) (wp8 hp hp' one (A m c).Wd0)) (shapeCast (RefLayer.S2 1 128) (A m c).bd0 hb) := by
  obtain ⟨a1, a2, a3⟩ := Host2.in97 m ρ c
  obtain ⟨b1, b2, b3, b4, b5, b6, b7, b8⟩ := Host2.in91 m ρ c
  have e : V98 m ρ c main_v87 = convOf (V97 m ρ c main_v85) (V97 m ρ c main_v81_1) (V97 m ρ c main_v86) := (W98_arr m ρ c 3).trans (ConvD.m10 (V97 m ρ) c)
  have g : V92 m ρ c main_v81_0 = gOf (mixOf (V91 m ρ c main_v75) (V91 m ρ c main_v76) (V91 m ρ c main_v77) (V91 m ρ c main_v78) (V91 m ρ c main_v74))
    (V91 m ρ c main_v80) (V91 m ρ c main_v70) (V91 m ρ c main_v72) := (W92_arr m ρ c 8).trans (Dec9.g9 (V91 m ρ) c)
  have p : V92 m ρ c main_v81_1 = pwOf (V91 m ρ c main_v80) (V91 m ρ c main_v72) := (W92_arr m ρ c 9).trans (Dec9.pw9 (V91 m ρ) c)
  have a : V92 m ρ c main_arg18 = (A m c).bd0 := W92_args m ρ c main_arg18 (by decide)
  have w : V67 m ρ c main_arg17 = (A m c).Wd0 := W67_args m ρ c main_arg17 (by decide)
  have j : V67 m ρ c main_arg7 = (A m c).j0 := W67_args m ρ c main_arg7 (by decide)
  have v : V67 m ρ c main_arg8 = (A m c).w0 := W67_args m ρ c main_arg8 (by decide)
  have q : V67 m ρ c main_arg4 = (A m c).p1 := W67_args m ρ c main_arg4 (by decide)
  rw [e, a1, a2, a3, g, p, Keep.across m ρ c main_v25 (Or.inr (Or.inr rfl)), Keep.words1, b1, b2, b3, b4, b5, b6, b7, b8, a, w, j, v, q, Keep.from39]

theorem dec1 : V129 m ρ c main_v116 = convOf (nbrRows N0 10240#32 10239#32 (gOf (in1 m ρ c) (pos8 P0 (A m c).p0) (top hx (A m c).Wd1) (wp8 hp hp' one (A m c).Wd1))
      (V14 m ρ c main_v4)) (top o0 (pwOf (pos8 P0 (A m c).p0) (wp8 hp hp' one (A m c).Wd1))) (shapeCast (RefLayer.S2 1 128) (A m c).bd1 hb) := by
  obtain ⟨a1, a2, a3⟩ := Host2.in128 m ρ c
  obtain ⟨b1, b2, b3, b4, b5, b6, b7, b8⟩ := Host2.in122 m ρ c
  have e : V129 m ρ c main_v116 = convOf (V128 m ρ c main_v113) (V128 m ρ c main_v114) (V128 m ρ c main_v115) := (W129_arr m ρ c 3).trans (ConvD.m12 (V128 m ρ) c)
  have g : V123 m ρ c main_v109_0 = gOf (mixOf (V122 m ρ c main_v103) (V122 m ρ c main_v104) (V122 m ρ c main_v105) (V122 m ρ c main_v106) (V122 m ρ c main_v102))
    (V122 m ρ c main_v108) (V122 m ρ c main_v98) (V122 m ρ c main_v100) := (W123_arr m ρ c 8).trans (Dec11.g11 (V122 m ρ) c)
  have p : V123 m ρ c main_v109_1 = pwOf (V122 m ρ c main_v108) (V122 m ρ c main_v100) := (W123_arr m ρ c 9).trans (Dec11.pw11 (V122 m ρ) c)
  have a : V123 m ρ c main_arg20 = (A m c).bd1 := W123_args m ρ c main_arg20 (by decide)
  have w : V98 m ρ c main_arg19 = (A m c).Wd1 := W98_args m ρ c main_arg19 (by decide)
  have j : V98 m ρ c main_arg9 = (A m c).j1 := W98_args m ρ c main_arg9 (by decide)
  have v : V98 m ρ c main_arg10 = (A m c).w1 := W98_args m ρ c main_arg10 (by decide)
  have q : V98 m ρ c main_arg1 = (A m c).p0 := W98_args m ρ c main_arg1 (by decide)
  rw [e, a1, a2, a3, g, p, Keep.from4, Keep.words0, b1, b2, b3, b4, b5, b6, b7, b8, a, w, j, v, q, Keep.from19]

variable {m c} (h : (A m c).Ok)
include h

theorem near0 (r : Fin 10000) (k : Fin 16) : V14 m ρ c main_v4 (ix2 r k) = BitVec.ofNat 32 (nbr (by omega) (fun r e => (A m c).p0 (ix2 r e)) r k).val :=
  (congrFun (words0 m ρ c) _).trans (words_at (by norm_num) (by norm_num) P0 _ h.p0 t0 s0 r k)

theorem near1 (r : Fin 2500) (k : Fin 16) : V37 m ρ c main_v25 (ix2 r k) = BitVec.ofNat 32 (nbr (by omega) (fun r e => (A m c).p1 (ix2 r e)) r k).val :=
  (congrFun (words1 m ρ c) _).trans (words_at (by norm_num) (by norm_num) P1 _ h.p1 t1 s1 r k)

theorem near2 (r : Fin 625) (k : Fin 16) : V60 m ρ c main_v45 (ix2 r k) = BitVec.ofNat 32 (nbr (by omega) (fun r e => (A m c).p2 (ix2 r e)) r k).val :=
  (congrFun (words2 m ρ c) _).trans (words_at (by norm_num) (by norm_num) P2 _ h.p2 t2 s2 r k)

/-- Each layer's array, at its rows. -/
theorem out0 (r : Fin 10000) (d : Fin 128) : V21 m ρ c main_v18 (ix2 (Fin.castLE (by norm_num) r : Fin 10112) d) = e0 (A m c) r d :=
  (congrFun (enc0 m ρ c) _).trans (level (by norm_num) (by norm_num) (by norm_num) (by norm_num) P0 N0 rfl hx hp hp' one hb _ _ rfl
    (x0 (A m c)) _ _ _ (fun _ _ => h.x _) h.p0 h.We0 h.be0 _ (fun r i => pad_in _ _ f0 one _ i r i rfl rfl) _ (near0 ρ h) _
    (fun r d => slice_at (by norm_num) _ o0 _ d) r d)

theorem feat1 (r : Fin 2500) (d : Fin 128) : padRows f1 one (V28 m ρ c main_v20) (ix2 (Fin.castLE (by norm_num) r : Fin 2560) d) = x1 (A m c) r d := by
  have a : V21 m ρ c main_arg3 = (A m c).i1 := W21_args m ρ c main_arg3 (by decide)
  rw [(Host1.in28 m ρ c).2.1, a]
  exact taken_at T1 (by norm_num) (by norm_num) (by norm_num) _ _ rfl _ (e0 (A m c)) (fun r d => (slice_at (by norm_num) _ r0 r d).trans (out0 ρ h r d)) _ (fun _ => h.i1 _) _ f1 one r d

theorem out1 (r : Fin 2500) (d : Fin 128) : V44 m ρ c main_v38 (ix2 (Fin.castLE (by norm_num) r : Fin 2560) d) = e1 (A m c) r d :=
  (congrFun (enc1 m ρ c) _).trans (level (by norm_num) (by norm_num) (by norm_num) (by norm_num) P1 N1 rfl hx hp hp' one hb _ _ rfl
    (x1 (A m c)) _ _ _ (fun _ _ => real_e0 h _ _) h.p1 h.We1 h.be1 _ (feat1 ρ h) _ (near1 ρ h) _ (fun r d => rfl) r d)

theorem feat2 (r : Fin 625) (d : Fin 128) : padRows f2 one (V51 m ρ c main_v40) (ix2 (Fin.castLE (by norm_num) r : Fin 768) d) = x2 (A m c) r d := by
  have a : V44 m ρ c main_arg5 = (A m c).i2 := W44_args m ρ c main_arg5 (by decide)
  rw [(Host1.in51 m ρ c).2.1, a]
  exact taken_at T2 (by norm_num) (by norm_num) (by norm_num) _ _ rfl _ (e1 (A m c)) (fun r d => (slice_at (by norm_num) _ r1 r d).trans (out1 ρ h r d)) _ (fun _ => h.i2 _) _ f2 one r d

theorem out2 (r : Fin 625) (d : Fin 128) : V67 m ρ c main_v59 (ix2 (Fin.castLE (by norm_num) r : Fin 640) d) = e2 (A m c) r d :=
  (congrFun (enc2 m ρ c) _).trans (level (by norm_num) (by norm_num) (by norm_num) (by norm_num) P2 N2 rfl hx hp hp' one hb _ _ rfl
    (x2 (A m c)) _ _ _ (fun _ _ => real_e1 h _ _) h.p2 h.We2 h.be2 _ (feat2 ρ h) _ (near2 ρ h) _ (fun r d => slice_at (by norm_num) _ o2 _ d) r d)

theorem feat3 (r : Fin 2500) (d : Fin 128) : in0 m ρ c (ix2 (Fin.castLE (by norm_num) r : Fin 2560) d) = m0 (A m c) r d :=
  mixed_at T3 (by norm_num) (by norm_num) (by norm_num) _ _ rfl _ (e2 (A m c)) (fun r d => (slice_at (by norm_num) _ r2 r d).trans (out2 ρ h r d)) _ (e1 (A m c))
    (fun r d => (congrFun (Host1.in51 m ρ c).1 _).trans ((slice_at (by norm_num) _ r1 r d).trans (out1 ρ h r d))) _ h.j0 _ c10 c11 c12 c1 _ f1 one w1 w1' _ r d

theorem out3 (r : Fin 2500) (d : Fin 128) : V98 m ρ c main_v87 (ix2 (Fin.castLE (by norm_num) r : Fin 2560) d) = d0 (A m c) r d :=
  (congrFun (dec0 m ρ c) _).trans (level (by norm_num) (by norm_num) (by norm_num) (by norm_num) P1 N1 rfl hx hp hp' one hb _ _ rfl
    (m0 (A m c)) _ _ _ (real_m0 h) h.p1 h.Wd0 h.bd0 _ (feat3 ρ h) _ (near1 ρ h) _ (fun r d => rfl) r d)

theorem feat4 (r : Fin 10000) (d : Fin 128) : in1 m ρ c (ix2 (Fin.castLE (by norm_num) r : Fin 10240) d) = m1 (A m c) r d :=
  mixed_at T4 (by norm_num) (by norm_num) (by norm_num) _ _ rfl _ (d0 (A m c)) (fun r d => (slice_at (by norm_num) _ r1 r d).trans (out3 ρ h r d)) _ (e0 (A m c))
    (fun r d => (congrFun (Host1.in28 m ρ c).1 _).trans ((slice_at (by norm_num) _ r0 r d).trans (out0 ρ h r d))) _ h.j1 _ c00 c01 c02 c0 _ f0 one w0 w0' _ r d

/-- The program's result is the network's output. -/
theorem result (r : Fin 10000) (d : Fin 128) : W130 m ρ c (Proc.devRef .tc main_v117) (ix2 r d) = d1 (A m c) r d :=
  (congrFun (Host2.in130 m ρ c) _).trans ((slice_at (by norm_num) _ r0 r d).trans ((congrFun (dec1 m ρ c) _).trans
    (level (by norm_num) (by norm_num) (by norm_num) (by norm_num) P0 N0 rfl hx hp hp' one hb _ _ rfl
      (m1 (A m c)) _ _ _ (real_m1 h) h.p0 h.Wd1 h.bd1 _ (feat4 ρ h) _ (near0 ρ h) _ (fun r d => slice_at (by norm_num) _ o0 _ d) r d)))

end Cert.KNet
end
-- ==== Proof.RefHost.lean ====
/-
  The reference's operations between its layers, at any sizes, and what each gives at an index: rows taken from a table,
  and the weighted sum of three coarser rows; and a layer over an array given at its indices.
-/
module

public import proofs.«01_k».proof.Proof.KHost
public import proofs.«01_k».proof.Proof.Net

@[expose] public section

set_option maxRecDepth 16384

noncomputable section

namespace Cert.RefHost

open Idealize.ShloMosaic Cert.Select Cert.Rows Cert.Layer Cert.Ops Cert.RefLayer Cert.KHost Cert.Net

/-- Rows taken from a table. -/
theorem rows_at {n R : Nat} [NeZero n] (h : TakeFacts n R) (u : BitVec 32) (x : FVec Ideal (S2 n 128) .f32) (w : IVec (S1 R) 32) (hR : 1 < R) (hn : n < 2 ^ 31)
    (hw : ∀ i, (w i).toNat < n) (r : Fin R) (d : Fin 128) :
    Host.gather (rowDims h) x (wrap1 h u w) (ix2 r d) = x (ix2 (row n (w (ix1 r))) d) :=
  Routing.gather_row _ rfl rfl rfl rfl rfl _ _ _ _ _ (wrap1_at h u w hR hn r _ (row_word (hw _))) hn

/-- Whatever is taken from an array of zeros is zero. -/
theorem zeros_at {s t o : Shape} (d : GatherDims s t o) (x : IVec s 32) (w : IVec t 32) (hx : ∀ i, x i = 0#32) (i : o.Idx) : Host.gather d x w i = 0#32 := hx _

/-- What the weighted sum of three rows asks of the shapes. -/
structure BlendFacts (c n : Nat) : Prop where
  pick : PickFacts c n 3
  gx : GatherDims.WF (S2 c 128) (S3 n 3 1) (S3 n 3 128) [2] [0] [] [0] [] 2 ![1, 128]
  col : (S2 n 3).BroadcastsInDim (S3 n 3 1) (![0, 1] : Fin 2 → Fin 3)
  cols : (S3 n 3 1).BroadcastsInDim (S3 n 3 128) (![0, 1, 2] : Fin 3 → Fin 3)
  sum : (S3 n 3 128).ReducesTo [1] (S2 n 128)
  one : 0 < S0.numel

/-- An array and the weighted sum of three coarser rows. -/
def blend {c n : Nat} (h : BlendFacts c n) (u : BitVec 32) (x : FVec Ideal (S2 c 128) .f32) (y : FVec Ideal (S2 n 128) .f32) (j : IVec (S2 n 3) 32)
    (w : FVec Ideal (S2 n 3) .f32) : FVec Ideal (S2 n 128) .f32 :=
  addf y (Host.reduceAdd (mulf (Host.gather (rowsDims c n 3 128 h.gx) x (wrap h.pick u j))
    (broadcastInDim (S3 n 3 128) ![0, 1, 2] h.cols (broadcastInDim (S3 n 3 1) ![0, 1] h.col w))) (constant S0 .f32 0x00000000#32) h.sum h.one)

theorem blend_at {c n : Nat} [NeZero c] (h : BlendFacts c n) (u : BitVec 32) (x : FVec Ideal (S2 c 128) .f32) (y : FVec Ideal (S2 n 128) .f32) (j : IVec (S2 n 3) 32)
    (w : FVec Ideal (S2 n 3) .f32) (hn : 1 < n) (hc : c < 2 ^ 31) (hj : ∀ i, (j i).toNat < c) (f : Fin c → Fin 128 → EReal) (g : Fin n → Fin 128 → EReal)
    (hx : ∀ r d, x (ix2 r d) = f r d) (hy : ∀ r d, y (ix2 r d) = g r d) (r : Fin n) (d : Fin 128) : blend h u x y j w (ix2 r d) = mix g f j w r d := by
  have hg : ∀ e, Host.gather (rowsDims c n 3 128 h.gx) x (wrap h.pick u j) (ix3 r e d) = f (row c (j (ix2 r e))) d := fun e =>
    (gather_rows hc _ x _ r e d _ (wrap_at hn (by omega) hc h.pick u j r e _ (row_word (hj _)))).trans (hx _ _)
  unfold blend mix
  generalize Host.gather (rowsDims c n 3 128 h.gx) x (wrap h.pick u j) = z at hg
  pointwise
  have hn1 : ¬ n = 1 := by omega
  repeat erw [dif_neg hn1]
  simp only [hg, hy]

/-- A layer over an array given at its indices. -/
theorem lay_at {n : Nat} (C : ConvFacts n) (D : DistFacts n) (T : (S2 n n).Slices (fun _ => 0) (S2 n 16)) (u : BitVec 32) (hn : 16 ≤ n) (hn' : n < 2 ^ 31)
    (x : FVec Ideal (S2 n 128) .f32) (p : FVec Ideal (S2 n 3) .f32) (b : IVec (S1 n) 32) (w : FVec Ideal (S2 131 128) .f32) (q : FVec Ideal (S1 128) .f32)
    (f : Fin n → Fin 128 → EReal) (hx : ∀ r d, x (ix2 r d) = f r d) (hf : ∀ r d, Real? (f r d)) (hp : ∀ i, Real? (p i)) (hb : ∀ i, b i = 0#32)
    (hw : ∀ i, Real? (w i)) (hq : ∀ i, Real? (q i)) (r : Fin n) (d : Fin 128) : layer C u x p (near D T p b) w q (ix2 r d) = lay hn f p w q r d := by
  rw [layer_at C u x p _ w q hn hn' (near_at hn hn' D T p b hb) (fun i => (congrArg x (eq_ix2 i)).trans (hx (i 0) (i 1)) ▸ hf (i 0) (i 1)) hp hw hq]
  unfold lay
  simp only [hx]

end Cert.RefHost
end
-- ==== Proof.RefNet.lean ====
/-
  The reference's layers, read at an index, are the network's.
-/
module

public import proofs.«01_k».proof.Proof.RefHost
public import proofs.«01_k».proof.Proof.Gen.ReferenceIdeal.Read

@[expose] public section

set_option maxRecDepth 16384

noncomputable section

namespace Cert.RefNet

open Idealize.ShloMosaic Cert.Layer Cert.Ops Cert.RefLayer Cert.KHost Cert.RefHost Cert.Net
open Cert.ReferenceIdeal.Read

theorem D0 : DistFacts 10000 := ⟨by decide, by decide, by decide, by decide, by decide, by decide, by decide, by decide, by decide⟩
theorem D1 : DistFacts 2500 := ⟨by decide, by decide, by decide, by decide, by decide, by decide, by decide, by decide, by decide⟩
theorem D2 : DistFacts 625 := ⟨by decide, by decide, by decide, by decide, by decide, by decide, by decide, by decide, by decide⟩
theorem C0 : ConvFacts 10000 := ⟨⟨by decide, by decide⟩, by decide, by decide, by decide, by decide, by decide, by decide, by decide, by decide, by decide, by decide, by decide, by decide⟩
theorem C1 : ConvFacts 2500 := ⟨⟨by decide, by decide⟩, by decide, by decide, by decide, by decide, by decide, by decide, by decide, by decide, by decide, by decide, by decide, by decide⟩
theorem C2 : ConvFacts 625 := ⟨⟨by decide, by decide⟩, by decide, by decide, by decide, by decide, by decide, by decide, by decide, by decide, by decide, by decide, by decide, by decide⟩
theorem T0 : (S2 10000 10000).Slices (fun _ => 0) (S2 10000 16) := by decide
theorem T1 : (S2 2500 2500).Slices (fun _ => 0) (S2 2500 16) := by decide
theorem T2 : (S2 625 625).Slices (fun _ => 0) (S2 625 16) := by decide
theorem K1 : TakeFacts 10000 2500 := ⟨by decide, by decide, by decide, by decide, by decide, by decide, by decide, by decide, by decide, by decide, by decide⟩
theorem K2 : TakeFacts 2500 625 := ⟨by decide, by decide, by decide, by decide, by decide, by decide, by decide, by decide, by decide, by decide, by decide⟩
theorem B0 : BlendFacts 625 2500 := ⟨⟨by decide, by decide⟩, by decide, by decide, by decide, by decide, by decide⟩
theorem B1 : BlendFacts 2500 10000 := ⟨⟨by decide, by decide⟩, by decide, by decide, by decide, by decide, by decide⟩

variable (a : Args)

abbrev y0 := val_main_v57 (F := Ideal) a.x a.p0 a.bt a.We0 a.be0
abbrev b1 := val_main_v71 (F := Ideal) a.bt a.i1
abbrev b2 := val_main_v143 (F := Ideal) a.bt a.i1 a.i2
abbrev y1 := val_main_v129 (F := Ideal) a.x a.p0 a.bt a.i1 a.p1 a.We0 a.be0 a.We1 a.be1
abbrev y2 := val_main_v201 (F := Ideal) a.x a.p0 a.bt a.i1 a.p1 a.i2 a.p2 a.We0 a.be0 a.We1 a.be1 a.We2 a.be2
abbrev u0 := val_main_v213 (F := Ideal) a.x a.p0 a.bt a.i1 a.p1 a.i2 a.p2 a.j0 a.w0 a.We0 a.be0 a.We1 a.be1 a.We2 a.be2
abbrev y3 := val_main_v241 (F := Ideal) a.x a.p0 a.bt a.i1 a.p1 a.i2 a.p2 a.j0 a.w0 a.We0 a.be0 a.We1 a.be1 a.We2 a.be2 a.Wd0 a.bd0
abbrev u1 := val_main_v253 (F := Ideal) a.x a.p0 a.bt a.i1 a.p1 a.i2 a.p2 a.j0 a.w0 a.j1 a.w1 a.We0 a.be0 a.We1 a.be1 a.We2 a.be2 a.Wd0 a.bd0
abbrev y4 := val_main_v281 (F := Ideal) a.x a.p0 a.bt a.i1 a.p1 a.i2 a.p2 a.j0 a.w0 a.j1 a.w1 a.We0 a.be0 a.We1 a.be1 a.We2 a.be2 a.Wd0 a.bd0 a.Wd1 a.bd1

theorem n0 : val_main_indices (F := Ideal) a.p0 a.bt = near D0 T0 a.p0 a.bt := rfl
theorem n1 : val_main_indices_22 (F := Ideal) a.bt a.i1 a.p1 = near D1 T1 a.p1 (b1 a) := rfl
theorem n2 : val_main_indices_41 (F := Ideal) a.bt a.i1 a.i2 a.p2 = near D2 T2 a.p2 (b2 a) := rfl

theorem l0 : y0 a = layer C0 10000#32 a.x a.p0 (val_main_indices (F := Ideal) a.p0 a.bt) a.We0 a.be0 := rfl
theorem t1 : val_main_v64 (F := Ideal) a.x a.p0 a.bt a.i1 a.We0 a.be0 = Host.gather (rowDims K1) (y0 a) (wrap1 K1 10000#32 a.i1) := rfl
theorem l1 : y1 a = layer C1 2500#32 (val_main_v64 (F := Ideal) a.x a.p0 a.bt a.i1 a.We0 a.be0) a.p1 (val_main_indices_22 (F := Ideal) a.bt a.i1 a.p1) a.We1 a.be1 := rfl
theorem t2 : val_main_v136 (F := Ideal) a.x a.p0 a.bt a.i1 a.p1 a.i2 a.We0 a.be0 a.We1 a.be1 = Host.gather (rowDims K2) (y1 a) (wrap1 K2 2500#32 a.i2) := rfl
theorem l2 : y2 a = layer C2 625#32 (val_main_v136 (F := Ideal) a.x a.p0 a.bt a.i1 a.p1 a.i2 a.We0 a.be0 a.We1 a.be1) a.p2
    (val_main_indices_41 (F := Ideal) a.bt a.i1 a.i2 a.p2) a.We2 a.be2 := rfl
theorem s0 : u0 a = blend B0 625#32 (y2 a) (y1 a) a.j0 a.w0 := rfl
theorem l3 : y3 a = layer C1 2500#32 (u0 a) a.p1 (val_main_indices_22 (F := Ideal) a.bt a.i1 a.p1) a.Wd0 a.bd0 := rfl
theorem s1 : u1 a = blend B1 2500#32 (y3 a) (y0 a) a.j1 a.w1 := rfl
theorem l4 : y4 a = layer C0 10000#32 (u1 a) a.p0 (val_main_indices (F := Ideal) a.p0 a.bt) a.Wd1 a.bd1 := rfl

variable {a} (h : a.Ok)
include h

theorem z1 (i) : b1 a i = 0#32 := zeros_at _ _ _ h.bt i
theorem z2 (i) : b2 a i = 0#32 := zeros_at _ _ _ (z1 h) i

theorem v0 (r : Fin 10000) (d : Fin 128) : y0 a (ix2 r d) = e0 a r d := by
  rw [l0, n0]
  exact lay_at C0 D0 T0 _ (by norm_num) (by norm_num) _ _ _ _ _ (x0 a) (fun _ _ => rfl) (fun _ _ => h.x _) h.p0 h.bt h.We0 h.be0 r d

theorem v1 (r : Fin 2500) (d : Fin 128) : y1 a (ix2 r d) = e1 a r d := by
  rw [l1, n1]
  exact lay_at C1 D1 T1 _ (by norm_num) (by norm_num) _ _ _ _ _ (x1 a)
    (fun r d => by rw [t1, rows_at K1 _ _ _ (by norm_num) (by norm_num) h.i1]; exact v0 h _ d) (fun _ _ => real_e0 h _ _) h.p1 (z1 h) h.We1 h.be1 r d

theorem v2 (r : Fin 625) (d : Fin 128) : y2 a (ix2 r d) = e2 a r d := by
  rw [l2, n2]
  exact lay_at C2 D2 T2 _ (by norm_num) (by norm_num) _ _ _ _ _ (x2 a)
    (fun r d => by rw [t2, rows_at K2 _ _ _ (by norm_num) (by norm_num) h.i2]; exact v1 h _ d) (fun _ _ => real_e1 h _ _) h.p2 (z2 h) h.We2 h.be2 r d

theorem v3 (r : Fin 2500) (d : Fin 128) : y3 a (ix2 r d) = d0 a r d := by
  rw [l3, n1]
  exact lay_at C1 D1 T1 _ (by norm_num) (by norm_num) _ _ _ _ _ (m0 a)
    (fun r d => by rw [s0]; exact blend_at B0 _ _ _ _ _ (by norm_num) (by norm_num) h.j0 _ _ (v2 h) (v1 h) r d) (real_m0 h) h.p1 (z1 h) h.Wd0 h.bd0 r d

/-- The reference's result is the network's output. -/
theorem v4 (r : Fin 10000) (d : Fin 128) : y4 a (ix2 r d) = d1 a r d := by
  rw [l4, n0]
  exact lay_at C0 D0 T0 _ (by norm_num) (by norm_num) _ _ _ _ _ (m1 a)
    (fun r d => by rw [s1]; exact blend_at B1 _ _ _ _ _ (by norm_num) (by norm_num) h.j1 _ _ (v3 h) (v0 h) r d) (real_m1 h) h.p0 h.bt h.Wd1 h.bd1 r d

end Cert.RefNet
end
-- ==== Proof.Value.lean ====
/-
  What the precondition says of each word and each float it reads.
-/
module

public import proofs.«01_k».proof.Proof.Net
public import proofs.«01_k».proof.Pre_inputs_in_range
public import proofs.«01_k».proof.Proof.Gen.Pre_inputs_in_range

@[expose] public section

set_option maxRecDepth 16384

noncomputable section

namespace Cert.Value

open Idealize.ShloMosaic Idealize.SL.Sem Cert.Layer Cert.Rows

/-- A magnitude below the infinite word's value is a real number's. -/
theorem real_of_lt (x : EReal)
    (h : FloatOps.cmpf (F := Ideal) (φ := .f32) .olt (FloatOps.hostAbsf (F := Ideal) (φ := .f32) x) (Ideal.ofBits .f32 2139095040#32) = 1#1) : Real? x := by
  have h' : BitVec.ofBool (decide (max x (-x) < Ideal.ofBits .f32 2139095040#32)) = 1#1 := h
  rw [inf_word] at h'
  have hlt : max x (-x) < ⊤ := by
    by_contra hn
    simp [hn] at h'
  have h1 : x ≠ ⊤ := fun e => by simp [e] at hlt
  have h2 : x ≠ ⊥ := fun e => by simp [e] at hlt
  exact ⟨x.toReal, (EReal.coe_toReal h1 h2).symm⟩

theorem zero_of_eq (x : BitVec 32) (h : IntOp.cmpi .eq x 0#32 = 1#1) : x = 0#32 := by
  have h' : BitVec.ofBool (x == 0#32) = 1#1 := h
  by_contra hn
  rw [beq_eq_false_iff_ne.mpr hn] at h'
  exact absurd h' (by decide)

theorem true_of (b : Bool) (h : BitVec.ofBool b = 1#1) : b = true := by
  cases b
  · exact absurd h (by decide)
  · rfl

/-- A signed word at least zero and below `n` names a position below `n`. -/
theorem below (n : Nat) (hn : n < 2 ^ 31) (x : BitVec 32) (h0 : IntOp.cmpi .sge x 0#32 = 1#1) (h1 : IntOp.cmpi .slt x (BitVec.ofNat 32 n) = 1#1) : x.toNat < n := by
  have a0 : BitVec.sle 0#32 x = true := true_of _ h0
  have a1 : BitVec.slt x (BitVec.ofNat 32 n) = true := true_of _ h1
  rw [BitVec.sle_eq_decide, decide_eq_true_eq] at a0
  rw [BitVec.slt_eq_decide, decide_eq_true_eq] at a1
  rw [BitVec.toInt_zero, BitVec.toInt_eq_toNat_cond x] at a0
  rw [BitVec.toInt_eq_toNat_cond x, BitVec.toInt_eq_toNat_cond (BitVec.ofNat 32 n), BitVec.toNat_ofNat, Nat.mod_eq_of_lt (by omega)] at a1
  have := x.isLt
  split at a0 <;> split at a1 <;> (try split at a1) <;> omega

theorem both (a b : BitVec 1) (h : IntOp.andi a b = 1#1) : a = 1#1 ∧ b = 1#1 := by
  have h' : a &&& b = 1#1 := h
  revert h'
  revert a b
  decide

/-- The precondition says: the float arguments are real numbers, the integer ones positions. -/
theorem ok (a : Net.Args) [Cert.Pre_inputs_in_range.Facts]
    (h : let f := Cert.Pre_inputs_in_range.fn (F := Ideal) a.x a.p0 a.bt a.i1 a.p1 a.i2 a.p2 a.j0 a.w0 a.j1 a.w1 a.We0 a.be0 a.We1 a.be1 a.We2 a.be2 a.Wd0 a.bd0 a.Wd1 a.bd1
      f.1 = (fun _ => 1#1)
      ∧ f.2.1 = (fun _ => 1#1)
      ∧ f.2.2.1 = (fun _ => 1#1)
      ∧ f.2.2.2.1 = (fun _ => 1#1)
      ∧ f.2.2.2.2.1 = (fun _ => 1#1)
      ∧ f.2.2.2.2.2.1 = (fun _ => 1#1)
      ∧ f.2.2.2.2.2.2.1 = (fun _ => 1#1)
      ∧ f.2.2.2.2.2.2.2.1 = (fun _ => 1#1)
      ∧ f.2.2.2.2.2.2.2.2 = (fun _ => 1#1)) : a.Ok := by
  obtain ⟨hx, h3, h2, h1, hW, hb, ht, hi, hj⟩ := h
  have s3 := fun i => both _ _ (congrFun h3 i)
  have s2 := fun i => both _ _ (congrFun h2 i)
  have u3 := fun i => both _ _ (s3 i).1
  have u2 := fun i => both _ _ (s2 i).1
  have v3 := fun i => both _ _ (u3 i).1
  have v2 := fun i => both _ _ (u2 i).1
  have W4 := fun i => both _ _ (congrFun hW i)
  have W3 := fun i => both _ _ (W4 i).1
  have W2 := fun i => both _ _ (W3 i).1
  have W1 := fun i => both _ _ (W2 i).1
  have b4 := fun i => both _ _ (congrFun hb i)
  have b3 := fun i => both _ _ (b4 i).1
  have b2 := fun i => both _ _ (b3 i).1
  have b1 := fun i => both _ _ (b2 i).1
  have g1 := fun i => both _ _ (congrFun hi i)
  have g2 := fun i => both _ _ (congrFun hj i)
  exact {
    x := fun i => real_of_lt _ (congrFun hx i)
    p0 := fun i => real_of_lt _ (v3 i).1
    p1 := fun i => real_of_lt _ (v2 i).1
    p2 := fun i => real_of_lt _ (congrFun h1 i)
    w0 := fun i => real_of_lt _ (v2 i).2
    w1 := fun i => real_of_lt _ (v3 i).2
    We0 := fun i => real_of_lt _ (W1 i).1
    be0 := fun i => real_of_lt _ (b1 i).1
    We1 := fun i => real_of_lt _ (W1 i).2
    be1 := fun i => real_of_lt _ (b1 i).2
    We2 := fun i => real_of_lt _ (W2 i).2
    be2 := fun i => real_of_lt _ (b2 i).2
    Wd0 := fun i => real_of_lt _ (W3 i).2
    bd0 := fun i => real_of_lt _ (b3 i).2
    Wd1 := fun i => real_of_lt _ (W4 i).2
    bd1 := fun i => real_of_lt _ (b4 i).2
    bt := fun i => zero_of_eq _ (congrFun ht i)
    i1 := fun i => below 10000 (by norm_num) _ (g1 i).1 (g1 i).2
    i2 := fun i => below 2500 (by norm_num) _ (g2 i).1 (g2 i).2
    j0 := fun i => below 625 (by norm_num) _ (u2 i).2 (s2 i).2
    j1 := fun i => below 2500 (by norm_num) _ (u3 i).2 (s3 i).2 }

end Cert.Value
end
-- ==== Proof.Value1.lean ====
/-
  The precondition read at an index, and the equality of the two programs' results.
-/
module

public import proofs.«01_k».proof.Proof.KNet
public import proofs.«01_k».proof.Proof.RefNet
public import proofs.«01_k».proof.Proof.Value

@[expose] public section

set_option maxRecDepth 16384

noncomputable section

namespace Cert.Value1

open Idealize.ShloMosaic Idealize.SL.Sem Cert.Layer Cert.Rows

/-- The two programs' results agree at every index. -/
theorem same (m : (ℓ : Loc KernelIdeal.nD KernelIdeal.τ KernelIdeal.sig) → Buf (Elt Ideal) ℓ) (ρ : Dev KernelIdeal.nD → PrngReg) (c : Dev KernelIdeal.nD)
    (h : (KNet.A m c).Ok) : RefNet.y4 (KNet.A m c) = KernelIdeal.Gen.W130 m ρ c (Proc.devRef .tc KernelIdeal.main_v117) := by
  funext i
  have hi : i = ix2 (i 0) (i 1) := by
    funext a; match a with | ⟨0, _⟩ => rfl | ⟨1, _⟩ => rfl
  rw [hi]
  exact (RefNet.v4 h (i 0) (i 1)).trans (KNet.result ρ h (i 0) (i 1)).symm

end Cert.Value1
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_in_range
public import proofs.«01_k».proof.Proof.Gen.ReferenceIdeal.Read
public import proofs.«01_k».proof.Proof.Gen.ReferenceIdeal.Run
public import proofs.«01_k».proof.Proof.Run1
public import proofs.«01_k».proof.Proof.Value1
public import Idealize.ShloMosaic.Adequacy
public import Idealize.ShloMosaic.Init

@[expose] public section

noncomputable section

namespace Cert.Proof

open Idealize.ShloMosaic Idealize.SL.Sem Cert.Kernel

/-- The reference leaves its arguments; it declares no semaphore. -/
theorem ref_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The two programs' results are equal. -/
theorem value : Cert.algebraic_KernelIdeal_ReferenceIdeal_pre_inputs_in_range := by
  intro m g m' g' hpre hagree
  refine ⟨fun c => Cert.KernelIdeal.Gen.W130 m g c (Proc.devRef .tc Cert.KernelIdeal.main_v117), ?_, ?_⟩
  · exact (θ_run Cert.KernelIdeal.defs _ _).mono (fun r h c => h c) (Cert.Run1.run (F := Ideal) m g)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8, e9, e10, e11, e12, e13, e14, e15, e16, e17, e18, e19, e20⟩ := hagree c
    refine (Cert.ReferenceIdeal.Read.val_main_v281_eq _).trans ?_
    show Cert.ReferenceIdeal.Read.val_main_v281 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = _
    rw [e0, e1, e2, e3, e4, e5, e6, e7, e8, e9, e10, e11, e12, e13, e14, e15, e16, e17, e18, e19, e20]
    exact Cert.Value1.same m g c (Cert.Value.ok (Cert.KNet.A m c) (hpre c))

theorem claim : Cert.Claim := ⟨Cert.Kernel.Gen.facts, Cert.KernelIdeal.Gen.facts, Cert.ReferenceIdeal.Gen.facts, Cert.Pre_inputs_in_range.Gen.facts,
  fun m g _ => Cert.Kernel.Gen.frame m g, fun m g _ => Cert.KernelIdeal.Gen.frame m g, fun m g _ => Cert.KernelIdeal.Gen.frame m g,
  ref_frame, fun m g _ => ref_frame m g trivial, trivial, value⟩

end Cert.Proof

end
